-- ==== Defs.lean ====
def Pre_QkvKernel (m : (ℓ : Loc Cert.QkvKernel.nD Cert.QkvKernel.τ Cert.QkvKernel.sig) → Buf (Elt Bits) ℓ) : Prop :=
  True

def Pre_QkvKernelIdeal (m : (ℓ : Loc Cert.QkvKernelIdeal.nD Cert.QkvKernelIdeal.τ Cert.QkvKernelIdeal.sig) → Buf (Elt Ideal) ℓ) : Prop :=
  True

def Pre_QkvReferenceIdeal (m : (ℓ : Loc Cert.QkvReferenceIdeal.nD Cert.QkvReferenceIdeal.τ Cert.QkvReferenceIdeal.sig) → Buf (Elt Ideal) ℓ) : Prop :=
  True

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_DxKernel (m : (ℓ : Loc Cert.DxKernel.nD Cert.DxKernel.τ Cert.DxKernel.sig) → Buf (Elt Bits) ℓ) : Prop :=
  True

def Pre_DxKernelIdeal (m : (ℓ : Loc Cert.DxKernelIdeal.nD Cert.DxKernelIdeal.τ Cert.DxKernelIdeal.sig) → Buf (Elt Ideal) ℓ) : Prop :=
  True

def Pre_DxReferenceIdeal (m : (ℓ : Loc Cert.DxReferenceIdeal.nD Cert.DxReferenceIdeal.τ Cert.DxReferenceIdeal.sig) → Buf (Elt Ideal) ℓ) : Prop :=
  True

def Pre_DaKernel (m : (ℓ : Loc Cert.DaKernel.nD Cert.DaKernel.τ Cert.DaKernel.sig) → Buf (Elt Bits) ℓ) : Prop :=
  True

def Pre_DaKernelIdeal (m : (ℓ : Loc Cert.DaKernelIdeal.nD Cert.DaKernelIdeal.τ Cert.DaKernelIdeal.sig) → Buf (Elt Ideal) ℓ) : Prop :=
  True

def quiescent_QkvKernel [hQkvKernel : Cert.QkvKernel.Facts] : Prop :=
  ∀ (m : (ℓ : Loc Cert.QkvKernel.nD Cert.QkvKernel.τ Cert.QkvKernel.sig) → Buf (Elt Bits) ℓ) (g : Dev Cert.QkvKernel.nD → PrngReg), Pre_QkvKernel m →
    θ_run (Cert.QkvKernel.defs (F := Bits)) (onTc (τ := Cert.QkvKernel.τ) (Cert.QkvKernel.main (F := Bits))) ⟨m, fun _ => 0, g⟩ (fun r => (∀ c : Dev Cert.QkvKernel.nD,
      r.2.mem ((c.tc : Thread Cert.QkvKernel.nD Cert.QkvKernel.τ).loc Cert.QkvKernel.main_arg0) = m ((c.tc : Thread Cert.QkvKernel.nD Cert.QkvKernel.τ).loc Cert.QkvKernel.main_arg0)
      ∧ r.2.mem ((c.tc : Thread Cert.QkvKernel.nD Cert.QkvKernel.τ).loc Cert.QkvKernel.main_arg1) = m ((c.tc : Thread Cert.QkvKernel.nD Cert.QkvKernel.τ).loc Cert.QkvKernel.main_arg1)
      ∧ r.2.mem ((c.tc : Thread Cert.QkvKernel.nD Cert.QkvKernel.τ).loc Cert.QkvKernel.main_arg2) = m ((c.tc : Thread Cert.QkvKernel.nD Cert.QkvKernel.τ).loc Cert.QkvKernel.main_arg2)
      ∧ r.2.mem ((c.tc : Thread Cert.QkvKernel.nD Cert.QkvKernel.τ).loc Cert.QkvKernel.main_arg3) = m ((c.tc : Thread Cert.QkvKernel.nD Cert.QkvKernel.τ).loc Cert.QkvKernel.main_arg3)
      ∧ r.2.mem ((c.tc : Thread Cert.QkvKernel.nD Cert.QkvKernel.τ).loc Cert.QkvKernel.main_arg4) = m ((c.tc : Thread Cert.QkvKernel.nD Cert.QkvKernel.τ).loc Cert.QkvKernel.main_arg4))
      ∧ r.2.sem = fun _ => 0)

def quiescent_QkvKernelIdeal [hQkvKernelIdeal : Cert.QkvKernelIdeal.Facts] : Prop :=
  ∀ (m : (ℓ : Loc Cert.QkvKernelIdeal.nD Cert.QkvKernelIdeal.τ Cert.QkvKernelIdeal.sig) → Buf (Elt Ideal) ℓ) (g : Dev Cert.QkvKernelIdeal.nD → PrngReg), Pre_QkvKernelIdeal m →
    θ_run (Cert.QkvKernelIdeal.defs (F := Ideal)) (onTc (τ := Cert.QkvKernelIdeal.τ) (Cert.QkvKernelIdeal.main (F := Ideal))) ⟨m, fun _ => 0, g⟩ (fun r => (∀ c : Dev Cert.QkvKernelIdeal.nD,
      r.2.mem ((c.tc : Thread Cert.QkvKernelIdeal.nD Cert.QkvKernelIdeal.τ).loc Cert.QkvKernelIdeal.main_arg0) = m ((c.tc : Thread Cert.QkvKernelIdeal.nD Cert.QkvKernelIdeal.τ).loc Cert.QkvKernelIdeal.main_arg0)
      ∧ r.2.mem ((c.tc : Thread Cert.QkvKernelIdeal.nD Cert.QkvKernelIdeal.τ).loc Cert.QkvKernelIdeal.main_arg1) = m ((c.tc : Thread Cert.QkvKernelIdeal.nD Cert.QkvKernelIdeal.τ).loc Cert.QkvKernelIdeal.main_arg1)
      ∧ r.2.mem ((c.tc : Thread Cert.QkvKernelIdeal.nD Cert.QkvKernelIdeal.τ).loc Cert.QkvKernelIdeal.main_arg2) = m ((c.tc : Thread Cert.QkvKernelIdeal.nD Cert.QkvKernelIdeal.τ).loc Cert.QkvKernelIdeal.main_arg2)
      ∧ r.2.mem ((c.tc : Thread Cert.QkvKernelIdeal.nD Cert.QkvKernelIdeal.τ).loc Cert.QkvKernelIdeal.main_arg3) = m ((c.tc : Thread Cert.QkvKernelIdeal.nD Cert.QkvKernelIdeal.τ).loc Cert.QkvKernelIdeal.main_arg3)
      ∧ r.2.mem ((c.tc : Thread Cert.QkvKernelIdeal.nD Cert.QkvKernelIdeal.τ).loc Cert.QkvKernelIdeal.main_arg4) = m ((c.tc : Thread Cert.QkvKernelIdeal.nD Cert.QkvKernelIdeal.τ).loc Cert.QkvKernelIdeal.main_arg4))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1)
      ∧ r.2.mem ((c.tc : Thread Cert.QkvReferenceIdeal.nD Cert.QkvReferenceIdeal.τ).loc Cert.QkvReferenceIdeal.main_arg2) = m ((c.tc : Thread Cert.QkvReferenceIdeal.nD Cert.QkvReferenceIdeal.τ).loc Cert.QkvReferenceIdeal.main_arg2)
      ∧ r.2.mem ((c.tc : Thread Cert.QkvReferenceIdeal.nD Cert.QkvReferenceIdeal.τ).loc Cert.QkvReferenceIdeal.main_arg3) = m ((c.tc : Thread Cert.QkvReferenceIdeal.nD Cert.QkvReferenceIdeal.τ).loc Cert.QkvReferenceIdeal.main_arg3)
      ∧ r.2.mem ((c.tc : Thread Cert.QkvReferenceIdeal.nD Cert.QkvReferenceIdeal.τ).loc Cert.QkvReferenceIdeal.main_arg4) = m ((c.tc : Thread Cert.QkvReferenceIdeal.nD Cert.QkvReferenceIdeal.τ).loc Cert.QkvReferenceIdeal.main_arg4))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2)
      ∧ r.2.mem ((c.tc : Thread Cert.OutKernel.nD Cert.OutKernel.τ).loc Cert.OutKernel.main_arg3) = m ((c.tc : Thread Cert.OutKernel.nD Cert.OutKernel.τ).loc Cert.OutKernel.main_arg3))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1)
      ∧ r.2.mem ((c.tc : Thread Cert.InKernel.nD Cert.InKernel.τ).loc Cert.InKernel.main_arg2) = m ((c.tc : Thread Cert.InKernel.nD Cert.InKernel.τ).loc Cert.InKernel.main_arg2)
      ∧ r.2.mem ((c.tc : Thread Cert.InKernel.nD Cert.InKernel.τ).loc Cert.InKernel.main_arg3) = m ((c.tc : Thread Cert.InKernel.nD Cert.InKernel.τ).loc Cert.InKernel.main_arg3)
      ∧ r.2.mem ((c.tc : Thread Cert.InKernel.nD Cert.InKernel.τ).loc Cert.InKernel.main_arg4) = m ((c.tc : Thread Cert.InKernel.nD Cert.InKernel.τ).loc Cert.InKernel.main_arg4))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
      ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
      ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3)
      ∧ r.2.mem ((c.tc : Thread Cert.InReferenceIdeal.nD Cert.InReferenceIdeal.τ).loc Cert.InReferenceIdeal.main_arg4) = m ((c.tc : Thread Cert.InReferenceIdeal.nD Cert.InReferenceIdeal.τ).loc Cert.InReferenceIdeal.main_arg4))
      ∧ r.2.sem = fun _ => 0)

def quiescent_DxKernel [hDxKernel : Cert.DxKernel.Facts] : Prop :=
  ∀ (m : (ℓ : Loc Cert.DxKernel.nD Cert.DxKernel.τ Cert.DxKernel.sig) → Buf (Elt Bits) ℓ) (g : Dev Cert.DxKernel.nD → PrngReg), Pre_DxKernel m →
    θ_run (Cert.DxKernel.defs (F := Bits)) (onTc (τ := Cert.DxKernel.τ) (Cert.DxKernel.main (F := Bits))) ⟨m, fun _ => 0, g⟩ (fun r => (∀ c : Dev Cert.DxKernel.nD,
      r.2.mem ((c.tc : Thread Cert.DxKernel.nD Cert.DxKernel.τ).loc Cert.DxKernel.main_arg0) = m ((c.tc : Thread Cert.DxKernel.nD Cert.DxKernel.τ).loc Cert.DxKernel.main_arg0)
      ∧ r.2.mem ((c.tc : Thread Cert.DxKernel.nD Cert.DxKernel.τ).loc Cert.DxKernel.main_arg1) = m ((c.tc : Thread Cert.DxKernel.nD Cert.DxKernel.τ).loc Cert.DxKernel.main_arg1)
      ∧ r.2.mem ((c.tc : Thread Cert.DxKernel.nD Cert.DxKernel.τ).loc Cert.DxKernel.main_arg2) = m ((c.tc : Thread Cert.DxKernel.nD Cert.DxKernel.τ).loc Cert.DxKernel.main_arg2)
      ∧ r.2.mem ((c.tc : Thread Cert.DxKernel.nD Cert.DxKernel.τ).loc Cert.DxKernel.main_arg3) = m ((c.tc : Thread Cert.DxKernel.nD Cert.DxKernel.τ).loc Cert.DxKernel.main_arg3)
      ∧ r.2.mem ((c.tc : Thread Cert.DxKernel.nD Cert.DxKernel.τ).loc Cert.DxKernel.main_arg4) = m ((c.tc : Thread Cert.DxKernel.nD Cert.DxKernel.τ).loc Cert.DxKernel.main_arg4)
      ∧ r.2.mem ((c.tc : Thread Cert.DxKernel.nD Cert.DxKernel.τ).loc Cert.DxKernel.main_arg5) = m ((c.tc : Thread Cert.DxKernel.nD Cert.DxKernel.τ).loc Cert.DxKernel.main_arg5)
      ∧ r.2.mem ((c.tc : Thread Cert.DxKernel.nD Cert.DxKernel.τ).loc Cert.DxKernel.main_arg6) = m ((c.tc : Thread Cert.DxKernel.nD Cert.DxKernel.τ).loc Cert.DxKernel.main_arg6)
      ∧ r.2.mem ((c.tc : Thread Cert.DxKernel.nD Cert.DxKernel.τ).loc Cert.DxKernel.main_arg7) = m ((c.tc : Thread Cert.DxKernel.nD Cert.DxKernel.τ).loc Cert.DxKernel.main_arg7)
      ∧ r.2.mem ((c.tc : Thread Cert.DxKernel.nD Cert.DxKernel.τ).loc Cert.DxKernel.main_arg8) = m ((c.tc : Thread Cert.DxKernel.nD Cert.DxKernel.τ).loc Cert.DxKernel.main_arg8)
      ∧ r.2.mem ((c.tc : Thread Cert.DxKernel.nD Cert.DxKernel.τ).loc Cert.DxKernel.main_arg9) = m ((c.tc : Thread Cert.DxKernel.nD Cert.DxKernel.τ).loc Cert.DxKernel.main_arg9)
      ∧ r.2.mem ((c.tc : Thread Cert.DxKernel.nD Cert.DxKernel.τ).loc Cert.DxKernel.main_arg10) = m ((c.tc : Thread Cert.DxKernel.nD Cert.DxKernel.τ).loc Cert.DxKernel.main_arg10)
      ∧ r.2.mem ((c.tc : Thread Cert.DxKernel.nD Cert.DxKernel.τ).loc Cert.DxKernel.main_arg11) = m ((c.tc : Thread Cert.DxKernel.nD Cert.DxKernel.τ).loc Cert.DxKernel.main_arg11)
      ∧ r.2.mem ((c.tc : Thread Cert.DxKernel.nD Cert.DxKernel.τ).loc Cert.DxKernel.main_arg12) = m ((c.tc : Thread Cert.DxKernel.nD Cert.DxKernel.τ).loc Cert.DxKernel.main_arg12)
      ∧ r.2.mem ((c.tc : Thread Cert.DxKernel.nD Cert.DxKernel.τ).loc Cert.DxKernel.main_arg13) = m ((c.tc : Thread Cert.DxKernel.nD Cert.DxKernel.τ).loc Cert.DxKernel.main_arg13)
      ∧ r.2.mem ((c.tc : Thread Cert.DxKernel.nD Cert.DxKernel.τ).loc Cert.DxKernel.main_arg14) = m ((c.tc : Thread Cert.DxKernel.nD Cert.DxKernel.τ).loc Cert.DxKernel.main_arg14)
      ∧ r.2.mem ((c.tc : Thread Cert.DxKernel.nD Cert.DxKernel.τ).loc Cert.DxKernel.main_arg15) = m ((c.tc : Thread Cert.DxKernel.nD Cert.DxKernel.τ).loc Cert.DxKernel.main_arg15))
      ∧ r.2.sem = fun _ => 0)

def quiescent_DxKernelIdeal [hDxKernelIdeal : Cert.DxKernelIdeal.Facts] : Prop :=
  ∀ (m : (ℓ : Loc Cert.DxKernelIdeal.nD Cert.DxKernelIdeal.τ Cert.DxKernelIdeal.sig) → Buf (Elt Ideal) ℓ) (g : Dev Cert.DxKernelIdeal.nD → PrngReg), Pre_DxKernelIdeal m →
    θ_run (Cert.DxKernelIdeal.defs (F := Ideal)) (onTc (τ := Cert.DxKernelIdeal.τ) (Cert.DxKernelIdeal.main (F := Ideal))) ⟨m, fun _ => 0, g⟩ (fun r => (∀ c : Dev Cert.DxKernelIdeal.nD,
      r.2.mem ((c.tc : Thread Cert.DxKernelIdeal.nD Cert.DxKernelIdeal.τ).loc Cert.DxKernelIdeal.main_arg0) = m ((c.tc : Thread Cert.DxKernelIdeal.nD Cert.DxKernelIdeal.τ).loc Cert.DxKernelIdeal.main_arg0)
      ∧ r.2.mem ((c.tc : Thread Cert.DxKernelIdeal.nD Cert.DxKernelIdeal.τ).loc Cert.DxKernelIdeal.main_arg1) = m ((c.tc : Thread Cert.DxKernelIdeal.nD Cert.DxKernelIdeal.τ).loc Cert.DxKernelIdeal.main_arg1)
      ∧ r.2.mem ((c.tc : Thread Cert.DxKernelIdeal.nD Cert.DxKernelIdeal.τ).loc Cert.DxKernelIdeal.main_arg2) = m ((c.tc : Thread Cert.DxKernelIdeal.nD Cert.DxKernelIdeal.τ).loc Cert.DxKernelIdeal.main_arg2)
      ∧ r.2.mem ((c.tc : Thread Cert.DxKernelIdeal.nD Cert.DxKernelIdeal.τ).loc Cert.DxKernelIdeal.main_arg3) = m ((c.tc : Thread Cert.DxKernelIdeal.nD Cert.DxKernelIdeal.τ).loc Cert.DxKernelIdeal.main_arg3)
      ∧ r.2.mem ((c.tc : Thread Cert.DxKernelIdeal.nD Cert.DxKernelIdeal.τ).loc Cert.DxKernelIdeal.main_arg4) = m ((c.tc : Thread Cert.DxKernelIdeal.nD Cert.DxKernelIdeal.τ).loc Cert.DxKernelIdeal.main_arg4)
      ∧ r.2.mem ((c.tc : Thread Cert.DxKernelIdeal.nD Cert.DxKernelIdeal.τ).loc Cert.DxKernelIdeal.main_arg5) = m ((c.tc : Thread Cert.DxKernelIdeal.nD Cert.DxKernelIdeal.τ).loc Cert.DxKernelIdeal.main_arg5)
      ∧ r.2.mem ((c.tc : Thread Cert.DxKernelIdeal.nD Cert.DxKernelIdeal.τ).loc Cert.DxKernelIdeal.main_arg6) = m ((c.tc : Thread Cert.DxKernelIdeal.nD Cert.DxKernelIdeal.τ).loc Cert.DxKernelIdeal.main_arg6)
      ∧ r.2.mem ((c.tc : Thread Cert.DxKernelIdeal.nD Cert.DxKernelIdeal.τ).loc Cert.DxKernelIdeal.main_arg7) = m ((c.tc : Thread Cert.DxKernelIdeal.nD Cert.DxKernelIdeal.τ).loc Cert.DxKernelIdeal.main_arg7)
      ∧ r.2.mem ((c.tc : Thread Cert.DxKernelIdeal.nD Cert.DxKernelIdeal.τ).loc Cert.DxKernelIdeal.main_arg8) = m ((c.tc : Thread Cert.DxKernelIdeal.nD Cert.DxKernelIdeal.τ).loc Cert.DxKernelIdeal.main_arg8)
      ∧ r.2.mem ((c.tc : Thread Cert.DxKernelIdeal.nD Cert.DxKernelIdeal.τ).loc Cert.DxKernelIdeal.main_arg9) = m ((c.tc : Thread Cert.DxKernelIdeal.nD Cert.DxKernelIdeal.τ).loc Cert.DxKernelIdeal.main_arg9)
      ∧ r.2.mem ((c.tc : Thread Cert.DxKernelIdeal.nD Cert.DxKernelIdeal.τ).loc Cert.DxKernelIdeal.main_arg10) = m ((c.tc : Thread Cert.DxKernelIdeal.nD Cert.DxKernelIdeal.τ).loc Cert.DxKernelIdeal.main_arg10)
      ∧ r.2.mem ((c.tc : Thread Cert.DxKernelIdeal.nD Cert.DxKernelIdeal.τ).loc Cert.DxKernelIdeal.main_arg11) = m ((c.tc : Thread Cert.DxKernelIdeal.nD Cert.DxKernelIdeal.τ).loc Cert.DxKernelIdeal.main_arg11)
      ∧ r.2.mem ((c.tc : Thread Cert.DxKernelIdeal.nD Cert.DxKernelIdeal.τ).loc Cert.DxKernelIdeal.main_arg12) = m ((c.tc : Thread Cert.DxKernelIdeal.nD Cert.DxKernelIdeal.τ).loc Cert.DxKernelIdeal.main_arg12)
      ∧ r.2.mem ((c.tc : Thread Cert.DxKernelIdeal.nD Cert.DxKernelIdeal.τ).loc Cert.DxKernelIdeal.main_arg13) = m ((c.tc : Thread Cert.DxKernelIdeal.nD Cert.DxKernelIdeal.τ).loc Cert.DxKernelIdeal.main_arg13)
      ∧ r.2.mem ((c.tc : Thread Cert.DxKernelIdeal.nD Cert.DxKernelIdeal.τ).loc Cert.DxKernelIdeal.main_arg14) = m ((c.tc : Thread Cert.DxKernelIdeal.nD Cert.DxKernelIdeal.τ).loc Cert.DxKernelIdeal.main_arg14)
      ∧ r.2.mem ((c.tc : Thread Cert.DxKernelIdeal.nD Cert.DxKernelIdeal.τ).loc Cert.DxKernelIdeal.main_arg15) = m ((c.tc : Thread Cert.DxKernelIdeal.nD Cert.DxKernelIdeal.τ).loc Cert.DxKernelIdeal.main_arg15))
      ∧ r.2.sem = fun _ => 0)

def quiescent_DxReferenceIdeal [hDxReferenceIdeal : Cert.DxReferenceIdeal.Facts] : Prop :=
  ∀ (m : (ℓ : Loc Cert.DxReferenceIdeal.nD Cert.DxReferenceIdeal.τ Cert.DxReferenceIdeal.sig) → Buf (Elt Ideal) ℓ) (g : Dev Cert.DxReferenceIdeal.nD → PrngReg), Pre_DxReferenceIdeal m →
    θ_run (Cert.DxReferenceIdeal.defs (F := Ideal)) (onTc (τ := Cert.DxReferenceIdeal.τ) (Cert.DxReferenceIdeal.main (F := Ideal))) ⟨m, fun _ => 0, g⟩ (fun r => (∀ c : Dev Cert.DxReferenceIdeal.nD,
      r.2.mem ((c.tc : Thread Cert.DxReferenceIdeal.nD Cert.DxReferenceIdeal.τ).loc Cert.DxReferenceIdeal.main_arg0) = m ((c.tc : Thread Cert.DxReferenceIdeal.nD Cert.DxReferenceIdeal.τ).loc Cert.DxReferenceIdeal.main_arg0)
      ∧ r.2.mem ((c.tc : Thread Cert.DxReferenceIdeal.nD Cert.DxReferenceIdeal.τ).loc Cert.DxReferenceIdeal.main_arg1) = m ((c.tc : Thread Cert.DxReferenceIdeal.nD Cert.DxReferenceIdeal.τ).loc Cert.DxReferenceIdeal.main_arg1)
      ∧ r.2.mem ((c.tc : Thread Cert.DxReferenceIdeal.nD Cert.DxReferenceIdeal.τ).loc Cert.DxReferenceIdeal.main_arg2) = m ((c.tc : Thread Cert.DxReferenceIdeal.nD Cert.DxReferenceIdeal.τ).loc Cert.DxReferenceIdeal.main_arg2)
      ∧ r.2.mem ((c.tc : Thread Cert.DxReferenceIdeal.nD Cert.DxReferenceIdeal.τ).loc Cert.DxReferenceIdeal.main_arg3) = m ((c.tc : Thread Cert.DxReferenceIdeal.nD Cert.DxReferenceIdeal.τ).loc Cert.DxReferenceIdeal.main_arg3)
      ∧ r.2.mem ((c.tc : Thread Cert.DxReferenceIdeal.nD Cert.DxReferenceIdeal.τ).loc Cert.DxReferenceIdeal.main_arg4) = m ((c.tc : Thread Cert.DxReferenceIdeal.nD Cert.DxReferenceIdeal.τ).loc Cert.DxReferenceIdeal.main_arg4)
      ∧ r.2.mem ((c.tc : Thread Cert.DxReferenceIdeal.nD Cert.DxReferenceIdeal.τ).loc Cert.DxReferenceIdeal.main_arg5) = m ((c.tc : Thread Cert.DxReferenceIdeal.nD Cert.DxReferenceIdeal.τ).loc Cert.DxReferenceIdeal.main_arg5)
      ∧ r.2.mem ((c.tc : Thread Cert.DxReferenceIdeal.nD Cert.DxReferenceIdeal.τ).loc Cert.DxReferenceIdeal.main_arg6) = m ((c.tc : Thread Cert.DxReferenceIdeal.nD Cert.DxReferenceIdeal.τ).loc Cert.DxReferenceIdeal.main_arg6)
      ∧ r.2.mem ((c.tc : Thread Cert.DxReferenceIdeal.nD Cert.DxReferenceIdeal.τ).loc Cert.DxReferenceIdeal.main_arg7) = m ((c.tc : Thread Cert.DxReferenceIdeal.nD Cert.DxReferenceIdeal.τ).loc Cert.DxReferenceIdeal.main_arg7)
      ∧ r.2.mem ((c.tc : Thread Cert.DxReferenceIdeal.nD Cert.DxReferenceIdeal.τ).loc Cert.DxReferenceIdeal.main_arg8) = m ((c.tc : Thread Cert.DxReferenceIdeal.nD Cert.DxReferenceIdeal.τ).loc Cert.DxReferenceIdeal.main_arg8)
      ∧ r.2.mem ((c.tc : Thread Cert.DxReferenceIdeal.nD Cert.DxReferenceIdeal.τ).loc Cert.DxReferenceIdeal.main_arg9) = m ((c.tc : Thread Cert.DxReferenceIdeal.nD Cert.DxReferenceIdeal.τ).loc Cert.DxReferenceIdeal.main_arg9)
      ∧ r.2.mem ((c.tc : Thread Cert.DxReferenceIdeal.nD Cert.DxReferenceIdeal.τ).loc Cert.DxReferenceIdeal.main_arg10) = m ((c.tc : Thread Cert.DxReferenceIdeal.nD Cert.DxReferenceIdeal.τ).loc Cert.DxReferenceIdeal.main_arg10)
      ∧ r.2.mem ((c.tc : Thread Cert.DxReferenceIdeal.nD Cert.DxReferenceIdeal.τ).loc Cert.DxReferenceIdeal.main_arg11) = m ((c.tc : Thread Cert.DxReferenceIdeal.nD Cert.DxReferenceIdeal.τ).loc Cert.DxReferenceIdeal.main_arg11)
      ∧ r.2.mem ((c.tc : Thread Cert.DxReferenceIdeal.nD Cert.DxReferenceIdeal.τ).loc Cert.DxReferenceIdeal.main_arg12) = m ((c.tc : Thread Cert.DxReferenceIdeal.nD Cert.DxReferenceIdeal.τ).loc Cert.DxReferenceIdeal.main_arg12)
      ∧ r.2.mem ((c.tc : Thread Cert.DxReferenceIdeal.nD Cert.DxReferenceIdeal.τ).loc Cert.DxReferenceIdeal.main_arg13) = m ((c.tc : Thread Cert.DxReferenceIdeal.nD Cert.DxReferenceIdeal.τ).loc Cert.DxReferenceIdeal.main_arg13)
      ∧ r.2.mem ((c.tc : Thread Cert.DxReferenceIdeal.nD Cert.DxReferenceIdeal.τ).loc Cert.DxReferenceIdeal.main_arg14) = m ((c.tc : Thread Cert.DxReferenceIdeal.nD Cert.DxReferenceIdeal.τ).loc Cert.DxReferenceIdeal.main_arg14)
      ∧ r.2.mem ((c.tc : Thread Cert.DxReferenceIdeal.nD Cert.DxReferenceIdeal.τ).loc Cert.DxReferenceIdeal.main_arg15) = m ((c.tc : Thread Cert.DxReferenceIdeal.nD Cert.DxReferenceIdeal.τ).loc Cert.DxReferenceIdeal.main_arg15))
      ∧ r.2.sem = fun _ => 0)

def quiescent_DaKernel [hDaKernel : Cert.DaKernel.Facts] : Prop :=
  ∀ (m : (ℓ : Loc Cert.DaKernel.nD Cert.DaKernel.τ Cert.DaKernel.sig) → Buf (Elt Bits) ℓ) (g : Dev Cert.DaKernel.nD → PrngReg), Pre_DaKernel m →
    θ_run (Cert.DaKernel.defs (F := Bits)) (onTc (τ := Cert.DaKernel.τ) (Cert.DaKernel.main (F := Bits))) ⟨m, fun _ => 0, g⟩ (fun r => (∀ c : Dev Cert.DaKernel.nD,
      r.2.mem ((c.tc : Thread Cert.DaKernel.nD Cert.DaKernel.τ).loc Cert.DaKernel.main_arg0) = m ((c.tc : Thread Cert.DaKernel.nD Cert.DaKernel.τ).loc Cert.DaKernel.main_arg0)
      ∧ r.2.mem ((c.tc : Thread Cert.DaKernel.nD Cert.DaKernel.τ).loc Cert.DaKernel.main_arg1) = m ((c.tc : Thread Cert.DaKernel.nD Cert.DaKernel.τ).loc Cert.DaKernel.main_arg1)
      ∧ r.2.mem ((c.tc : Thread Cert.DaKernel.nD Cert.DaKernel.τ).loc Cert.DaKernel.main_arg2) = m ((c.tc : Thread Cert.DaKernel.nD Cert.DaKernel.τ).loc Cert.DaKernel.main_arg2)
      ∧ r.2.mem ((c.tc : Thread Cert.DaKernel.nD Cert.DaKernel.τ).loc Cert.DaKernel.main_arg3) = m ((c.tc : Thread Cert.DaKernel.nD Cert.DaKernel.τ).loc Cert.DaKernel.main_arg3)
      ∧ r.2.mem ((c.tc : Thread Cert.DaKernel.nD Cert.DaKernel.τ).loc Cert.DaKernel.main_arg4) = m ((c.tc : Thread Cert.DaKernel.nD Cert.DaKernel.τ).loc Cert.DaKernel.main_arg4)
      ∧ r.2.mem ((c.tc : Thread Cert.DaKernel.nD Cert.DaKernel.τ).loc Cert.DaKernel.main_arg5) = m ((c.tc : Thread Cert.DaKernel.nD Cert.DaKernel.τ).loc Cert.DaKernel.main_arg5)
      ∧ r.2.mem ((c.tc : Thread Cert.DaKernel.nD Cert.DaKernel.τ).loc Cert.DaKernel.main_arg6) = m ((c.tc : Thread Cert.DaKernel.nD Cert.DaKernel.τ).loc Cert.DaKernel.main_arg6)
      ∧ r.2.mem ((c.tc : Thread Cert.DaKernel.nD Cert.DaKernel.τ).loc Cert.DaKernel.main_arg7) = m ((c.tc : Thread Cert.DaKernel.nD Cert.DaKernel.τ).loc Cert.DaKernel.main_arg7)
      ∧ r.2.mem ((c.tc : Thread Cert.DaKernel.nD Cert.DaKernel.τ).loc Cert.DaKernel.main_arg8) = m ((c.tc : Thread Cert.DaKernel.nD Cert.DaKernel.τ).loc Cert.DaKernel.main_arg8))
      ∧ r.2.sem = fun _ => 0)

def quiescent_DaKernelIdeal [hDaKernelIdeal : Cert.DaKernelIdeal.Facts] : Prop :=
  ∀ (m : (ℓ : Loc Cert.DaKernelIdeal.nD Cert.DaKernelIdeal.τ Cert.DaKernelIdeal.sig) → Buf (Elt Ideal) ℓ) (g : Dev Cert.DaKernelIdeal.nD → PrngReg), Pre_DaKernelIdeal m →
    θ_run (Cert.DaKernelIdeal.defs (F := Ideal)) (onTc (τ := Cert.DaKernelIdeal.τ) (Cert.DaKernelIdeal.main (F := Ideal))) ⟨m, fun _ => 0, g⟩ (fun r => (∀ c : Dev Cert.DaKernelIdeal.nD,
      r.2.mem ((c.tc : Thread Cert.DaKernelIdeal.nD Cert.DaKernelIdeal.τ).loc Cert.DaKernelIdeal.main_arg0) = m ((c.tc : Thread Cert.DaKernelIdeal.nD Cert.DaKernelIdeal.τ).loc Cert.DaKernelIdeal.main_arg0)
      ∧ r.2.mem ((c.tc : Thread Cert.DaKernelIdeal.nD Cert.DaKernelIdeal.τ).loc Cert.DaKernelIdeal.main_arg1) = m ((c.tc : Thread Cert.DaKernelIdeal.nD Cert.DaKernelIdeal.τ).loc Cert.DaKernelIdeal.main_arg1)
      ∧ r.2.mem ((c.tc : Thread Cert.DaKernelIdeal.nD Cert.DaKernelIdeal.τ).loc Cert.DaKernelIdeal.main_arg2) = m ((c.tc : Thread Cert.DaKernelIdeal.nD Cert.DaKernelIdeal.τ).loc Cert.DaKernelIdeal.main_arg2)
      ∧ r.2.mem ((c.tc : Thread Cert.DaKernelIdeal.nD Cert.DaKernelIdeal.τ).loc Cert.DaKernelIdeal.main_arg3) = m ((c.tc : Thread Cert.DaKernelIdeal.nD Cert.DaKernelIdeal.τ).loc Cert.DaKernelIdeal.main_arg3)
      ∧ r.2.mem ((c.tc : Thread Cert.DaKernelIdeal.nD Cert.DaKernelIdeal.τ).loc Cert.DaKernelIdeal.main_arg4) = m ((c.tc : Thread Cert.DaKernelIdeal.nD Cert.DaKernelIdeal.τ).loc Cert.DaKernelIdeal.main_arg4)
      ∧ r.2.mem ((c.tc : Thread Cert.DaKernelIdeal.nD Cert.DaKernelIdeal.τ).loc Cert.DaKernelIdeal.main_arg5) = m ((c.tc : Thread Cert.DaKernelIdeal.nD Cert.DaKernelIdeal.τ).loc Cert.DaKernelIdeal.main_arg5)
      ∧ r.2.mem ((c.tc : Thread Cert.DaKernelIdeal.nD Cert.DaKernelIdeal.τ).loc Cert.DaKernelIdeal.main_arg6) = m ((c.tc : Thread Cert.DaKernelIdeal.nD Cert.DaKernelIdeal.τ).loc Cert.DaKernelIdeal.main_arg6)
      ∧ r.2.mem ((c.tc : Thread Cert.DaKernelIdeal.nD Cert.DaKernelIdeal.τ).loc Cert.DaKernelIdeal.main_arg7) = m ((c.tc : Thread Cert.DaKernelIdeal.nD Cert.DaKernelIdeal.τ).loc Cert.DaKernelIdeal.main_arg7)
      ∧ r.2.mem ((c.tc : Thread Cert.DaKernelIdeal.nD Cert.DaKernelIdeal.τ).loc Cert.DaKernelIdeal.main_arg8) = m ((c.tc : Thread Cert.DaKernelIdeal.nD Cert.DaKernelIdeal.τ).loc Cert.DaKernelIdeal.main_arg8))
      ∧ r.2.sem = fun _ => 0)

def preserves_QkvKernel_QkvKernelIdeal : Prop :=
  True

def algebraic_QkvKernelIdeal_QkvReferenceIdeal [hQkvKernelIdeal : Cert.QkvKernelIdeal.Facts] [hQkvReferenceIdeal : Cert.QkvReferenceIdeal.Facts] : Prop :=
  ∀ (m : (ℓ : Loc Cert.QkvKernelIdeal.nD Cert.QkvKernelIdeal.τ Cert.QkvKernelIdeal.sig) → Buf (Elt Ideal) ℓ) (g : Dev Cert.QkvKernelIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvKernelIdeal m →
    (∀ c : Dev Cert.QkvKernelIdeal.nD,
      m' ((c.tc : Thread Cert.QkvReferenceIdeal.nD Cert.QkvReferenceIdeal.τ).loc Cert.QkvReferenceIdeal.main_arg0) = m ((c.tc : Thread Cert.QkvKernelIdeal.nD Cert.QkvKernelIdeal.τ).loc Cert.QkvKernelIdeal.main_arg0)
      ∧ m' ((c.tc : Thread Cert.QkvReferenceIdeal.nD Cert.QkvReferenceIdeal.τ).loc Cert.QkvReferenceIdeal.main_arg1) = m ((c.tc : Thread Cert.QkvKernelIdeal.nD Cert.QkvKernelIdeal.τ).loc Cert.QkvKernelIdeal.main_arg1)
      ∧ m' ((c.tc : Thread Cert.QkvReferenceIdeal.nD Cert.QkvReferenceIdeal.τ).loc Cert.QkvReferenceIdeal.main_arg2) = m ((c.tc : Thread Cert.QkvKernelIdeal.nD Cert.QkvKernelIdeal.τ).loc Cert.QkvKernelIdeal.main_arg2)
      ∧ m' ((c.tc : Thread Cert.QkvReferenceIdeal.nD Cert.QkvReferenceIdeal.τ).loc Cert.QkvReferenceIdeal.main_arg3) = m ((c.tc : Thread Cert.QkvKernelIdeal.nD Cert.QkvKernelIdeal.τ).loc Cert.QkvKernelIdeal.main_arg3)
      ∧ m' ((c.tc : Thread Cert.QkvReferenceIdeal.nD Cert.QkvReferenceIdeal.τ).loc Cert.QkvReferenceIdeal.main_arg4) = m ((c.tc : Thread Cert.QkvKernelIdeal.nD Cert.QkvKernelIdeal.τ).loc Cert.QkvKernelIdeal.main_arg4)) →
    ∃ (v0 : (c : Dev Cert.QkvKernelIdeal.nD) → Buf (Elt Ideal) ((c.tc : Thread Cert.QkvKernelIdeal.nD Cert.QkvKernelIdeal.τ).loc Cert.QkvKernelIdeal.main_v5)),
      θ_run (Cert.QkvKernelIdeal.defs (F := Ideal)) (onTc (τ := Cert.QkvKernelIdeal.τ) (Cert.QkvKernelIdeal.main (F := Ideal))) ⟨m, fun _ => 0, g⟩ (fun r => ∀ c : Dev Cert.QkvKernelIdeal.nD,
          r.2.mem ((c.tc : Thread Cert.QkvKernelIdeal.nD Cert.QkvKernelIdeal.τ).loc Cert.QkvKernelIdeal.main_v5) = v0 c
          ∧ r.2.mem ((c.tc : Thread Cert.QkvKernelIdeal.nD Cert.QkvKernelIdeal.τ).loc Cert.QkvKernelIdeal.main_arg0) = m ((c.tc : Thread Cert.QkvKernelIdeal.nD Cert.QkvKernelIdeal.τ).loc Cert.QkvKernelIdeal.main_arg0)
          ∧ r.2.mem ((c.tc : Thread Cert.QkvKernelIdeal.nD Cert.QkvKernelIdeal.τ).loc Cert.QkvKernelIdeal.main_arg1) = m ((c.tc : Thread Cert.QkvKernelIdeal.nD Cert.QkvKernelIdeal.τ).loc Cert.QkvKernelIdeal.main_arg1)
          ∧ r.2.mem ((c.tc : Thread Cert.QkvKernelIdeal.nD Cert.QkvKernelIdeal.τ).loc Cert.QkvKernelIdeal.main_arg2) = m ((c.tc : Thread Cert.QkvKernelIdeal.nD Cert.QkvKernelIdeal.τ).loc Cert.QkvKernelIdeal.main_arg2)
          ∧ r.2.mem ((c.tc : Thread Cert.QkvKernelIdeal.nD Cert.QkvKernelIdeal.τ).loc Cert.QkvKernelIdeal.main_arg3) = m ((c.tc : Thread Cert.QkvKernelIdeal.nD Cert.QkvKernelIdeal.τ).loc Cert.QkvKernelIdeal.main_arg3)
          ∧ r.2.mem ((c.tc : Thread Cert.QkvKernelIdeal.nD Cert.QkvKernelIdeal.τ).loc Cert.QkvKernelIdeal.main_arg4) = m ((c.tc : Thread Cert.QkvKernelIdeal.nD Cert.QkvKernelIdeal.τ).loc Cert.QkvKernelIdeal.main_arg4))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v0) = v0 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1)
          ∧ r.2.mem ((c.tc : Thread Cert.QkvReferenceIdeal.nD Cert.QkvReferenceIdeal.τ).loc Cert.QkvReferenceIdeal.main_arg2) = m' ((c.tc : Thread Cert.QkvReferenceIdeal.nD Cert.QkvReferenceIdeal.τ).loc Cert.QkvReferenceIdeal.main_arg2)
          ∧ r.2.mem ((c.tc : Thread Cert.QkvReferenceIdeal.nD Cert.QkvReferenceIdeal.τ).loc Cert.QkvReferenceIdeal.main_arg3) = m' ((c.tc : Thread Cert.QkvReferenceIdeal.nD Cert.QkvReferenceIdeal.τ).loc Cert.QkvReferenceIdeal.main_arg3)
          ∧ r.2.mem ((c.tc : Thread Cert.QkvReferenceIdeal.nD Cert.QkvReferenceIdeal.τ).loc Cert.QkvReferenceIdeal.main_arg4) = m' ((c.tc : Thread Cert.QkvReferenceIdeal.nD Cert.QkvReferenceIdeal.τ).loc Cert.QkvReferenceIdeal.main_arg4))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)
      ∧ m' ((c.tc : Thread Cert.OutReferenceIdeal.nD Cert.OutReferenceIdeal.τ).loc Cert.OutReferenceIdeal.main_arg3) = m ((c.tc : Thread Cert.OutKernelIdeal.nD Cert.OutKernelIdeal.τ).loc Cert.OutKernelIdeal.main_arg3)) →
    ∃ (v0 : (c : Dev Cert.OutKernelIdeal.nD) → Buf (Elt Ideal) ((c.tc : Thread Cert.OutKernelIdeal.nD Cert.OutKernelIdeal.τ).loc Cert.OutKernelIdeal.main_v5)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v5) = v0 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
          ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v0) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3))

def preserves_InKernel_InKernelIdeal : Prop :=
  True

def algebraic_InKernelIdeal_InReferenceIdeal [hInKernelIdeal : Cert.InKernelIdeal.Facts] [hInReferenceIdeal : Cert.InReferenceIdeal.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)
      ∧ m' ((c.tc : Thread Cert.InReferenceIdeal.nD Cert.InReferenceIdeal.τ).loc Cert.InReferenceIdeal.main_arg2) = m ((c.tc : Thread Cert.InKernelIdeal.nD Cert.InKernelIdeal.τ).loc Cert.InKernelIdeal.main_arg2)
      ∧ m' ((c.tc : Thread Cert.InReferenceIdeal.nD Cert.InReferenceIdeal.τ).loc Cert.InReferenceIdeal.main_arg3) = m ((c.tc : Thread Cert.InKernelIdeal.nD Cert.InKernelIdeal.τ).loc Cert.InKernelIdeal.main_arg3)
      ∧ m' ((c.tc : Thread Cert.InReferenceIdeal.nD Cert.InReferenceIdeal.τ).loc Cert.InReferenceIdeal.main_arg4) = m ((c.tc : Thread Cert.InKernelIdeal.nD Cert.InKernelIdeal.τ).loc Cert.InKernelIdeal.main_arg4)) →
    ∃ (v0 : (c : Dev Cert.InKernelIdeal.nD) → Buf (Elt Ideal) ((c.tc : Thread Cert.InKernelIdeal.nD Cert.InKernelIdeal.τ).loc Cert.InKernelIdeal.main_v5)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v5) = v0 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
          ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
          ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
          ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v0) = v0 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2)
          ∧ r.2.mem ((c.tc : Thread Cert.InReferenceIdeal.nD Cert.InReferenceIdeal.τ).loc Cert.InReferenceIdeal.main_arg3) = m' ((c.tc : Thread Cert.InReferenceIdeal.nD Cert.InReferenceIdeal.τ).loc Cert.InReferenceIdeal.main_arg3)
          ∧ r.2.mem ((c.tc : Thread Cert.InReferenceIdeal.nD Cert.InReferenceIdeal.τ).loc Cert.InReferenceIdeal.main_arg4) = m' ((c.tc : Thread Cert.InReferenceIdeal.nD Cert.InReferenceIdeal.τ).loc Cert.InReferenceIdeal.main_arg4))

def preserves_DxKernel_DxKernelIdeal : Prop :=
  True

def algebraic_DxKernelIdeal_DxReferenceIdeal [hDxKernelIdeal : Cert.DxKernelIdeal.Facts] [hDxReferenceIdeal : Cert.DxReferenceIdeal.Facts] : Prop :=
  ∀ (m : (ℓ : Loc Cert.DxKernelIdeal.nD Cert.DxKernelIdeal.τ Cert.DxKernelIdeal.sig) → Buf (Elt Ideal) ℓ) (g : Dev Cert.DxKernelIdeal.nD → PrngReg)
    (m' : (ℓ : Loc Cert.DxReferenceIdeal.nD Cert.DxReferenceIdeal.τ Cert.DxReferenceIdeal.sig) → Buf (Elt Ideal) ℓ) (g' : Dev Cert.DxReferenceIdeal.nD → PrngReg), Pre_DxKernelIdeal m →
    (∀ c : Dev Cert.DxKernelIdeal.nD,
      m' ((c.tc : Thread Cert.DxReferenceIdeal.nD Cert.DxReferenceIdeal.τ).loc Cert.DxReferenceIdeal.main_arg0) = m ((c.tc : Thread Cert.DxKernelIdeal.nD Cert.DxKernelIdeal.τ).loc Cert.DxKernelIdeal.main_arg0)
      ∧ m' ((c.tc : Thread Cert.DxReferenceIdeal.nD Cert.DxReferenceIdeal.τ).loc Cert.DxReferenceIdeal.main_arg1) = m ((c.tc : Thread Cert.DxKernelIdeal.nD Cert.DxKernelIdeal.τ).loc Cert.DxKernelIdeal.main_arg1)
      ∧ m' ((c.tc : Thread Cert.DxReferenceIdeal.nD Cert.DxReferenceIdeal.τ).loc Cert.DxReferenceIdeal.main_arg2) = m ((c.tc : Thread Cert.DxKernelIdeal.nD Cert.DxKernelIdeal.τ).loc Cert.DxKernelIdeal.main_arg2)
      ∧ m' ((c.tc : Thread Cert.DxReferenceIdeal.nD Cert.DxReferenceIdeal.τ).loc Cert.DxReferenceIdeal.main_arg3) = m ((c.tc : Thread Cert.DxKernelIdeal.nD Cert.DxKernelIdeal.τ).loc Cert.DxKernelIdeal.main_arg3)
      ∧ m' ((c.tc : Thread Cert.DxReferenceIdeal.nD Cert.DxReferenceIdeal.τ).loc Cert.DxReferenceIdeal.main_arg4) = m ((c.tc : Thread Cert.DxKernelIdeal.nD Cert.DxKernelIdeal.τ).loc Cert.DxKernelIdeal.main_arg4)
      ∧ m' ((c.tc : Thread Cert.DxReferenceIdeal.nD Cert.DxReferenceIdeal.τ).loc Cert.DxReferenceIdeal.main_arg5) = m ((c.tc : Thread Cert.DxKernelIdeal.nD Cert.DxKernelIdeal.τ).loc Cert.DxKernelIdeal.main_arg5)
      ∧ m' ((c.tc : Thread Cert.DxReferenceIdeal.nD Cert.DxReferenceIdeal.τ).loc Cert.DxReferenceIdeal.main_arg6) = m ((c.tc : Thread Cert.DxKernelIdeal.nD Cert.DxKernelIdeal.τ).loc Cert.DxKernelIdeal.main_arg6)
      ∧ m' ((c.tc : Thread Cert.DxReferenceIdeal.nD Cert.DxReferenceIdeal.τ).loc Cert.DxReferenceIdeal.main_arg7) = m ((c.tc : Thread Cert.DxKernelIdeal.nD Cert.DxKernelIdeal.τ).loc Cert.DxKernelIdeal.main_arg7)
      ∧ m' ((c.tc : Thread Cert.DxReferenceIdeal.nD Cert.DxReferenceIdeal.τ).loc Cert.DxReferenceIdeal.main_arg8) = m ((c.tc : Thread Cert.DxKernelIdeal.nD Cert.DxKernelIdeal.τ).loc Cert.DxKernelIdeal.main_arg8)
      ∧ m' ((c.tc : Thread Cert.DxReferenceIdeal.nD Cert.DxReferenceIdeal.τ).loc Cert.DxReferenceIdeal.main_arg9) = m ((c.tc : Thread Cert.DxKernelIdeal.nD Cert.DxKernelIdeal.τ).loc Cert.DxKernelIdeal.main_arg9)
      ∧ m' ((c.tc : Thread Cert.DxReferenceIdeal.nD Cert.DxReferenceIdeal.τ).loc Cert.DxReferenceIdeal.main_arg10) = m ((c.tc : Thread Cert.DxKernelIdeal.nD Cert.DxKernelIdeal.τ).loc Cert.DxKernelIdeal.main_arg10)
      ∧ m' ((c.tc : Thread Cert.DxReferenceIdeal.nD Cert.DxReferenceIdeal.τ).loc Cert.DxReferenceIdeal.main_arg11) = m ((c.tc : Thread Cert.DxKernelIdeal.nD Cert.DxKernelIdeal.τ).loc Cert.DxKernelIdeal.main_arg11)
      ∧ m' ((c.tc : Thread Cert.DxReferenceIdeal.nD Cert.DxReferenceIdeal.τ).loc Cert.DxReferenceIdeal.main_arg12) = m ((c.tc : Thread Cert.DxKernelIdeal.nD Cert.DxKernelIdeal.τ).loc Cert.DxKernelIdeal.main_arg12)
      ∧ m' ((c.tc : Thread Cert.DxReferenceIdeal.nD Cert.DxReferenceIdeal.τ).loc Cert.DxReferenceIdeal.main_arg13) = m ((c.tc : Thread Cert.DxKernelIdeal.nD Cert.DxKernelIdeal.τ).loc Cert.DxKernelIdeal.main_arg13)
      ∧ m' ((c.tc : Thread Cert.DxReferenceIdeal.nD Cert.DxReferenceIdeal.τ).loc Cert.DxReferenceIdeal.main_arg14) = m ((c.tc : Thread Cert.DxKernelIdeal.nD Cert.DxKernelIdeal.τ).loc Cert.DxKernelIdeal.main_arg14)
      ∧ m' ((c.tc : Thread Cert.DxReferenceIdeal.nD Cert.DxReferenceIdeal.τ).loc Cert.DxReferenceIdeal.main_arg15) = m ((c.tc : Thread Cert.DxKernelIdeal.nD Cert.DxKernelIdeal.τ).loc Cert.DxKernelIdeal.main_arg15)) →
    ∃ (v0 : (c : Dev Cert.DxKernelIdeal.nD) → Buf (Elt Ideal) ((c.tc : Thread Cert.DxKernelIdeal.nD Cert.DxKernelIdeal.τ).loc Cert.DxKernelIdeal.main_v17_0)) (v1 : (c : Dev Cert.DxKernelIdeal.nD) → Buf (Elt Ideal) ((c.tc : Thread Cert.DxKernelIdeal.nD Cert.DxKernelIdeal.τ).loc Cert.DxKernelIdeal.main_v17_1)) (v2 : (c : Dev Cert.DxKernelIdeal.nD) → Buf (Elt Ideal) ((c.tc : Thread Cert.DxKernelIdeal.nD Cert.DxKernelIdeal.τ).loc Cert.DxKernelIdeal.main_v17_2)),
      θ_run (Cert.DxKernelIdeal.defs (F := Ideal)) (onTc (τ := Cert.DxKernelIdeal.τ) (Cert.DxKernelIdeal.main (F := Ideal))) ⟨m, fun _ => 0, g⟩ (fun r => ∀ c : Dev Cert.DxKernelIdeal.nD,
          r.2.mem ((c.tc : Thread Cert.DxKernelIdeal.nD Cert.DxKernelIdeal.τ).loc Cert.DxKernelIdeal.main_v17_0) = v0 c
          ∧ r.2.mem ((c.tc : Thread Cert.DxKernelIdeal.nD Cert.DxKernelIdeal.τ).loc Cert.DxKernelIdeal.main_v17_1) = v1 c
          ∧ r.2.mem ((c.tc : Thread Cert.DxKernelIdeal.nD Cert.DxKernelIdeal.τ).loc Cert.DxKernelIdeal.main_v17_2) = v2 c
          ∧ r.2.mem ((c.tc : Thread Cert.DxKernelIdeal.nD Cert.DxKernelIdeal.τ).loc Cert.DxKernelIdeal.main_arg0) = m ((c.tc : Thread Cert.DxKernelIdeal.nD Cert.DxKernelIdeal.τ).loc Cert.DxKernelIdeal.main_arg0)
          ∧ r.2.mem ((c.tc : Thread Cert.DxKernelIdeal.nD Cert.DxKernelIdeal.τ).loc Cert.DxKernelIdeal.main_arg1) = m ((c.tc : Thread Cert.DxKernelIdeal.nD Cert.DxKernelIdeal.τ).loc Cert.DxKernelIdeal.main_arg1)
          ∧ r.2.mem ((c.tc : Thread Cert.DxKernelIdeal.nD Cert.DxKernelIdeal.τ).loc Cert.DxKernelIdeal.main_arg2) = m ((c.tc : Thread Cert.DxKernelIdeal.nD Cert.DxKernelIdeal.τ).loc Cert.DxKernelIdeal.main_arg2)
          ∧ r.2.mem ((c.tc : Thread Cert.DxKernelIdeal.nD Cert.DxKernelIdeal.τ).loc Cert.DxKernelIdeal.main_arg3) = m ((c.tc : Thread Cert.DxKernelIdeal.nD Cert.DxKernelIdeal.τ).loc Cert.DxKernelIdeal.main_arg3)
          ∧ r.2.mem ((c.tc : Thread Cert.DxKernelIdeal.nD Cert.DxKernelIdeal.τ).loc Cert.DxKernelIdeal.main_arg4) = m ((c.tc : Thread Cert.DxKernelIdeal.nD Cert.DxKernelIdeal.τ).loc Cert.DxKernelIdeal.main_arg4)
          ∧ r.2.mem ((c.tc : Thread Cert.DxKernelIdeal.nD Cert.DxKernelIdeal.τ).loc Cert.DxKernelIdeal.main_arg5) = m ((c.tc : Thread Cert.DxKernelIdeal.nD Cert.DxKernelIdeal.τ).loc Cert.DxKernelIdeal.main_arg5)
          ∧ r.2.mem ((c.tc : Thread Cert.DxKernelIdeal.nD Cert.DxKernelIdeal.τ).loc Cert.DxKernelIdeal.main_arg6) = m ((c.tc : Thread Cert.DxKernelIdeal.nD Cert.DxKernelIdeal.τ).loc Cert.DxKernelIdeal.main_arg6)
          ∧ r.2.mem ((c.tc : Thread Cert.DxKernelIdeal.nD Cert.DxKernelIdeal.τ).loc Cert.DxKernelIdeal.main_arg7) = m ((c.tc : Thread Cert.DxKernelIdeal.nD Cert.DxKernelIdeal.τ).loc Cert.DxKernelIdeal.main_arg7)
          ∧ r.2.mem ((c.tc : Thread Cert.DxKernelIdeal.nD Cert.DxKernelIdeal.τ).loc Cert.DxKernelIdeal.main_arg8) = m ((c.tc : Thread Cert.DxKernelIdeal.nD Cert.DxKernelIdeal.τ).loc Cert.DxKernelIdeal.main_arg8)
          ∧ r.2.mem ((c.tc : Thread Cert.DxKernelIdeal.nD Cert.DxKernelIdeal.τ).loc Cert.DxKernelIdeal.main_arg9) = m ((c.tc : Thread Cert.DxKernelIdeal.nD Cert.DxKernelIdeal.τ).loc Cert.DxKernelIdeal.main_arg9)
          ∧ r.2.mem ((c.tc : Thread Cert.DxKernelIdeal.nD Cert.DxKernelIdeal.τ).loc Cert.DxKernelIdeal.main_arg10) = m ((c.tc : Thread Cert.DxKernelIdeal.nD Cert.DxKernelIdeal.τ).loc Cert.DxKernelIdeal.main_arg10)
          ∧ r.2.mem ((c.tc : Thread Cert.DxKernelIdeal.nD Cert.DxKernelIdeal.τ).loc Cert.DxKernelIdeal.main_arg11) = m ((c.tc : Thread Cert.DxKernelIdeal.nD Cert.DxKernelIdeal.τ).loc Cert.DxKernelIdeal.main_arg11)
          ∧ r.2.mem ((c.tc : Thread Cert.DxKernelIdeal.nD Cert.DxKernelIdeal.τ).loc Cert.DxKernelIdeal.main_arg12) = m ((c.tc : Thread Cert.DxKernelIdeal.nD Cert.DxKernelIdeal.τ).loc Cert.DxKernelIdeal.main_arg12)
          ∧ r.2.mem ((c.tc : Thread Cert.DxKernelIdeal.nD Cert.DxKernelIdeal.τ).loc Cert.DxKernelIdeal.main_arg13) = m ((c.tc : Thread Cert.DxKernelIdeal.nD Cert.DxKernelIdeal.τ).loc Cert.DxKernelIdeal.main_arg13)
          ∧ r.2.mem ((c.tc : Thread Cert.DxKernelIdeal.nD Cert.DxKernelIdeal.τ).loc Cert.DxKernelIdeal.main_arg14) = m ((c.tc : Thread Cert.DxKernelIdeal.nD Cert.DxKernelIdeal.τ).loc Cert.DxKernelIdeal.main_arg14)
          ∧ r.2.mem ((c.tc : Thread Cert.DxKernelIdeal.nD Cert.DxKernelIdeal.τ).loc Cert.DxKernelIdeal.main_arg15) = m ((c.tc : Thread Cert.DxKernelIdeal.nD Cert.DxKernelIdeal.τ).loc Cert.DxKernelIdeal.main_arg15))
      ∧ θ_run (Cert.DxReferenceIdeal.defs (F := Ideal)) (onTc (τ := Cert.DxReferenceIdeal.τ) (Cert.DxReferenceIdeal.main (F := Ideal))) ⟨m', fun _ => 0, g'⟩ (fun r => ∀ c : Dev Cert.DxReferenceIdeal.nD,
          r.2.mem ((c.tc : Thread Cert.DxReferenceIdeal.nD Cert.DxReferenceIdeal.τ).loc Cert.DxReferenceIdeal.main_v0_0) = v0 c
          ∧ r.2.mem ((c.tc : Thread Cert.DxReferenceIdeal.nD Cert.DxReferenceIdeal.τ).loc Cert.DxReferenceIdeal.main_v0_1) = v1 c
          ∧ r.2.mem ((c.tc : Thread Cert.DxReferenceIdeal.nD Cert.DxReferenceIdeal.τ).loc Cert.DxReferenceIdeal.main_v0_2) = v2 c
          ∧ r.2.mem ((c.tc : Thread Cert.DxReferenceIdeal.nD Cert.DxReferenceIdeal.τ).loc Cert.DxReferenceIdeal.main_arg0) = m' ((c.tc : Thread Cert.DxReferenceIdeal.nD Cert.DxReferenceIdeal.τ).loc Cert.DxReferenceIdeal.main_arg0)
          ∧ r.2.mem ((c.tc : Thread Cert.DxReferenceIdeal.nD Cert.DxReferenceIdeal.τ).loc Cert.DxReferenceIdeal.main_arg1) = m' ((c.tc : Thread Cert.DxReferenceIdeal.nD Cert.DxReferenceIdeal.τ).loc Cert.DxReferenceIdeal.main_arg1)
          ∧ r.2.mem ((c.tc : Thread Cert.DxReferenceIdeal.nD Cert.DxReferenceIdeal.τ).loc Cert.DxReferenceIdeal.main_arg2) = m' ((c.tc : Thread Cert.DxReferenceIdeal.nD Cert.DxReferenceIdeal.τ).loc Cert.DxReferenceIdeal.main_arg2)
          ∧ r.2.mem ((c.tc : Thread Cert.DxReferenceIdeal.nD Cert.DxReferenceIdeal.τ).loc Cert.DxReferenceIdeal.main_arg3) = m' ((c.tc : Thread Cert.DxReferenceIdeal.nD Cert.DxReferenceIdeal.τ).loc Cert.DxReferenceIdeal.main_arg3)
          ∧ r.2.mem ((c.tc : Thread Cert.DxReferenceIdeal.nD Cert.DxReferenceIdeal.τ).loc Cert.DxReferenceIdeal.main_arg4) = m' ((c.tc : Thread Cert.DxReferenceIdeal.nD Cert.DxReferenceIdeal.τ).loc Cert.DxReferenceIdeal.main_arg4)
          ∧ r.2.mem ((c.tc : Thread Cert.DxReferenceIdeal.nD Cert.DxReferenceIdeal.τ).loc Cert.DxReferenceIdeal.main_arg5) = m' ((c.tc : Thread Cert.DxReferenceIdeal.nD Cert.DxReferenceIdeal.τ).loc Cert.DxReferenceIdeal.main_arg5)
          ∧ r.2.mem ((c.tc : Thread Cert.DxReferenceIdeal.nD Cert.DxReferenceIdeal.τ).loc Cert.DxReferenceIdeal.main_arg6) = m' ((c.tc : Thread Cert.DxReferenceIdeal.nD Cert.DxReferenceIdeal.τ).loc Cert.DxReferenceIdeal.main_arg6)
          ∧ r.2.mem ((c.tc : Thread Cert.DxReferenceIdeal.nD Cert.DxReferenceIdeal.τ).loc Cert.DxReferenceIdeal.main_arg7) = m' ((c.tc : Thread Cert.DxReferenceIdeal.nD Cert.DxReferenceIdeal.τ).loc Cert.DxReferenceIdeal.main_arg7)
          ∧ r.2.mem ((c.tc : Thread Cert.DxReferenceIdeal.nD Cert.DxReferenceIdeal.τ).loc Cert.DxReferenceIdeal.main_arg8) = m' ((c.tc : Thread Cert.DxReferenceIdeal.nD Cert.DxReferenceIdeal.τ).loc Cert.DxReferenceIdeal.main_arg8)
          ∧ r.2.mem ((c.tc : Thread Cert.DxReferenceIdeal.nD Cert.DxReferenceIdeal.τ).loc Cert.DxReferenceIdeal.main_arg9) = m' ((c.tc : Thread Cert.DxReferenceIdeal.nD Cert.DxReferenceIdeal.τ).loc Cert.DxReferenceIdeal.main_arg9)
          ∧ r.2.mem ((c.tc : Thread Cert.DxReferenceIdeal.nD Cert.DxReferenceIdeal.τ).loc Cert.DxReferenceIdeal.main_arg10) = m' ((c.tc : Thread Cert.DxReferenceIdeal.nD Cert.DxReferenceIdeal.τ).loc Cert.DxReferenceIdeal.main_arg10)
          ∧ r.2.mem ((c.tc : Thread Cert.DxReferenceIdeal.nD Cert.DxReferenceIdeal.τ).loc Cert.DxReferenceIdeal.main_arg11) = m' ((c.tc : Thread Cert.DxReferenceIdeal.nD Cert.DxReferenceIdeal.τ).loc Cert.DxReferenceIdeal.main_arg11)
          ∧ r.2.mem ((c.tc : Thread Cert.DxReferenceIdeal.nD Cert.DxReferenceIdeal.τ).loc Cert.DxReferenceIdeal.main_arg12) = m' ((c.tc : Thread Cert.DxReferenceIdeal.nD Cert.DxReferenceIdeal.τ).loc Cert.DxReferenceIdeal.main_arg12)
          ∧ r.2.mem ((c.tc : Thread Cert.DxReferenceIdeal.nD Cert.DxReferenceIdeal.τ).loc Cert.DxReferenceIdeal.main_arg13) = m' ((c.tc : Thread Cert.DxReferenceIdeal.nD Cert.DxReferenceIdeal.τ).loc Cert.DxReferenceIdeal.main_arg13)
          ∧ r.2.mem ((c.tc : Thread Cert.DxReferenceIdeal.nD Cert.DxReferenceIdeal.τ).loc Cert.DxReferenceIdeal.main_arg14) = m' ((c.tc : Thread Cert.DxReferenceIdeal.nD Cert.DxReferenceIdeal.τ).loc Cert.DxReferenceIdeal.main_arg14)
          ∧ r.2.mem ((c.tc : Thread Cert.DxReferenceIdeal.nD Cert.DxReferenceIdeal.τ).loc Cert.DxReferenceIdeal.main_arg15) = m' ((c.tc : Thread Cert.DxReferenceIdeal.nD Cert.DxReferenceIdeal.τ).loc Cert.DxReferenceIdeal.main_arg15))

def preserves_DaKernel_DaKernelIdeal : Prop :=
  True

def Claim : Prop :=
  ∃ (hQkvKernel : Cert.QkvKernel.Facts) (hQkvKernelIdeal : Cert.QkvKernelIdeal.Facts) (hQkvReferenceIdeal : Cert.QkvReferenceIdeal.Facts) (hOutKernel : Cert.OutKernel.Facts) (hOutKernelIdeal : Cert.OutKernelIdeal.Facts) (hOutReferenceIdeal : Cert.OutReferenceIdeal.Facts) (hInKernel : Cert.InKernel.Facts) (hInKernelIdeal : Cert.InKernelIdeal.Facts) (hInReferenceIdeal : Cert.InReferenceIdeal.Facts) (hDxKernel : Cert.DxKernel.Facts) (hDxKernelIdeal : Cert.DxKernelIdeal.Facts) (hDxReferenceIdeal : Cert.DxReferenceIdeal.Facts) (hDaKernel : Cert.DaKernel.Facts) (hDaKernelIdeal : Cert.DaKernelIdeal.Facts),
    quiescent_QkvKernel (hQkvKernel := hQkvKernel)
    ∧ quiescent_QkvKernelIdeal (hQkvKernelIdeal := hQkvKernelIdeal)
    ∧ quiescent_QkvReferenceIdeal (hQkvReferenceIdeal := hQkvReferenceIdeal)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_InKernel (hInKernel := hInKernel)
    ∧ quiescent_InKernelIdeal (hInKernelIdeal := hInKernelIdeal)
    ∧ quiescent_InReferenceIdeal (hInReferenceIdeal := hInReferenceIdeal)
    ∧ quiescent_DxKernel (hDxKernel := hDxKernel)
    ∧ quiescent_DxKernelIdeal (hDxKernelIdeal := hDxKernelIdeal)
    ∧ quiescent_DxReferenceIdeal (hDxReferenceIdeal := hDxReferenceIdeal)
    ∧ quiescent_DaKernel (hDaKernel := hDaKernel)
    ∧ quiescent_DaKernelIdeal (hDaKernelIdeal := hDaKernelIdeal)
    ∧ preserves_QkvKernel_QkvKernelIdeal
    ∧ algebraic_QkvKernelIdeal_QkvReferenceIdeal (hQkvKernelIdeal := hQkvKernelIdeal) (hQkvReferenceIdeal := hQkvReferenceIdeal)
    ∧ preserves_OutKernel_OutKernelIdeal
    ∧ algebraic_OutKernelIdeal_OutReferenceIdeal (hOutKernelIdeal := hOutKernelIdeal) (hOutReferenceIdeal := hOutReferenceIdeal)
    ∧ preserves_InKernel_InKernelIdeal
    ∧ algebraic_InKernelIdeal_InReferenceIdeal (hInKernelIdeal := hInKernelIdeal) (hInReferenceIdeal := hInReferenceIdeal)
    ∧ preserves_DxKernel_DxKernelIdeal
    ∧ algebraic_DxKernelIdeal_DxReferenceIdeal (hDxKernelIdeal := hDxKernelIdeal) (hDxReferenceIdeal := hDxReferenceIdeal)
    ∧ preserves_DaKernel_DaKernelIdeal
-- ==== QkvKernel.lean ====
abbrev S6x512x3x32x128 : Shape := ⟨5, ![6, 512, 3, 32, 128]⟩
abbrev S6x512 : Shape := ⟨2, ![6, 512]⟩
abbrev S6x512x4096 : Shape := ⟨3, ![6, 512, 4096]⟩
abbrev S4096 : Shape := ⟨1, ![4096]⟩
abbrev S3072x4096 : Shape := ⟨2, ![3072, 4096]⟩
abbrev S3072x12288 : Shape := ⟨2, ![3072, 12288]⟩
abbrev S3072x1 : Shape := ⟨2, ![3072, 1]⟩
abbrev S4096x1 : Shape := ⟨2, ![4096, 1]⟩
abbrev S4096x12288 : Shape := ⟨2, ![4096, 12288]⟩
abbrev S3072x1024 : Shape := ⟨2, ![3072, 1024]⟩
abbrev S1024x1 : Shape := ⟨2, ![1024, 1]⟩
abbrev S1024x1024 : Shape := ⟨2, ![1024, 1024]⟩

abbrev nBuf : Space → Nat
  | .hbm => 11
  | .vmem => 10
  | .smem => 0
  | _ => 0

abbrev bufTy : (tb : Table) → Fin (tcTables nBuf tb) → BufTy
  | .hbm, ⟨0, _⟩ => ⟨S6x512x3x32x128, .fp8e5m2⟩
  | .hbm, ⟨1, _⟩ => ⟨S6x512, .f32⟩
  | .hbm, ⟨2, _⟩ => ⟨S6x512x4096, .fp8e4m3⟩
  | .hbm, ⟨3, _⟩ => ⟨S6x512, .f32⟩
  | .hbm, ⟨4, _⟩ => ⟨S4096, .f32⟩
  | .hbm, ⟨5, _⟩ => ⟨S3072x4096, .fp8e4m3⟩
  | .hbm, ⟨6, _⟩ => ⟨S3072x12288, .fp8e5m2⟩
  | .hbm, ⟨7, _⟩ => ⟨S3072x1, .f32⟩
  | .hbm, ⟨8, _⟩ => ⟨S3072x1, .f32⟩
  | .hbm, ⟨9, _⟩ => ⟨S4096x1, .f32⟩
  | .hbm, ⟨10, _⟩ => ⟨S4096x12288, .bf16⟩
  | .local _ .vmem, ⟨0, _⟩ => ⟨S3072x1024, .fp8e4m3⟩
  | .local _ .vmem, ⟨1, _⟩ => ⟨S3072x1024, .fp8e4m3⟩
  | .local _ .vmem, ⟨2, _⟩ => ⟨S3072x1024, .fp8e5m2⟩
  | .local _ .vmem, ⟨3, _⟩ => ⟨S3072x1024, .fp8e5m2⟩
  | .local _ .vmem, ⟨4, _⟩ => ⟨S3072x1, .f32⟩
  | .local _ .vmem, ⟨5, _⟩ => ⟨S3072x1, .f32⟩
  | .local _ .vmem, ⟨6, _⟩ => ⟨S1024x1, .f32⟩
  | .local _ .vmem, ⟨7, _⟩ => ⟨S1024x1, .f32⟩
  | .local _ .vmem, ⟨8, _⟩ => ⟨S1024x1024, .bf16⟩
  | .local _ .vmem, ⟨9, _⟩ => ⟨S1024x1024, .bf16⟩
  | _, _ => ⟨S6x512x3x32x128, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S3072x1024 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S3072x1024 .fp8e5m2 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S3072x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3072x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== QkvReferenceIdeal.lean ====
abbrev S6x512x3x32x128 : Shape := ⟨5, ![6, 512, 3, 32, 128]⟩
abbrev S6x512 : Shape := ⟨2, ![6, 512]⟩
abbrev S6x512x4096 : Shape := ⟨3, ![6, 512, 4096]⟩
abbrev S4096 : Shape := ⟨1, ![4096]⟩
abbrev S4096x12288 : Shape := ⟨2, ![4096, 12288]⟩
abbrev S6x512x1 : Shape := ⟨3, ![6, 512, 1]⟩
abbrev S6x512x1x1x1 : Shape := ⟨5, ![6, 512, 1, 1, 1]⟩
abbrev S4096x1x1x1 : Shape := ⟨4, ![4096, 1, 1, 1]⟩
abbrev S4096x3x32x128 : Shape := ⟨4, ![4096, 3, 32, 128]⟩

abbrev nBuf : Space → Nat
  | .hbm => 6
  | .vmem => 6
  | .smem => 0
  | _ => 0

abbrev bufTy : (tb : Table) → Fin (tcTables nBuf tb) → BufTy
  | .hbm, ⟨0, _⟩ => ⟨S6x512x3x32x128, .fp8e5m2⟩
  | .hbm, ⟨1, _⟩ => ⟨S6x512, .f32⟩
  | .hbm, ⟨2, _⟩ => ⟨S6x512x4096, .fp8e4m3⟩
  | .hbm, ⟨3, _⟩ => ⟨S6x512, .f32⟩
  | .hbm, ⟨4, _⟩ => ⟨S4096, .f32⟩
  | .hbm, ⟨5, _⟩ => ⟨S4096x12288, .bf16⟩
  | .local _ .vmem, ⟨0, _⟩ => ⟨S6x512x3x32x128, .fp8e5m2⟩
  | .local _ .vmem, ⟨1, _⟩ => ⟨S6x512, .f32⟩
  | .local _ .vmem, ⟨2, _⟩ => ⟨S6x512x4096, .fp8e4m3⟩
  | .local _ .vmem, ⟨3, _⟩ => ⟨S6x512, .f32⟩
  | .local _ .vmem, ⟨4, _⟩ => ⟨S4096, .f32⟩
  | .local _ .vmem, ⟨5, _⟩ => ⟨S4096x12288, .bf16⟩
  | _, _ => ⟨S6x512x3x32x128, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S6x512x3x32x128 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x512x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x12288 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== OutKernel.lean ====
abbrev S6x512x4096 : Shape := ⟨3, ![6, 512, 4096]⟩
abbrev S6x512 : Shape := ⟨2, ![6, 512]⟩
abbrev S6x512x11008 : Shape := ⟨3, ![6, 512, 11008]⟩
abbrev S3072x4096 : Shape := ⟨2, ![3072, 4096]⟩
abbrev S3072x11008 : Shape := ⟨2, ![3072, 11008]⟩
abbrev S_ : Shape := ⟨0, ![]⟩
abbrev S11008x1 : Shape := ⟨2, ![11008, 1]⟩
abbrev S3072x1 : Shape := ⟨2, ![3072, 1]⟩
abbrev S11008x4096 : Shape := ⟨2, ![11008, 4096]⟩
abbrev S3072x1024 : Shape := ⟨2, ![3072, 1024]⟩
abbrev S1024x1 : Shape := ⟨2, ![1024, 1]⟩
abbrev S1024x1024 : Shape := ⟨2, ![1024, 1024]⟩

abbrev nBuf : Space → Nat
  | .hbm => 11
  | .vmem => 10
  | .smem => 0
  | _ => 0

abbrev bufTy : (tb : Table) → Fin (tcTables nBuf tb) → BufTy
  | .hbm, ⟨0, _⟩ => ⟨S6x512x4096, .fp8e5m2⟩
  | .hbm, ⟨1, _⟩ => ⟨S6x512, .f32⟩
  | .hbm, ⟨2, _⟩ => ⟨S6x512x11008, .fp8e4m3⟩
  | .hbm, ⟨3, _⟩ => ⟨S6x512, .f32⟩
  | .hbm, ⟨4, _⟩ => ⟨S3072x4096, .fp8e5m2⟩
  | .hbm, ⟨5, _⟩ => ⟨S3072x11008, .fp8e4m3⟩
  | .hbm, ⟨6, _⟩ => ⟨S_, .f32⟩
  | .hbm, ⟨7, _⟩ => ⟨S11008x1, .f32⟩
  | .hbm, ⟨8, _⟩ => ⟨S3072x1, .f32⟩
  | .hbm, ⟨9, _⟩ => ⟨S3072x1, .f32⟩
  | .hbm, ⟨10, _⟩ => ⟨S11008x4096, .bf16⟩
  | .local _ .vmem, ⟨0, _⟩ => ⟨S3072x1024, .fp8e4m3⟩
  | .local _ .vmem, ⟨1, _⟩ => ⟨S3072x1024, .fp8e4m3⟩
  | .local _ .vmem, ⟨2, _⟩ => ⟨S3072x1024, .fp8e5m2⟩
  | .local _ .vmem, ⟨3, _⟩ => ⟨S3072x1024, .fp8e5m2⟩
  | .local _ .vmem, ⟨4, _⟩ => ⟨S3072x1, .f32⟩
  | .local _ .vmem, ⟨5, _⟩ => ⟨S3072x1, .f32⟩
  | .local _ .vmem, ⟨6, _⟩ => ⟨S1024x1, .f32⟩
  | .local _ .vmem, ⟨7, _⟩ => ⟨S1024x1, .f32⟩
  | .local _ .vmem, ⟨8, _⟩ => ⟨S1024x1024, .bf16⟩
  | .local _ .vmem, ⟨9, _⟩ => ⟨S1024x1024, .bf16⟩
  | _, _ => ⟨S6x512x4096, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![11, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S3072x1024 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S3072x1024 .fp8e5m2 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S3072x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3072x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OutReferenceIdeal.lean ====
abbrev S6x512x4096 : Shape := ⟨3, ![6, 512, 4096]⟩
abbrev S6x512 : Shape := ⟨2, ![6, 512]⟩
abbrev S6x512x11008 : Shape := ⟨3, ![6, 512, 11008]⟩
abbrev S11008x4096 : Shape := ⟨2, ![11008, 4096]⟩
abbrev S6x512x1 : Shape := ⟨3, ![6, 512, 1]⟩

abbrev nBuf : Space → Nat
  | .hbm => 5
  | .vmem => 5
  | .smem => 0
  | _ => 0

abbrev bufTy : (tb : Table) → Fin (tcTables nBuf tb) → BufTy
  | .hbm, ⟨0, _⟩ => ⟨S6x512x4096, .fp8e5m2⟩
  | .hbm, ⟨1, _⟩ => ⟨S6x512, .f32⟩
  | .hbm, ⟨2, _⟩ => ⟨S6x512x11008, .fp8e4m3⟩
  | .hbm, ⟨3, _⟩ => ⟨S6x512, .f32⟩
  | .hbm, ⟨4, _⟩ => ⟨S11008x4096, .bf16⟩
  | .local _ .vmem, ⟨0, _⟩ => ⟨S6x512x4096, .fp8e5m2⟩
  | .local _ .vmem, ⟨1, _⟩ => ⟨S6x512, .f32⟩
  | .local _ .vmem, ⟨2, _⟩ => ⟨S6x512x11008, .fp8e4m3⟩
  | .local _ .vmem, ⟨3, _⟩ => ⟨S6x512, .f32⟩
  | .local _ .vmem, ⟨4, _⟩ => ⟨S11008x4096, .bf16⟩
  | _, _ => ⟨S6x512x4096, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S6x512x4096 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x512x11008 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S11008x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== InKernel.lean ====
abbrev S6x512x4096 : Shape := ⟨3, ![6, 512, 4096]⟩
abbrev S6x512 : Shape := ⟨2, ![6, 512]⟩
abbrev S4096 : Shape := ⟨1, ![4096]⟩
abbrev S6x512x11008 : Shape := ⟨3, ![6, 512, 11008]⟩
abbrev S3072x4096 : Shape := ⟨2, ![3072, 4096]⟩
abbrev S3072x11008 : Shape := ⟨2, ![3072, 11008]⟩
abbrev S3072x1 : Shape := ⟨2, ![3072, 1]⟩
abbrev S4096x1 : Shape := ⟨2, ![4096, 1]⟩
abbrev S4096x11008 : Shape := ⟨2, ![4096, 11008]⟩
abbrev S3072x1024 : Shape := ⟨2, ![3072, 1024]⟩
abbrev S1024x1 : Shape := ⟨2, ![1024, 1]⟩
abbrev S1024x1024 : Shape := ⟨2, ![1024, 1024]⟩

abbrev nBuf : Space → Nat
  | .hbm => 11
  | .vmem => 10
  | .smem => 0
  | _ => 0

abbrev bufTy : (tb : Table) → Fin (tcTables nBuf tb) → BufTy
  | .hbm, ⟨0, _⟩ => ⟨S6x512x4096, .fp8e4m3⟩
  | .hbm, ⟨1, _⟩ => ⟨S6x512, .f32⟩
  | .hbm, ⟨2, _⟩ => ⟨S4096, .f32⟩
  | .hbm, ⟨3, _⟩ => ⟨S6x512x11008, .fp8e5m2⟩
  | .hbm, ⟨4, _⟩ => ⟨S6x512, .f32⟩
  | .hbm, ⟨5, _⟩ => ⟨S3072x4096, .fp8e4m3⟩
  | .hbm, ⟨6, _⟩ => ⟨S3072x11008, .fp8e5m2⟩
  | .hbm, ⟨7, _⟩ => ⟨S3072x1, .f32⟩
  | .hbm, ⟨8, _⟩ => ⟨S3072x1, .f32⟩
  | .hbm, ⟨9, _⟩ => ⟨S4096x1, .f32⟩
  | .hbm, ⟨10, _⟩ => ⟨S4096x11008, .bf16⟩
  | .local _ .vmem, ⟨0, _⟩ => ⟨S3072x1024, .fp8e4m3⟩
  | .local _ .vmem, ⟨1, _⟩ => ⟨S3072x1024, .fp8e4m3⟩
  | .local _ .vmem, ⟨2, _⟩ => ⟨S3072x1024, .fp8e5m2⟩
  | .local _ .vmem, ⟨3, _⟩ => ⟨S3072x1024, .fp8e5m2⟩
  | .local _ .vmem, ⟨4, _⟩ => ⟨S3072x1, .f32⟩
  | .local _ .vmem, ⟨5, _⟩ => ⟨S3072x1, .f32⟩
  | .local _ .vmem, ⟨6, _⟩ => ⟨S1024x1, .f32⟩
  | .local _ .vmem, ⟨7, _⟩ => ⟨S1024x1, .f32⟩
  | .local _ .vmem, ⟨8, _⟩ => ⟨S1024x1024, .bf16⟩
  | .local _ .vmem, ⟨9, _⟩ => ⟨S1024x1024, .bf16⟩
  | _, _ => ⟨S6x512x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S3072x1024 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S3072x1024 .fp8e5m2 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S3072x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3072x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== InReferenceIdeal.lean ====
abbrev S6x512x4096 : Shape := ⟨3, ![6, 512, 4096]⟩
abbrev S6x512 : Shape := ⟨2, ![6, 512]⟩
abbrev S4096 : Shape := ⟨1, ![4096]⟩
abbrev S6x512x11008 : Shape := ⟨3, ![6, 512, 11008]⟩
abbrev S4096x11008 : Shape := ⟨2, ![4096, 11008]⟩
abbrev S6x512x1 : Shape := ⟨3, ![6, 512, 1]⟩
abbrev S4096x1 : Shape := ⟨2, ![4096, 1]⟩

abbrev nBuf : Space → Nat
  | .hbm => 6
  | .vmem => 6
  | .smem => 0
  | _ => 0

abbrev bufTy : (tb : Table) → Fin (tcTables nBuf tb) → BufTy
  | .hbm, ⟨0, _⟩ => ⟨S6x512x4096, .fp8e4m3⟩
  | .hbm, ⟨1, _⟩ => ⟨S6x512, .f32⟩
  | .hbm, ⟨2, _⟩ => ⟨S4096, .f32⟩
  | .hbm, ⟨3, _⟩ => ⟨S6x512x11008, .fp8e5m2⟩
  | .hbm, ⟨4, _⟩ => ⟨S6x512, .f32⟩
  | .hbm, ⟨5, _⟩ => ⟨S4096x11008, .bf16⟩
  | .local _ .vmem, ⟨0, _⟩ => ⟨S6x512x4096, .fp8e4m3⟩
  | .local _ .vmem, ⟨1, _⟩ => ⟨S6x512, .f32⟩
  | .local _ .vmem, ⟨2, _⟩ => ⟨S4096, .f32⟩
  | .local _ .vmem, ⟨3, _⟩ => ⟨S6x512x11008, .fp8e5m2⟩
  | .local _ .vmem, ⟨4, _⟩ => ⟨S6x512, .f32⟩
  | .local _ .vmem, ⟨5, _⟩ => ⟨S4096x11008, .bf16⟩
  | _, _ => ⟨S6x512x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S6x512x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x512x11008 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x11008 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== DxKernel.lean ====
abbrev S6x512x4096 : Shape := ⟨3, ![6, 512, 4096]⟩
abbrev S6x512 : Shape := ⟨2, ![6, 512]⟩
abbrev S6x512x3x32x128 : Shape := ⟨5, ![6, 512, 3, 32, 128]⟩
abbrev S4096 : Shape := ⟨1, ![4096]⟩
abbrev S4096x11008 : Shape := ⟨2, ![4096, 11008]⟩
abbrev S11008 : Shape := ⟨1, ![11008]⟩
abbrev S4096x3x32x128 : Shape := ⟨4, ![4096, 3, 32, 128]⟩
abbrev S3x32x128 : Shape := ⟨3, ![3, 32, 128]⟩
abbrev S6x512x11008 : Shape := ⟨3, ![6, 512, 11008]⟩
abbrev S3072x4096 : Shape := ⟨2, ![3072, 4096]⟩
abbrev S3072x11008 : Shape := ⟨2, ![3072, 11008]⟩
abbrev S3072x1 : Shape := ⟨2, ![3072, 1]⟩
abbrev S3072x12288 : Shape := ⟨2, ![3072, 12288]⟩
abbrev S4096x12288 : Shape := ⟨2, ![4096, 12288]⟩
abbrev S3072x5 : Shape := ⟨2, ![3072, 5]⟩
abbrev S3072x6 : Shape := ⟨2, ![3072, 6]⟩
abbrev S1x11008 : Shape := ⟨2, ![1, 11008]⟩
abbrev S1x12288 : Shape := ⟨2, ![1, 12288]⟩
abbrev S1x4096 : Shape := ⟨2, ![1, 4096]⟩
abbrev S512x1024 : Shape := ⟨2, ![512, 1024]⟩
abbrev S4096x1024 : Shape := ⟨2, ![4096, 1024]⟩
abbrev S1x1024 : Shape := ⟨2, ![1, 1024]⟩
abbrev S512x4096 : Shape := ⟨2, ![512, 4096]⟩
abbrev S512x6 : Shape := ⟨2, ![512, 6]⟩
abbrev S512x768 : Shape := ⟨2, ![512, 768]⟩
abbrev S1x768 : Shape := ⟨2, ![1, 768]⟩
abbrev S4096x768 : Shape := ⟨2, ![4096, 768]⟩
abbrev S64x1 : Shape := ⟨2, ![64, 1]⟩
abbrev S64x4096 : Shape := ⟨2, ![64, 4096]⟩
abbrev S64 : Shape := ⟨1, ![64]⟩

abbrev nBuf : Space → Nat
  | .hbm => 36
  | .vmem => 26
  | .smem => 0
  | _ => 0

abbrev bufTy : (tb : Table) → Fin (tcTables nBuf tb) → BufTy
  | .hbm, ⟨0, _⟩ => ⟨S6x512x4096, .fp8e5m2⟩
  | .hbm, ⟨1, _⟩ => ⟨S6x512, .f32⟩
  | .hbm, ⟨2, _⟩ => ⟨S6x512x3x32x128, .fp8e5m2⟩
  | .hbm, ⟨3, _⟩ => ⟨S6x512, .f32⟩
  | .hbm, ⟨4, _⟩ => ⟨S6x512x4096, .fp8e4m3⟩
  | .hbm, ⟨5, _⟩ => ⟨S6x512, .f32⟩
  | .hbm, ⟨6, _⟩ => ⟨S6x512, .f32⟩
  | .hbm, ⟨7, _⟩ => ⟨S4096, .f32⟩
  | .hbm, ⟨8, _⟩ => ⟨S4096, .f32⟩
  | .hbm, ⟨9, _⟩ => ⟨S6x512, .f32⟩
  | .hbm, ⟨10, _⟩ => ⟨S4096x11008, .fp8e4m3⟩
  | .hbm, ⟨11, _⟩ => ⟨S11008, .f32⟩
  | .hbm, ⟨12, _⟩ => ⟨S4096x3x32x128, .fp8e4m3⟩
  | .hbm, ⟨13, _⟩ => ⟨S3x32x128, .f32⟩
  | .hbm, ⟨14, _⟩ => ⟨S6x512x11008, .fp8e5m2⟩
  | .hbm, ⟨15, _⟩ => ⟨S6x512, .f32⟩
  | .hbm, ⟨16, _⟩ => ⟨S3072x4096, .fp8e5m2⟩
  | .hbm, ⟨17, _⟩ => ⟨S3072x4096, .fp8e4m3⟩
  | .hbm, ⟨18, _⟩ => ⟨S3072x11008, .fp8e5m2⟩
  | .hbm, ⟨19, _⟩ => ⟨S3072x1, .f32⟩
  | .hbm, ⟨20, _⟩ => ⟨S3072x12288, .fp8e5m2⟩
  | .hbm, ⟨21, _⟩ => ⟨S4096x12288, .fp8e4m3⟩
  | .hbm, ⟨22, _⟩ => ⟨S3072x1, .f32⟩
  | .hbm, ⟨23, _⟩ => ⟨S3072x1, .f32⟩
  | .hbm, ⟨24, _⟩ => ⟨S3072x1, .f32⟩
  | .hbm, ⟨25, _⟩ => ⟨S3072x1, .f32⟩
  | .hbm, ⟨26, _⟩ => ⟨S3072x1, .f32⟩
  | .hbm, ⟨27, _⟩ => ⟨S3072x5, .f32⟩
  | .hbm, ⟨28, _⟩ => ⟨S3072x6, .f32⟩
  | .hbm, ⟨29, _⟩ => ⟨S1x11008, .f32⟩
  | .hbm, ⟨30, _⟩ => ⟨S1x12288, .f32⟩
  | .hbm, ⟨31, _⟩ => ⟨S1x4096, .f32⟩
  | .hbm, ⟨32, _⟩ => ⟨S1x4096, .f32⟩
  | .hbm, ⟨33, _⟩ => ⟨S3072x4096, .bf16⟩
  | .hbm, ⟨34, _⟩ => ⟨S1x4096, .f32⟩
  | .hbm, ⟨35, _⟩ => ⟨S1x4096, .f32⟩
  | .local _ .vmem, ⟨0, _⟩ => ⟨S512x1024, .fp8e5m2⟩
  | .local _ .vmem, ⟨1, _⟩ => ⟨S512x1024, .fp8e5m2⟩
  | .local _ .vmem, ⟨2, _⟩ => ⟨S4096x1024, .fp8e4m3⟩
  | .local _ .vmem, ⟨3, _⟩ => ⟨S4096x1024, .fp8e4m3⟩
  | .local _ .vmem, ⟨4, _⟩ => ⟨S1x1024, .f32⟩
  | .local _ .vmem, ⟨5, _⟩ => ⟨S1x1024, .f32⟩
  | .local _ .vmem, ⟨6, _⟩ => ⟨S512x1024, .fp8e5m2⟩
  | .local _ .vmem, ⟨7, _⟩ => ⟨S512x1024, .fp8e5m2⟩
  | .local _ .vmem, ⟨8, _⟩ => ⟨S4096x1024, .fp8e4m3⟩
  | .local _ .vmem, ⟨9, _⟩ => ⟨S4096x1024, .fp8e4m3⟩
  | .local _ .vmem, ⟨10, _⟩ => ⟨S1x1024, .f32⟩
  | .local _ .vmem, ⟨11, _⟩ => ⟨S1x1024, .f32⟩
  | .local _ .vmem, ⟨12, _⟩ => ⟨S512x4096, .fp8e5m2⟩
  | .local _ .vmem, ⟨13, _⟩ => ⟨S512x4096, .fp8e5m2⟩
  | .local _ .vmem, ⟨14, _⟩ => ⟨S512x4096, .fp8e4m3⟩
  | .local _ .vmem, ⟨15, _⟩ => ⟨S512x4096, .fp8e4m3⟩
  | .local _ .vmem, ⟨16, _⟩ => ⟨S512x6, .f32⟩
  | .local _ .vmem, ⟨17, _⟩ => ⟨S512x6, .f32⟩
  | .local _ .vmem, ⟨18, _⟩ => ⟨S1x4096, .f32⟩
  | .local _ .vmem, ⟨19, _⟩ => ⟨S1x4096, .f32⟩
  | .local _ .vmem, ⟨20, _⟩ => ⟨S512x4096, .bf16⟩
  | .local _ .vmem, ⟨21, _⟩ => ⟨S512x4096, .bf16⟩
  | .local _ .vmem, ⟨22, _⟩ => ⟨S1x4096, .f32⟩
  | .local _ .vmem, ⟨23, _⟩ => ⟨S1x4096, .f32⟩
  | .local _ .vmem, ⟨24, _⟩ => ⟨S512x4096, .f32⟩
  | .local _ .vmem, ⟨25, _⟩ => ⟨S512x4096, .f32⟩
  | _, _ => ⟨S6x512x4096, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17_0 : Ref sig .tc := ⟨.hbm, 33, rfl⟩
abbrev main_v17_1 : Ref sig .tc := ⟨.hbm, 34, rfl⟩
abbrev main_v17_2 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem11_1 : DmaSem sig := 21
abbrev cc0_sem12_0 : DmaSem sig := 22
abbrev cc0_sem13_0 : DmaSem sig := 23

abbrev nD : Nat := 1
abbrev τ : Topo := Topo.v7x

variable {F : FTy → Type} [FloatOps F]

abbrev grid0 : Pipeline.Grid := ⟨2, ![6, 23], ![false, false]⟩

def k0_cond6 (i : grid0.Coords) : BitVec 1 :=
  let arg1 : BitVec 32 := BitVec.ofNat 32 (i 1).val
  let c22_i32 : BitVec 32 := 22#32
  let v17 : BitVec 1 := Scalar.cmpi .eq arg1 c22_i32
  let v18 : BitVec 32 := Scalar.extui v17
  let c0_i32_8 : BitVec 32 := 0#32
  let v19 : BitVec 1 := Scalar.cmpi .ne v18 c0_i32_8
  v19

@[reducible] def k0_t1_loop : Scf.Loop 32 :=
  let c0_i32_9 : BitVec 32 := 0#32
  let c8_i32 : BitVec 32 := 8#32
  let v20 : BitVec 32 := Scalar.addi c0_i32_9 c8_i32
  let c1_i32 : BitVec 32 := 1#32
  ⟨c0_i32_9, v20, c1_i32⟩
def k0_mult1 (k0_t1 : Fin k0_t1_loop.trips) : BitVec 32 :=
  let c0_i32_9 : BitVec 32 := 0#32
  let c1_i32 : BitVec 32 := 1#32
  let arg18 : BitVec 32 := Scf.iv c0_i32_9 c1_i32 k0_t1
  let c64_i32 : BitVec 32 := 64#32
  let v21 : BitVec 32 := Scalar.muli arg18 c64_i32
  v21
def k0_off1 (k0_t1 : Fin k0_t1_loop.trips) : Fin 2 → Nat :=
  let c0_i32_9 : BitVec 32 := 0#32
  let c1_i32 : BitVec 32 := 1#32
  let arg18 : BitVec 32 := Scf.iv c0_i32_9 c1_i32 k0_t1
  let c64_i32 : BitVec 32 := 64#32
  let v21 : BitVec 32 := Scalar.muli arg18 c64_i32
  let v22 : BitVec 32 := v21
  let v23 : Index := Scalar.indexCast v22
  let c0 : Index := 0#32
  ![v23.toNat, 0]
def k0_off2 (k0_t1 : Fin k0_t1_loop.trips) : Fin 2 → Nat :=
  let c0_i32_9 : BitVec 32 := 0#32
  let c1_i32 : BitVec 32 := 1#32
  let arg18 : BitVec 32 := Scf.iv c0_i32_9 c1_i32 k0_t1
  let c64_i32 : BitVec 32 := 64#32
  let v21 : BitVec 32 := Scalar.muli arg18 c64_i32
  let v22 : BitVec 32 := v21
  let v26 : Index := Scalar.indexCast v22
  let c5 : Index := 5#32
  ![v26.toNat, 5]
def k0_off3 (k0_t1 : Fin k0_t1_loop.trips) : Fin 2 → Nat :=
  let c0_i32_9 : BitVec 32 := 0#32
  let c1_i32 : BitVec 32 := 1#32
  let arg18 : BitVec 32 := Scf.iv c0_i32_9 c1_i32 k0_t1
  let c64_i32 : BitVec 32 := 64#32
  let v21 : BitVec 32 := Scalar.muli arg18 c64_i32
  let v22 : BitVec 32 := v21
  let v29 : Index := Scalar.indexCast v22
  let c3 : Index := 3#32
  ![v29.toNat, 3]
def k0_off4 (k0_t1 : Fin k0_t1_loop.trips) : Fin 2 → Nat :=
  let c0_i32_9 : BitVec 32 := 0#32
  let c1_i32 : BitVec 32 := 1#32
  let arg18 : BitVec 32 := Scf.iv c0_i32_9 c1_i32 k0_t1
  let c64_i32 : BitVec 32 := 64#32
  let v21 : BitVec 32 := Scalar.muli arg18 c64_i32
  let v22 : BitVec 32 := v21
  let v32 : Index := Scalar.indexCast v22
  let c2 : Index := 2#32
  ![v32.toNat, 2]
def k0_off5 (k0_t1 : Fin k0_t1_loop.trips) : Fin 2 → Nat :=
  let c0_i32_9 : BitVec 32 := 0#32
  let c1_i32 : BitVec 32 := 1#32
  let arg18 : BitVec 32 := Scf.iv c0_i32_9 c1_i32 k0_t1
  let c64_i32 : BitVec 32 := 64#32
  let v21 : BitVec 32 := Scalar.muli arg18 c64_i32
  let v22 : BitVec 32 := v21
  let v35 : Index := Scalar.indexCast v22
  let c4 : Index := 4#32
  ![v35.toNat, 4]
def k0_off6 (k0_t1 : Fin k0_t1_loop.trips) : Fin 2 → Nat :=
  let c0_i32_9 : BitVec 32 := 0#32
  let c1_i32 : BitVec 32 := 1#32
  let arg18 : BitVec 32 := Scf.iv c0_i32_9 c1_i32 k0_t1
  let c64_i32 : BitVec 32 := 64#32
  let v21 : BitVec 32 := Scalar.muli arg18 c64_i32
  let v22 : BitVec 32 := v21
  let v38 : Index := Scalar.indexCast v22
  let c0_11 : Index := 0#32
  ![v38.toNat, 0]
def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let arg0 : BitVec 32 := BitVec.ofNat 32 (i 0).val
  let c0_i32_2 : BitVec 32 := 0#32
  let v4 : BitVec 1 := Scalar.cmpi .eq arg0 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.minsi arg1 c10_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.minsi arg1 c10_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.minsi arg1 c10_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.subi arg1 c11_i32
  let c0_i32 : BitVec 32 := 0#32
  let v1 : BitVec 32 := Scalar.maxsi v0 c0_i32
  let c0_i32_0 : BitVec 32 := 0#32
  ![arg0.toNat, v1.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.subi arg1 c11_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.subi arg1 c11_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x1024 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .fp8e5m2 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4096x1024 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x4096 .fp8e5m2 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x4096 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x6 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S512x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S1x4096 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x4096 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]
-- ==== DxReferenceIdeal.lean ====
abbrev S6x512x4096 : Shape := ⟨3, ![6, 512, 4096]⟩
abbrev S6x512 : Shape := ⟨2, ![6, 512]⟩
abbrev S6x512x3x32x128 : Shape := ⟨5, ![6, 512, 3, 32, 128]⟩
abbrev S4096 : Shape := ⟨1, ![4096]⟩
abbrev S4096x11008 : Shape := ⟨2, ![4096, 11008]⟩
abbrev S11008 : Shape := ⟨1, ![11008]⟩
abbrev S4096x3x32x128 : Shape := ⟨4, ![4096, 3, 32, 128]⟩
abbrev S3x32x128 : Shape := ⟨3, ![3, 32, 128]⟩
abbrev S6x512x11008 : Shape := ⟨3, ![6, 512, 11008]⟩
abbrev S3072x4096 : Shape := ⟨2, ![3072, 4096]⟩
abbrev S1x4096 : Shape := ⟨2, ![1, 4096]⟩
abbrev S1x11008 : Shape := ⟨2, ![1, 11008]⟩
abbrev S6x512x1 : Shape := ⟨3, ![6, 512, 1]⟩
abbrev S1x3x32x128 : Shape := ⟨4, ![1, 3, 32, 128]⟩
abbrev S1x1x4096 : Shape := ⟨3, ![1, 1, 4096]⟩

abbrev nBuf : Space → Nat
  | .hbm => 19
  | .vmem => 18
  | .smem => 0
  | _ => 0

abbrev bufTy : (tb : Table) → Fin (tcTables nBuf tb) → BufTy
  | .hbm, ⟨0, _⟩ => ⟨S6x512x4096, .fp8e5m2⟩
  | .hbm, ⟨1, _⟩ => ⟨S6x512, .f32⟩
  | .hbm, ⟨2, _⟩ => ⟨S6x512x3x32x128, .fp8e5m2⟩
  | .hbm, ⟨3, _⟩ => ⟨S6x512, .f32⟩
  | .hbm, ⟨4, _⟩ => ⟨S6x512x4096, .fp8e4m3⟩
  | .hbm, ⟨5, _⟩ => ⟨S6x512, .f32⟩
  | .hbm, ⟨6, _⟩ => ⟨S6x512, .f32⟩
  | .hbm, ⟨7, _⟩ => ⟨S4096, .f32⟩
  | .hbm, ⟨8, _⟩ => ⟨S4096, .f32⟩
  | .hbm, ⟨9, _⟩ => ⟨S6x512, .f32⟩
  | .hbm, ⟨10, _⟩ => ⟨S4096x11008, .fp8e4m3⟩
  | .hbm, ⟨11, _⟩ => ⟨S11008, .f32⟩
  | .hbm, ⟨12, _⟩ => ⟨S4096x3x32x128, .fp8e4m3⟩
  | .hbm, ⟨13, _⟩ => ⟨S3x32x128, .f32⟩
  | .hbm, ⟨14, _⟩ => ⟨S6x512x11008, .fp8e5m2⟩
  | .hbm, ⟨15, _⟩ => ⟨S6x512, .f32⟩
  | .hbm, ⟨16, _⟩ => ⟨S3072x4096, .bf16⟩
  | .hbm, ⟨17, _⟩ => ⟨S1x4096, .f32⟩
  | .hbm, ⟨18, _⟩ => ⟨S1x4096, .f32⟩
  | .local _ .vmem, ⟨0, _⟩ => ⟨S6x512x4096, .fp8e5m2⟩
  | .local _ .vmem, ⟨1, _⟩ => ⟨S6x512, .f32⟩
  | .local _ .vmem, ⟨2, _⟩ => ⟨S6x512x3x32x128, .fp8e5m2⟩
  | .local _ .vmem, ⟨3, _⟩ => ⟨S6x512, .f32⟩
  | .local _ .vmem, ⟨4, _⟩ => ⟨S6x512x4096, .fp8e4m3⟩
  | .local _ .vmem, ⟨5, _⟩ => ⟨S6x512, .f32⟩
  | .local _ .vmem, ⟨6, _⟩ => ⟨S6x512, .f32⟩
  | .local _ .vmem, ⟨7, _⟩ => ⟨S4096, .f32⟩
  | .local _ .vmem, ⟨8, _⟩ => ⟨S4096, .f32⟩
  | .local _ .vmem, ⟨9, _⟩ => ⟨S4096x11008, .fp8e4m3⟩
  | .local _ .vmem, ⟨10, _⟩ => ⟨S11008, .f32⟩
  | .local _ .vmem, ⟨11, _⟩ => ⟨S4096x3x32x128, .fp8e4m3⟩
  | .local _ .vmem, ⟨12, _⟩ => ⟨S3x32x128, .f32⟩
  | .local _ .vmem, ⟨13, _⟩ => ⟨S6x512x11008, .fp8e5m2⟩
  | .local _ .vmem, ⟨14, _⟩ => ⟨S6x512, .f32⟩
  | .local _ .vmem, ⟨15, _⟩ => ⟨S3072x4096, .bf16⟩
  | .local _ .vmem, ⟨16, _⟩ => ⟨S1x4096, .f32⟩
  | .local _ .vmem, ⟨17, _⟩ => ⟨S1x4096, .f32⟩
  | _, _ => ⟨S6x512x4096, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F]

abbrev grid0 : Pipeline.Grid := .none

abbrev stage0_0 : Fin 1 → Memref sig .tc .vmem S6x512x4096 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x512x3x32x128 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x512x4096 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4096x11008 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S11008 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4096x3x32x128 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S3x32x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S6x512x11008 .fp8e5m2 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S6x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S3072x4096 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x4096 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x4096 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
-- ==== DaKernel.lean ====
abbrev S6x512x4096 : Shape := ⟨3, ![6, 512, 4096]⟩
abbrev S6x512 : Shape := ⟨2, ![6, 512]⟩
abbrev S6x512x11008 : Shape := ⟨3, ![6, 512, 11008]⟩
abbrev S11008x4096 : Shape := ⟨2, ![11008, 4096]⟩
abbrev S4096 : Shape := ⟨1, ![4096]⟩
abbrev S3072x4096 : Shape := ⟨2, ![3072, 4096]⟩
abbrev S3072x11008 : Shape := ⟨2, ![3072, 11008]⟩
abbrev S3072x1 : Shape := ⟨2, ![3072, 1]⟩
abbrev S3072x5 : Shape := ⟨2, ![3072, 5]⟩
abbrev S1x4096 : Shape := ⟨2, ![1, 4096]⟩
abbrev S512x4096 : Shape := ⟨2, ![512, 4096]⟩
abbrev S512x5 : Shape := ⟨2, ![512, 5]⟩
abbrev S512x1024 : Shape := ⟨2, ![512, 1024]⟩
abbrev S1024x4096 : Shape := ⟨2, ![1024, 4096]⟩
abbrev S512x1 : Shape := ⟨2, ![512, 1]⟩
abbrev S512x11264 : Shape := ⟨2, ![512, 11264]⟩
abbrev S512x128 : Shape := ⟨2, ![512, 128]⟩
abbrev S512 : Shape := ⟨1, ![512]⟩
abbrev S512x252 : Shape := ⟨2, ![512, 252]⟩
abbrev S256x4096 : Shape := ⟨2, ![256, 4096]⟩
abbrev S512x256 : Shape := ⟨2, ![512, 256]⟩

abbrev nBuf : Space → Nat
  | .hbm => 20
  | .vmem => 17
  | .smem => 0
  | _ => 0

abbrev bufTy : (tb : Table) → Fin (tcTables nBuf tb) → BufTy
  | .hbm, ⟨0, _⟩ => ⟨S6x512x4096, .fp8e5m2⟩
  | .hbm, ⟨1, _⟩ => ⟨S6x512, .f32⟩
  | .hbm, ⟨2, _⟩ => ⟨S6x512, .f32⟩
  | .hbm, ⟨3, _⟩ => ⟨S6x512, .f32⟩
  | .hbm, ⟨4, _⟩ => ⟨S6x512, .f32⟩
  | .hbm, ⟨5, _⟩ => ⟨S6x512x11008, .fp8e4m3⟩
  | .hbm, ⟨6, _⟩ => ⟨S6x512, .f32⟩
  | .hbm, ⟨7, _⟩ => ⟨S11008x4096, .fp8e4m3⟩
  | .hbm, ⟨8, _⟩ => ⟨S4096, .f32⟩
  | .hbm, ⟨9, _⟩ => ⟨S3072x4096, .fp8e5m2⟩
  | .hbm, ⟨10, _⟩ => ⟨S3072x11008, .fp8e4m3⟩
  | .hbm, ⟨11, _⟩ => ⟨S3072x1, .f32⟩
  | .hbm, ⟨12, _⟩ => ⟨S3072x1, .f32⟩
  | .hbm, ⟨13, _⟩ => ⟨S3072x1, .f32⟩
  | .hbm, ⟨14, _⟩ => ⟨S3072x1, .f32⟩
  | .hbm, ⟨15, _⟩ => ⟨S3072x1, .f32⟩
  | .hbm, ⟨16, _⟩ => ⟨S3072x5, .f32⟩
  | .hbm, ⟨17, _⟩ => ⟨S1x4096, .f32⟩
  | .hbm, ⟨18, _⟩ => ⟨S3072x11008, .fp8e5m2⟩
  | .hbm, ⟨19, _⟩ => ⟨S3072x1, .f32⟩
  | .local _ .vmem, ⟨0, _⟩ => ⟨S512x4096, .fp8e5m2⟩
  | .local _ .vmem, ⟨1, _⟩ => ⟨S512x4096, .fp8e5m2⟩
  | .local _ .vmem, ⟨2, _⟩ => ⟨S512x5, .f32⟩
  | .local _ .vmem, ⟨3, _⟩ => ⟨S512x5, .f32⟩
  | .local _ .vmem, ⟨4, _⟩ => ⟨S1x4096, .f32⟩
  | .local _ .vmem, ⟨5, _⟩ => ⟨S512x1024, .fp8e4m3⟩
  | .local _ .vmem, ⟨6, _⟩ => ⟨S512x1024, .fp8e4m3⟩
  | .local _ .vmem, ⟨7, _⟩ => ⟨S1024x4096, .fp8e4m3⟩
  | .local _ .vmem, ⟨8, _⟩ => ⟨S1024x4096, .fp8e4m3⟩
  | .local _ .vmem, ⟨9, _⟩ => ⟨S512x1024, .fp8e5m2⟩
  | .local _ .vmem, ⟨10, _⟩ => ⟨S512x1024, .fp8e5m2⟩
  | .local _ .vmem, ⟨11, _⟩ => ⟨S512x1, .f32⟩
  | .local _ .vmem, ⟨12, _⟩ => ⟨S512x1, .f32⟩
  | .local _ .vmem, ⟨13, _⟩ => ⟨S512x4096, .bf16⟩
  | .local _ .vmem, ⟨14, _⟩ => ⟨S512x11264, .f32⟩
  | .local _ .vmem, ⟨15, _⟩ => ⟨S512x128, .f32⟩
  | .local _ .vmem, ⟨16, _⟩ => ⟨S512x128, .f32⟩
  | _, _ => ⟨S6x512x4096, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![7, 11], ![false, false]⟩

def k0_cond3 (i : grid0.Coords) : BitVec 1 :=
  let arg0 : BitVec 32 := BitVec.ofNat 32 (i 0).val
  let c0_i32_4 : BitVec 32 := 0#32
  let v10 : BitVec 1 := Scalar.cmpi .eq arg0 c0_i32_4
  let arg1 : BitVec 32 := BitVec.ofNat 32 (i 1).val
  let c10_i32 : BitVec 32 := 10#32
  let v15 : BitVec 1 := Scalar.cmpi .slt arg1 c10_i32
  let v16 : BitVec 1 := Scalar.andi v10 v15
  let v17 : BitVec 32 := Scalar.extui v16
  let c0_i32_8 : BitVec 32 := 0#32
  let v18 : BitVec 1 := Scalar.cmpi .ne v17 c0_i32_8
  v18

def k0_mult1 (i : grid0.Coords) : BitVec 32 :=
  let arg1 : BitVec 32 := BitVec.ofNat 32 (i 1).val
  let c1024_i32 : BitVec 32 := 1024#32
  let v39 : BitVec 32 := Scalar.muli arg1 c1024_i32
  let c0_i32_19 : BitVec 32 := 0#32
  let v40 : BitVec 32 := Scalar.addi v39 c0_i32_19
  v40
def k0_off1 (i : grid0.Coords) (c0_i32_19 : BitVec 32) : Fin 2 → Nat :=
  let c0_37 : Index := 0#32
  let arg1 : BitVec 32 := BitVec.ofNat 32 (i 1).val
  let c1024_i32 : BitVec 32 := 1024#32
  let v39 : BitVec 32 := Scalar.muli arg1 c1024_i32
  let v40 : BitVec 32 := Scalar.addi v39 c0_i32_19
  let v41 : BitVec 32 := v40
  let v84 : Index := Scalar.indexCast v41
  ![0, v84.toNat]
def k0_mult2 (i : grid0.Coords) : BitVec 32 :=
  let arg1 : BitVec 32 := BitVec.ofNat 32 (i 1).val
  let c1024_i32_42 : BitVec 32 := 1024#32
  let v97 : BitVec 32 := Scalar.muli arg1 c1024_i32_42
  let c256_i32 : BitVec 32 := 256#32
  let v98 : BitVec 32 := Scalar.addi v97 c256_i32
  v98
def k0_mult3 (i : grid0.Coords) : BitVec 32 :=
  let arg1 : BitVec 32 := BitVec.ofNat 32 (i 1).val
  let c1024_i32_67 : BitVec 32 := 1024#32
  let v155 : BitVec 32 := Scalar.muli arg1 c1024_i32_67
  let c512_i32 : BitVec 32 := 512#32
  let v156 : BitVec 32 := Scalar.addi v155 c512_i32
  v156
def k0_mult4 (i : grid0.Coords) : BitVec 32 :=
  let arg1 : BitVec 32 := BitVec.ofNat 32 (i 1).val
  let c1024_i32_92 : BitVec 32 := 1024#32
  let v213 : BitVec 32 := Scalar.muli arg1 c1024_i32_92
  let c768_i32 : BitVec 32 := 768#32
  let v214 : BitVec 32 := Scalar.addi v213 c768_i32
  v214
def k0_cond4 (i : grid0.Coords) : BitVec 1 :=
  let arg0 : BitVec 32 := BitVec.ofNat 32 (i 0).val
  let c0_i32_4 : BitVec 32 := 0#32
  let v10 : BitVec 1 := Scalar.cmpi .eq arg0 c0_i32_4
  let arg1 : BitVec 32 := BitVec.ofNat 32 (i 1).val
  let c10_i32_9 : BitVec 32 := 10#32
  let v19 : BitVec 1 := Scalar.cmpi .eq arg1 c10_i32_9
  let v20 : BitVec 1 := Scalar.andi v10 v19
  let v21 : BitVec 32 := Scalar.extui v20
  let c0_i32_10 : BitVec 32 := 0#32
  let v22 : BitVec 1 := Scalar.cmpi .ne v21 c0_i32_10
  v22

def k0_mult5 (i : grid0.Coords) : BitVec 32 :=
  let arg1 : BitVec 32 := BitVec.ofNat 32 (i 1).val
  let c1024_i32 : BitVec 32 := 1024#32
  let v39 : BitVec 32 := Scalar.muli arg1 c1024_i32
  let c0_i32_19 : BitVec 32 := 0#32
  let v40 : BitVec 32 := Scalar.addi v39 c0_i32_19
  v40
def k0_off2 (i : grid0.Coords) (c0_i32_19 : BitVec 32) : Fin 2 → Nat :=
  let c0_37 : Index := 0#32
  let arg1 : BitVec 32 := BitVec.ofNat 32 (i 1).val
  let c1024_i32 : BitVec 32 := 1024#32
  let v39 : BitVec 32 := Scalar.muli arg1 c1024_i32
  let v40 : BitVec 32 := Scalar.addi v39 c0_i32_19
  let v41 : BitVec 32 := v40
  let v84 : Index := Scalar.indexCast v41
  ![0, v84.toNat]
def k0_mult6 (i : grid0.Coords) : BitVec 32 :=
  let arg1 : BitVec 32 := BitVec.ofNat 32 (i 1).val
  let c1024_i32_42 : BitVec 32 := 1024#32
  let v97 : BitVec 32 := Scalar.muli arg1 c1024_i32_42
  let c256_i32 : BitVec 32 := 256#32
  let v98 : BitVec 32 := Scalar.addi v97 c256_i32
  v98
def k0_mult7 (i : grid0.Coords) : BitVec 32 :=
  let arg1 : BitVec 32 := BitVec.ofNat 32 (i 1).val
  let c1024_i32_67 : BitVec 32 := 1024#32
  let v155 : BitVec 32 := Scalar.muli arg1 c1024_i32_67
  let c512_i32 : BitVec 32 := 512#32
  let v156 : BitVec 32 := Scalar.addi v155 c512_i32
  v156
def k0_cond5 (i : grid0.Coords) : BitVec 1 :=
  let arg0 : BitVec 32 := BitVec.ofNat 32 (i 0).val
  let c0_i32_5 : BitVec 32 := 0#32
  let v11 : BitVec 1 := Scalar.cmpi .sgt arg0 c0_i32_5
  let c6_i32_6 : BitVec 32 := 6#32
  let v12 : BitVec 1 := Scalar.cmpi .slt arg0 c6_i32_6
  let v13 : BitVec 1 := Scalar.andi v11 v12
  let arg1 : BitVec 32 := BitVec.ofNat 32 (i 1).val
  let c10_i32_11 : BitVec 32 := 10#32
  let v23 : BitVec 1 := Scalar.cmpi .slt arg1 c10_i32_11
  let v24 : BitVec 1 := Scalar.andi v13 v23
  let v25 : BitVec 32 := Scalar.extui v24
  let c0_i32_12 : BitVec 32 := 0#32
  let v26 : BitVec 1 := Scalar.cmpi .ne v25 c0_i32_12
  v26

def k0_mult8 (i : grid0.Coords) : BitVec 32 :=
  let arg1 : BitVec 32 := BitVec.ofNat 32 (i 1).val
  let c1024_i32 : BitVec 32 := 1024#32
  let v39 : BitVec 32 := Scalar.muli arg1 c1024_i32
  let c0_i32_19 : BitVec 32 := 0#32
  let v40 : BitVec 32 := Scalar.addi v39 c0_i32_19
  v40
def k0_off3 (i : grid0.Coords) (c0_i32_19 : BitVec 32) : Fin 2 → Nat :=
  let c0 : Index := 0#32
  let arg1 : BitVec 32 := BitVec.ofNat 32 (i 1).val
  let c1024_i32 : BitVec 32 := 1024#32
  let v39 : BitVec 32 := Scalar.muli arg1 c1024_i32
  let v40 : BitVec 32 := Scalar.addi v39 c0_i32_19
  let v41 : BitVec 32 := v40
  let v42 : Index := Scalar.indexCast v41
  ![0, v42.toNat]
def k0_mult9 (i : grid0.Coords) : BitVec 32 :=
  let arg1 : BitVec 32 := BitVec.ofNat 32 (i 1).val
  let c1024_i32_49 : BitVec 32 := 1024#32
  let v108 : BitVec 32 := Scalar.muli arg1 c1024_i32_49
  let c256_i32 : BitVec 32 := 256#32
  let v109 : BitVec 32 := Scalar.addi v108 c256_i32
  v109
def k0_mult10 (i : grid0.Coords) : BitVec 32 :=
  let arg1 : BitVec 32 := BitVec.ofNat 32 (i 1).val
  let c1024_i32_81 : BitVec 32 := 1024#32
  let v177 : BitVec 32 := Scalar.muli arg1 c1024_i32_81
  let c512_i32 : BitVec 32 := 512#32
  let v178 : BitVec 32 := Scalar.addi v177 c512_i32
  v178
def k0_mult11 (i : grid0.Coords) : BitVec 32 :=
  let arg1 : BitVec 32 := BitVec.ofNat 32 (i 1).val
  let c1024_i32_113 : BitVec 32 := 1024#32
  let v246 : BitVec 32 := Scalar.muli arg1 c1024_i32_113
  let c768_i32 : BitVec 32 := 768#32
  let v247 : BitVec 32 := Scalar.addi v246 c768_i32
  v247
def k0_cond6 (i : grid0.Coords) : BitVec 1 :=
  let arg0 : BitVec 32 := BitVec.ofNat 32 (i 0).val
  let c0_i32_5 : BitVec 32 := 0#32
  let v11 : BitVec 1 := Scalar.cmpi .sgt arg0 c0_i32_5
  let c6_i32_6 : BitVec 32 := 6#32
  let v12 : BitVec 1 := Scalar.cmpi .slt arg0 c6_i32_6
  let v13 : BitVec 1 := Scalar.andi v11 v12
  let arg1 : BitVec 32 := BitVec.ofNat 32 (i 1).val
  let c10_i32_13 : BitVec 32 := 10#32
  let v27 : BitVec 1 := Scalar.cmpi .eq arg1 c10_i32_13
  let v28 : BitVec 1 := Scalar.andi v13 v27
  let v29 : BitVec 32 := Scalar.extui v28
  let c0_i32_14 : BitVec 32 := 0#32
  let v30 : BitVec 1 := Scalar.cmpi .ne v29 c0_i32_14
  v30

def k0_mult12 (i : grid0.Coords) : BitVec 32 :=
  let arg1 : BitVec 32 := BitVec.ofNat 32 (i 1).val
  let c1024_i32 : BitVec 32 := 1024#32
  let v39 : BitVec 32 := Scalar.muli arg1 c1024_i32
  let c0_i32_19 : BitVec 32 := 0#32
  let v40 : BitVec 32 := Scalar.addi v39 c0_i32_19
  v40
def k0_off4 (i : grid0.Coords) (c0_i32_19 : BitVec 32) : Fin 2 → Nat :=
  let c0 : Index := 0#32
  let arg1 : BitVec 32 := BitVec.ofNat 32 (i 1).val
  let c1024_i32 : BitVec 32 := 1024#32
  let v39 : BitVec 32 := Scalar.muli arg1 c1024_i32
  let v40 : BitVec 32 := Scalar.addi v39 c0_i32_19
  let v41 : BitVec 32 := v40
  let v42 : Index := Scalar.indexCast v41
  ![0, v42.toNat]
def k0_mult13 (i : grid0.Coords) : BitVec 32 :=
  let arg1 : BitVec 32 := BitVec.ofNat 32 (i 1).val
  let c1024_i32_49 : BitVec 32 := 1024#32
  let v108 : BitVec 32 := Scalar.muli arg1 c1024_i32_49
  let c256_i32 : BitVec 32 := 256#32
  let v109 : BitVec 32 := Scalar.addi v108 c256_i32
  v109
def k0_mult14 (i : grid0.Coords) : BitVec 32 :=
  let arg1 : BitVec 32 := BitVec.ofNat 32 (i 1).val
  let c1024_i32_81 : BitVec 32 := 1024#32
  let v177 : BitVec 32 := Scalar.muli arg1 c1024_i32_81
  let c512_i32 : BitVec 32 := 512#32
  let v178 : BitVec 32 := Scalar.addi v177 c512_i32
  v178
def k0_cond7 (i : grid0.Coords) : BitVec 1 :=
  let arg0 : BitVec 32 := BitVec.ofNat 32 (i 0).val
  let c6_i32_7 : BitVec 32 := 6#32
  let v14 : BitVec 1 := Scalar.cmpi .eq arg0 c6_i32_7
  let arg1 : BitVec 32 := BitVec.ofNat 32 (i 1).val
  let c10_i32_15 : BitVec 32 := 10#32
  let v31 : BitVec 1 := Scalar.cmpi .slt arg1 c10_i32_15
  let v32 : BitVec 1 := Scalar.andi v14 v31
  let v33 : BitVec 32 := Scalar.extui v32
  let c0_i32_16 : BitVec 32 := 0#32
  let v34 : BitVec 1 := Scalar.cmpi .ne v33 c0_i32_16
  v34

def k0_mult15 (i : grid0.Coords) : BitVec 32 :=
  let arg1 : BitVec 32 := BitVec.ofNat 32 (i 1).val
  let c1024_i32 : BitVec 32 := 1024#32
  let v39 : BitVec 32 := Scalar.muli arg1 c1024_i32
  let c0_i32_19 : BitVec 32 := 0#32
  let v40 : BitVec 32 := Scalar.addi v39 c0_i32_19
  v40
def k0_off5 (i : grid0.Coords) (c0_i32_19 : BitVec 32) : Fin 2 → Nat :=
  let c0 : Index := 0#32
  let arg1 : BitVec 32 := BitVec.ofNat 32 (i 1).val
  let c1024_i32 : BitVec 32 := 1024#32
  let v39 : BitVec 32 := Scalar.muli arg1 c1024_i32
  let v40 : BitVec 32 := Scalar.addi v39 c0_i32_19
  let v41 : BitVec 32 := v40
  let v42 : Index := Scalar.indexCast v41
  ![0, v42.toNat]
def k0_mult16 (i : grid0.Coords) : BitVec 32 :=
  let arg1 : BitVec 32 := BitVec.ofNat 32 (i 1).val
  let c1024_i32_25 : BitVec 32 := 1024#32
  let v53 : BitVec 32 := Scalar.muli arg1 c1024_i32_25
  let c256_i32 : BitVec 32 := 256#32
  let v54 : BitVec 32 := Scalar.addi v53 c256_i32
  v54
def k0_mult17 (i : grid0.Coords) : BitVec 32 :=
  let arg1 : BitVec 32 := BitVec.ofNat 32 (i 1).val
  let c1024_i32_32 : BitVec 32 := 1024#32
  let v67 : BitVec 32 := Scalar.muli arg1 c1024_i32_32
  let c512_i32 : BitVec 32 := 512#32
  let v68 : BitVec 32 := Scalar.addi v67 c512_i32
  v68
def k0_mult18 (i : grid0.Coords) : BitVec 32 :=
  let arg1 : BitVec 32 := BitVec.ofNat 32 (i 1).val
  let c1024_i32_39 : BitVec 32 := 1024#32
  let v81 : BitVec 32 := Scalar.muli arg1 c1024_i32_39
  let c768_i32 : BitVec 32 := 768#32
  let v82 : BitVec 32 := Scalar.addi v81 c768_i32
  v82
def k0_cond8 (i : grid0.Coords) : BitVec 1 :=
  let arg0 : BitVec 32 := BitVec.ofNat 32 (i 0).val
  let c6_i32_7 : BitVec 32 := 6#32
  let v14 : BitVec 1 := Scalar.cmpi .eq arg0 c6_i32_7
  let arg1 : BitVec 32 := BitVec.ofNat 32 (i 1).val
  let c10_i32_17 : BitVec 32 := 10#32
  let v35 : BitVec 1 := Scalar.cmpi .eq arg1 c10_i32_17
  let v36 : BitVec 1 := Scalar.andi v14 v35
  let v37 : BitVec 32 := Scalar.extui v36
  let c0_i32_18 : BitVec 32 := 0#32
  let v38 : BitVec 1 := Scalar.cmpi .ne v37 c0_i32_18
  v38

def k0_mult19 (i : grid0.Coords) : BitVec 32 :=
  let arg1 : BitVec 32 := BitVec.ofNat 32 (i 1).val
  let c1024_i32 : BitVec 32 := 1024#32
  let v39 : BitVec 32 := Scalar.muli arg1 c1024_i32
  let c0_i32_19 : BitVec 32 := 0#32
  let v40 : BitVec 32 := Scalar.addi v39 c0_i32_19
  v40
def k0_off6 (i : grid0.Coords) (c0_i32_19 : BitVec 32) : Fin 2 → Nat :=
  let c0 : Index := 0#32
  let arg1 : BitVec 32 := BitVec.ofNat 32 (i 1).val
  let c1024_i32 : BitVec 32 := 1024#32
  let v39 : BitVec 32 := Scalar.muli arg1 c1024_i32
  let v40 : BitVec 32 := Scalar.addi v39 c0_i32_19
  let v41 : BitVec 32 := v40
  let v42 : Index := Scalar.indexCast v41
  ![0, v42.toNat]
def k0_mult20 (i : grid0.Coords) : BitVec 32 :=
  let arg1 : BitVec 32 := BitVec.ofNat 32 (i 1).val
  let c1024_i32_25 : BitVec 32 := 1024#32
  let v53 : BitVec 32 := Scalar.muli arg1 c1024_i32_25
  let c256_i32 : BitVec 32 := 256#32
  let v54 : BitVec 32 := Scalar.addi v53 c256_i32
  v54
def k0_mult21 (i : grid0.Coords) : BitVec 32 :=
  let arg1 : BitVec 32 := BitVec.ofNat 32 (i 1).val
  let c1024_i32_32 : BitVec 32 := 1024#32
  let v67 : BitVec 32 := Scalar.muli arg1 c1024_i32_32
  let c512_i32 : BitVec 32 := 512#32
  let v68 : BitVec 32 := Scalar.addi v67 c512_i32
  v68
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let arg0 : BitVec 32 := BitVec.ofNat 32 (i 0).val
  let c0_i32_0 : BitVec 32 := 0#32
  let v1 : BitVec 1 := Scalar.cmpi .sgt arg0 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.minsi arg0 c5_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.minsi arg0 c5_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.minsi arg0 c5_i32
  let c6_i32 : BitVec 32 := 6#32
  let v1 : BitVec 1 := Scalar.cmpi .slt arg0 c6_i32
  let c10_i32 : BitVec 32 := 10#32
  let v2 : BitVec 32 := Scalar.select v1 arg1 c10_i32
  let c0_i32 : BitVec 32 := 0#32
  ![v0.toNat, v2.toNat]

def cc0_transform_4 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 1 := Scalar.cmpi .slt arg0 c6_i32
  let c10_i32 : BitVec 32 := 10#32
  let v1 : BitVec 32 := Scalar.select v0 arg1 c10_i32
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .sgt arg0 c0_i32_0
  let c0_i32_1 : BitVec 32 := 0#32
  let v3 : BitVec 32 := Scalar.select v2 arg1 c0_i32_1
  let c0_i32_2 : BitVec 32 := 0#32
  ![v1.toNat, v3.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x4096 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x5 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1024 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x4096 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .fp8e5m2 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Proof.Tokens.lean ====
/-
  A weight gradient over the tokens: the product that each of the three weight-gradient kernels computes, block by block,
  and its sum with the tokens numbered by batch and position, as the references number them.
-/
module

public import Idealize.ShloMosaic.Lib.Pipeline.ValueKit

@[expose] public section

noncomputable section

open Idealize.ShloMosaic

namespace Cert.Tokens

/-- A sum over the 3072 tokens in their flat numbering is the double sum over batch and position. -/
theorem sum_tokens (f : Fin 3072 → EReal) :
    ∑ x, f x = ∑ b : Fin 6, ∑ s : Fin 512, f ⟨512 * b.val + s.val, by omega⟩ := by
  rw [← Equiv.sum_comp (finProdFinEquiv (m := 6) (n := 512)) f, Fintype.sum_prod_type]
  refine Finset.sum_congr rfl fun b _ => Finset.sum_congr rfl fun s _ => congrArg f (Fin.ext ?_)
  show s.val + 512 * b.val = 512 * b.val + s.val
  omega

/-- The weight gradient over the flat token axis: at (d, n) the sum over the tokens of the scaled left entry times the
scaled right entry, times the row's gain. -/
def gradient {M N : ℕ} (a : (⟨2, ![3072, M]⟩ : Shape).Idx → EReal) (b : (⟨2, ![3072, N]⟩ : Shape).Idx → EReal)
    (sa sb : (⟨2, ![3072, 1]⟩ : Shape).Idx → EReal) (gain : (⟨2, ![M, 1]⟩ : Shape).Idx → EReal) :
    (⟨2, ![M, N]⟩ : Shape).Idx → EReal := fun j =>
  (∑ x : Fin 3072, a (ix2 x (j 0)) * sa (ix2 x 0) * (b (ix2 x (j 1)) * sb (ix2 x 0))) * gain (ix2 (j 0) 0)

/-- An entry of the weight gradient depends on its own column of each operand and on its own row's gain only. -/
theorem gradient_congr {M N M' N' : ℕ} {a : (⟨2, ![3072, M]⟩ : Shape).Idx → EReal} {b : (⟨2, ![3072, N]⟩ : Shape).Idx → EReal}
    {sa sb : (⟨2, ![3072, 1]⟩ : Shape).Idx → EReal} {gain : (⟨2, ![M, 1]⟩ : Shape).Idx → EReal}
    {a' : (⟨2, ![3072, M']⟩ : Shape).Idx → EReal} {b' : (⟨2, ![3072, N']⟩ : Shape).Idx → EReal}
    {sa' sb' : (⟨2, ![3072, 1]⟩ : Shape).Idx → EReal} {gain' : (⟨2, ![M', 1]⟩ : Shape).Idx → EReal}
    {j : (⟨2, ![M, N]⟩ : Shape).Idx} {j' : (⟨2, ![M', N']⟩ : Shape).Idx}
    (ha : ∀ x, a (ix2 x (j 0)) = a' (ix2 x (j' 0))) (hb : ∀ x, b (ix2 x (j 1)) = b' (ix2 x (j' 1)))
    (hsa : ∀ x, sa (ix2 x 0) = sa' (ix2 x 0)) (hsb : ∀ x, sb (ix2 x 0) = sb' (ix2 x 0))
    (hg : gain (ix2 (j 0) 0) = gain' (ix2 (j' 0) 0)) : gradient a b sa sb gain j = gradient a' b' sa' sb' gain' j' := by
  unfold gradient
  simp only [ha, hb, hsa, hsb, hg]

end Cert.Tokens

end
-- ==== Proof.QkvValue.lean ====
/-
  dw_qkv: what one block of the kernel computes, and what its result array holds after the run.
-/
module

public import proofs.«01_k».proof.Proof.Gen.QkvKernelIdeal.Frame
public import proofs.«01_k».proof.Proof.Tokens

@[expose] public section

set_option maxRecDepth 16384

noncomputable section

open Idealize.ShloMosaic Idealize.ShloMosaic.TcCoe Idealize.SL.Sem

namespace Cert.QkvKernelIdeal.DwValue

open Cert.QkvKernelIdeal Cert.QkvKernelIdeal.Gen

variable (m : (ℓ : Loc nD τ sig) → Buf (Elt Ideal) ℓ) (ρ : Dev nD → PrngReg)

/-- What the kernel stores for a block is the weight gradient of the block's windows. -/
theorem block_eq (a : Vec Ideal S3072x1024 .fp8e4m3) (sa : Vec Ideal S3072x1 .f32) (b : Vec Ideal S3072x1024 .fp8e5m2)
    (sb : Vec Ideal S3072x1 .f32) (gain : Vec Ideal S1024x1 .f32) (j : S1024x1024.Idx) :
    k0_pay1 a sa b sb gain j = Tokens.gradient a b sa sb gain j := by
  unfold k0_pay1 Tokens.gradient
  pointwise

/-- The weight gradient of the whole arrays, as the host's reshapes leave them. -/
abbrev result (c : Dev nD) : Buf (Elt Ideal) ((c : Thread nD τ).loc main_v5) :=
  Tokens.gradient (M := 4096) (N := 12288) (V m c main_v0) (V m c main_v1) (V m c main_v2) (V m c main_v3) (V m c main_v4)

/-- Where each window stands at a grid point. -/
theorem idx0 : ∀ t, win0_0.index t = ![0, t.val / 12] := by decide +kernel
theorem idx1 : ∀ t, win0_1.index t = ![0, t.val % 12] := by decide +kernel
theorem idx2 : ∀ t, win0_2.index t = ![0, 0] := by decide +kernel
theorem idx3 : ∀ t, win0_3.index t = ![0, 0] := by decide +kernel
theorem idx4 : ∀ t, win0_4.index t = ![t.val / 12, 0] := by decide +kernel
theorem idx5 : ∀ t, win0_5.index t = ![t.val / 12, t.val % 12] := by decide +kernel

/-- The result array after the run is the weight gradient: its blocks tile it, and each is the block product of its windows. -/
theorem final (c : Dev nD) : (dats m 0 c).arrAt 5 cfg0.N = result m c := by
  refine (dats m 0 c).arrAt_eq_of_covers 5 _ (by decide +kernel) fun t hf y => ?_
  blk_simp
  rw [after0_5]
  frame_out
  rw [block_eq]
  refine Tokens.gradient_congr (fun x => ?_) (fun x => ?_) (fun x => ?_) (fun x => ?_) ?_
  · blk_point [iblk, V, idx0 t, idx5 t]
  · blk_point [iblk, V, idx1 t, idx5 t]
  · blk_point [iblk, V, idx2 t, idx5 t]
  · blk_point [iblk, V, idx3 t, idx5 t]
  · blk_point [iblk, V, idx4 t, idx5 t]

end Cert.QkvKernelIdeal.DwValue
end
-- ==== Proof.QkvReference.lean ====
/-
  dw_qkv: what the reference computes, entry by entry, in the terms of its arguments.
-/
module

public import proofs.«01_k».proof.Proof.Gen.QkvReferenceIdeal.Frame
public import proofs.«01_k».proof.Proof.Tokens

@[expose] public section

set_option maxRecDepth 16384

noncomputable section

open Idealize.ShloMosaic Idealize.ShloMosaic.TcCoe Idealize.SL.Sem

namespace Cert.QkvReferenceIdeal.DwValue

open Cert.QkvReferenceIdeal Cert.QkvReferenceIdeal.Gen

variable (m : (ℓ : Loc nD τ sig) → Buf (Elt Ideal) ℓ) (ρ : Dev nD → PrngReg)

/-- The reference's entry at (d, n), n being the flat number of (projection, head, position in the head): gamma times the
sum over batch and position of the scaled codes' product. -/
def entry (dqkv : S6x512x3x32x128.Idx → EReal) (dqkvScale : S6x512.Idx → EReal) (xhat : S6x512x4096.Idx → EReal)
    (xhatScale : S6x512.Idx → EReal) (gamma : S4096.Idx → EReal) : S4096x12288.Idx → EReal := fun j =>
  gamma (ix1 (j 0)) * ∑ b : Fin 6, ∑ s : Fin 512, xhat (ix3 b s (j 0)) * xhatScale (ix2 b s) *
    (dqkv (ix5 b s ⟨(j 1).val / 4096, by have := (j 1).isLt; change _ < 12288 at this; omega⟩
      ⟨(j 1).val / 128 % 32, by omega⟩ ⟨(j 1).val % 128, by omega⟩) * dqkvScale (ix2 b s))

/-- The reference's one step stores this entry at each index. -/
theorem step_eq (dqkv : Vec Ideal S6x512x3x32x128 .fp8e5m2) (dqkvScale : Vec Ideal S6x512 .f32)
    (xhat : Vec Ideal S6x512x4096 .fp8e4m3) (xhatScale : Vec Ideal S6x512 .f32) (gamma : Vec Ideal S4096 .f32) (j : S4096x12288.Idx) :
    k0_pay1 dqkv dqkvScale xhat xhatScale gamma j = entry dqkv dqkvScale xhat xhatScale gamma j := by
  unfold k0_pay1 entry
  pointwise

/-- The reference's result. -/
abbrev result (c : Dev nD) : Buf (Elt Ideal) ((c : Thread nD τ).loc main_v0) :=
  entry (m ((c : Thread nD τ).loc main_arg0)) (m ((c : Thread nD τ).loc main_arg1)) (m ((c : Thread nD τ).loc main_arg2))
    (m ((c : Thread nD τ).loc main_arg3)) (m ((c : Thread nD τ).loc main_arg4))

/-- Every window is its whole array. -/
theorem idx0 : ∀ t, win0_0.index t = ![0, 0, 0, 0, 0] := by decide +kernel
theorem idx1 : ∀ t, win0_1.index t = ![0, 0] := by decide +kernel
theorem idx2 : ∀ t, win0_2.index t = ![0, 0, 0] := by decide +kernel
theorem idx3 : ∀ t, win0_3.index t = ![0, 0] := by decide +kernel
theorem idx4 : ∀ t, win0_4.index t = ![0] := by decide +kernel
theorem idx5 : ∀ t, win0_5.index t = ![0, 0] := by decide +kernel

/-- The reference's result array after its run. -/
theorem final (c : Dev nD) : (dats m 0 c).arrAt 5 cfg0.N = result m c := by
  refine (dats m 0 c).arrAt_eq_of_covers 5 _ (by decide +kernel) fun t hf y => ?_
  blk_simp
  rw [after0_5]
  frame_out
  rw [step_eq]
  unfold result entry
  blk_point [iblk, V, idx0 t, idx1 t, idx2 t, idx3 t, idx4 t, idx5 t]

end Cert.QkvReferenceIdeal.DwValue
end
-- ==== Proof.QkvEquation.lean ====
/-
  dw_qkv: the kernel's result is the reference's, entry by entry.
-/
module

public import proofs.«01_k».proof.Proof.QkvValue
public import proofs.«01_k».proof.Proof.QkvReference
public import Idealize.ShloMosaic.Lib.StableHlo.ReadAt
public import Idealize.ShloMosaic.Lib.Claim
public import proofs.«01_k».proof.Defs

@[expose] public section

set_option maxRecDepth 16384

noncomputable section

open Idealize.ShloMosaic Idealize.ShloMosaic.TcCoe Idealize.SL.Sem

namespace Cert.QkvKernelIdeal.DwValue

open Cert.QkvKernelIdeal Cert.QkvKernelIdeal.Gen

variable (m : (ℓ : Loc nD τ sig) → Buf (Elt Ideal) ℓ)

/-- The weight gradient of the reshaped arguments is the reference's entry: the reshapes only number the tokens and the
columns differently. -/
theorem result_eq (c : Dev nD) (j : S4096x12288.Idx) : result m c j =
    Cert.QkvReferenceIdeal.DwValue.entry (m ((c : Thread nD τ).loc main_arg0)) (m ((c : Thread nD τ).loc main_arg1))
      (m ((c : Thread nD τ).loc main_arg2)) (m ((c : Thread nD τ).loc main_arg3)) (m ((c : Thread nD τ).loc main_arg4)) j := by
  unfold result Tokens.gradient Cert.QkvReferenceIdeal.DwValue.entry V
  rw [Tokens.sum_tokens, mul_comm]
  after_reads_at

/-- What one kernel's certificate needs: the reference's run ends at the value the kernel's run ends at. -/
theorem algebraic : Cert.algebraic_QkvKernelIdeal_QkvReferenceIdeal := by
  intro m ρ m' ρ' _ hagree
  refine ⟨fun c => result m c, ?_, ?_⟩
  · refine (θ_run _ _ _).mono (fun _ h c => ⟨((h c).1 5).trans (final m c), ?_, ?_, ?_, ?_, ?_⟩) (run_main m ρ)
    · exact ((h c).2 main_arg0 (Pipeline.mem_restRefs_of main_arg0 (by decide) (by decide))).trans (V_main_arg0 m c)
    · exact ((h c).2 main_arg1 (Pipeline.mem_restRefs_of main_arg1 (by decide) (by decide))).trans (V_main_arg1 m c)
    · exact ((h c).2 main_arg2 (Pipeline.mem_restRefs_of main_arg2 (by decide) (by decide))).trans (V_main_arg2 m c)
    · exact ((h c).2 main_arg3 (Pipeline.mem_restRefs_of main_arg3 (by decide) (by decide))).trans (V_main_arg3 m c)
    · exact ((h c).2 main_arg4 (Pipeline.mem_restRefs_of main_arg4 (by decide) (by decide))).trans (V_main_arg4 m c)
  · have e (c : Dev nD) : Cert.QkvReferenceIdeal.DwValue.result m' c = result m c := by
      obtain ⟨h0, h1, h2, h3, h4⟩ := hagree c
      funext j
      refine Eq.trans ?_ (result_eq m c j).symm
      unfold Cert.QkvReferenceIdeal.DwValue.result
      rw [h0, h1, h2, h3, h4]
    open Cert.QkvReferenceIdeal.Gen in
    refine (θ_run _ _ _).mono (fun _ h c => ⟨((h c).1 5).trans ((Cert.QkvReferenceIdeal.DwValue.final m' c).trans (e c)), ?_, ?_, ?_, ?_, ?_⟩)
      (Cert.QkvReferenceIdeal.Gen.run_main m' ρ')
    · exact ((h c).1 0).trans ((Cert.QkvReferenceIdeal.Gen.dats m' 0 c).arrAt_in 0 rfl _)
    · exact ((h c).1 1).trans ((Cert.QkvReferenceIdeal.Gen.dats m' 0 c).arrAt_in 1 rfl _)
    · exact ((h c).1 2).trans ((Cert.QkvReferenceIdeal.Gen.dats m' 0 c).arrAt_in 2 rfl _)
    · exact ((h c).1 3).trans ((Cert.QkvReferenceIdeal.Gen.dats m' 0 c).arrAt_in 3 rfl _)
    · exact ((h c).1 4).trans ((Cert.QkvReferenceIdeal.Gen.dats m' 0 c).arrAt_in 4 rfl _)

end Cert.QkvKernelIdeal.DwValue
end
-- ==== Proof.OutRun.lean ====
/-
  dw_out: one run of the kernel, at any float values. The blocks of g, of the gain and of the result overhang their arrays at the last block, so a staging buffer
  holds words there that nothing names; what a block's step stores is a function of the filled buffers, whatever those words are.
-/
module

public import proofs.«01_k».proof.Proof.Gen.OutKernelIdeal.Frame
public import proofs.«01_k».proof.Proof.Gen.OutKernelIdeal.Skeleton
public import Idealize.ShloMosaic.Lib.Pipeline.DatRel
public import Idealize.ShloMosaic.Lib.Pipeline.ArrRel
public import Idealize.ShloMosaic.Lib.Claim

@[expose] public section

set_option maxRecDepth 16384

noncomputable section

namespace Cert.OutKernelIdeal.DwRun

open Cert.OutKernelIdeal Cert.OutKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligationRel)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body -/

/-- What the body leaves in the result's buffer, from the five input buffers: its one store. -/
def stored (x0 : Vec F S3072x1024 .fp8e4m3) (x1 : Vec F S3072x1024 .fp8e5m2) (x2 : Vec F S3072x1 .f32) (x3 : Vec F S3072x1 .f32)
    (x4 : Vec F S1024x1 .f32) : Vec F S1024x1024 .bf16 :=
  View.canon [⟨Rect.unit (s := S1024x1024) ![0, 0] S1024x1024.size inb_S1024x1024_S1024x1024_0_0,
    k0_pay1 (View.ld x0 (Rect.unit (s := S3072x1024) ![0, 0] S3072x1024.size inb_S3072x1024_S3072x1024_0_0))
      (View.ld x2 (Rect.unit (s := S3072x1) ![0, 0] S3072x1.size inb_S3072x1_S3072x1_0_0))
      (View.ld x1 (Rect.unit (s := S3072x1024) ![0, 0] S3072x1024.size inb_S3072x1024_S3072x1024_0_0))
      (View.ld x3 (Rect.unit (s := S3072x1) ![0, 0] S3072x1.size inb_S3072x1_S3072x1_0_0))
      (View.ld x4 (Rect.unit (s := S1024x1) ![0, 0] S1024x1.size inb_S1024x1_S1024x1_0_0))⟩]

set_option maxHeartbeats 1000000 in
/-- The body on whole staging buffers: the inputs' are left as found, the result's holds what is stored. -/
theorem body_triple (c : Dev nD) (i : grid0.Coords) (arg2 : Memref sig .tc .vmem S3072x1024 .fp8e4m3) (harg2 : arg2.IsWhole)
    (arg3 : Memref sig .tc .vmem S3072x1024 .fp8e5m2) (harg3 : arg3.IsWhole) (arg4 : Memref sig .tc .vmem S3072x1 .f32) (harg4 : arg4.IsWhole)
    (arg5 : Memref sig .tc .vmem S3072x1 .f32) (harg5 : arg5.IsWhole) (arg6 : Memref sig .tc .vmem S1024x1 .f32) (harg6 : arg6.IsWhole)
    (arg7 : Memref sig .tc .vmem S1024x1024 .bf16) (harg7 : arg7.IsWhole) (x0 : Vec F S3072x1024 .fp8e4m3) (x1 : Vec F S3072x1024 .fp8e5m2)
    (x2 : Vec F S3072x1 .f32) (x3 : Vec F S3072x1 .f32) (x4 : Vec F S1024x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
          ∗ owns (c : Thread nD τ) arg5 fullShare x3 ∗ owns (c : Thread nD τ) arg6 fullShare x4
          ∗ owns (c : Thread nD τ) arg7 fullShare (stored x0 x1 x2 x3 x4)) -∗ K ⟨⟩))
      ⊢ wp frame (wpE (defs₀ (F := F)) Variants.none c none) Set.univ (cc0_dw_out i arg2 harg2 arg3 harg3 arg4 harg4 arg5 harg5 arg6 harg6 arg7 harg7) K := by
  simp only [cc0_dw_out_eq_skeleton]; unfold cc0_dw_out_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (View.cover_of_tiled [⟨_, _⟩] S1024x1024.size (by rfl))

/-! ## The proof data -/

/-- Window w's staging buffer at point t: its block where the block lies in the array, d elsewhere. -/
abbrev filled (c : Dev nD) (w : Fin cfg0.W) (t : Fin cfg0.N) (d : (cfg0.win w).block.Idx → Elt F (cfg0.win w).elt) :
    (cfg0.win w).block.Idx → Elt F (cfg0.win w).elt :=
  (cfg0.win w).fill (cfg0.grid.coords t) d (iblk m c w t)

/-- The proof data: the arrays as the call finds them; the input buffers keep their blocks. -/
def dat (c : Dev nD) : Dat τ (Elt F) Unit ℕ (UR sig nD τ) ℕ cfg0 c where
  A w := V m c (Pipeline.arrRef spec0 w)
  after w t := filled m c w t fun _ => Classical.arbitrary _
  Φ _ := Pipeline.ΦA spec0 c
  q _ := fullShare
  owed _ := 0

theorem A_eq (c : Dev nD) (w : Fin cfg0.W) : (dat m c).A w = V m c (Pipeline.arrRef spec0 w) := by dsimp only [dat]

/-- The result's window is the one whose buffer is described by a relation. -/
def marked : Fin cfg0.W → Bool := fun | 5 => true | _ => false

/-- What the result's buffer may hold after point t: what the body stores from the filled input buffers. -/
def left (c : Dev nD) (w : Fin cfg0.W) (t : Fin cfg0.N) : ((cfg0.win w).block.Idx → Elt F (cfg0.win w).elt) → Prop :=
  match w with
  | ⟨5, _⟩ => fun X => ∃ d0 d4, X = stored (filled m c 0 t d0) (iblk m c 1 t) (iblk m c 2 t) (iblk m c 3 t) (filled m c 4 t d4)
  | _ => fun _ => True

/-- A cut of a block depends on the block's place only. -/
theorem clip_congr (w : Fin cfg0.W) (hw : (cfg0.win w).isOut = false) : ∀ t t' : Fin cfg0.N, (cfg0.win w).index t = (cfg0.win w).index t' →
    (cfg0.win w).clip (cfg0.grid.coords t) = (cfg0.win w).clip (cfg0.grid.coords t') := by
  revert w; decide +kernel

/-- An input's buffer holds its block at every point, fetched there or not. -/
theorem before_eq (c : Dev nD) (w : Fin cfg0.W) (hw : (cfg0.win w).isOut = false) (t : Fin cfg0.N) (d) :
    (dat m c).before w t d = filled m c w t d := by
  rw [(dat m c).before_in_eq_fetched w hw (fun _ => rfl) (clip_congr w hw)
    (fun t => (cfg0.win w).cut_fill _ _ _) t d]
  rfl

/-- Keeping its block, an input's buffer is again its block where that lies in the array. -/
theorem kept_eq (c : Dev nD) (w : Fin cfg0.W) (t : Fin cfg0.N) (d) :
    (cfg0.win w).fill (cfg0.grid.coords t) d ((cfg0.win w).cut (cfg0.grid.coords t) ((dat m c).after w t)) = filled m c w t d :=
  congrArg ((cfg0.win w).fill (cfg0.grid.coords t) d) ((cfg0.win w).cut_fill _ _ _)

/-! ## The body's obligation -/

/-- The body as the pipeline calls it at point t. -/
theorem defs₀_row (t : Fin cfg0.N) : defs₀ (F := F) .tc cfg0.body (cfg0.bodyArgs t (cfg0.slots t)) = bodyAt0 t := by
  unfold defs₀; rw [Defs.onTc_tc]

/-- One step of the pipeline: given the buffers before it, the body leaves what the relation allows. -/
theorem obligation (c : Dev nD) : BodyObligationRel (dat (F := F) m c) (defs₀ (F := F)) Variants.none () Set.univ marked (left m c) := fun t => by
  rw [bigSep_W0, bigSep_W0, defs₀_row]
  simp only [marked, before_eq m c 0 rfl, before_eq m c 1 rfl, before_eq m c 2 rfl, before_eq m c 3 rfl, before_eq m c 4 rfl]
  rw [show (dat m c).Φ t.succ = (dat m c).Φ t.castSucc from rfl,
    show (dat m c).owesAt () t.succ = (dat m c).owesAt () t.castSucc from rfl]
  have e0 : ∀ d, (win0 0).fill (grid0.coords t) d ((win0 0).cut (grid0.coords t) ((dat m c).after 0 t)) = filled m c 0 t d := kept_eq m c 0 t
  have e4 : ∀ d, (win0 4).fill (grid0.coords t) d ((win0 4).cut (grid0.coords t) ((dat m c).after 4 t)) = filled m c 4 t d := kept_eq m c 4 t
  simp only [e0, e4]
  unfold bodyAt0
  iintro ⟨HΦ, Ho, ⟨%d0, H0⟩, ⟨%d1, H1⟩, ⟨%d2, H2⟩, ⟨%d3, H3⟩, ⟨%d4, H4⟩, ⟨%Y, -, H5⟩⟩
  iapply (body_triple c (grid0.coords t) _ _ _ _ _ _ _ _ _ _ _ _ (filled m c 0 t d0) (filled m c 1 t d1) (filled m c 2 t d2)
    (filled m c 3 t d3) (filled m c 4 t d4) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexists d0; iexact H0
  isplitl [H1]; · iexact H1
  isplitl [H2]; · iexact H2
  isplitl [H3]; · iexact H3
  isplitl [H4]; · iexists d4; iexact H4
  iexists _; isplitr
  swap; · iexact H5
  ipureintro
  exact ⟨d0, d4, rfl⟩

/-! ## The run -/

set_option backward.isDefEq.respectTransparency.types false in
set_option maxHeartbeats 800000 in
/-- Every run ends, at the arrays that the relation describes and with every counter at zero. -/
theorem run : θ_run defs (onTc (τ := τ) (main (F := F))) (s₀ m ρ)
    (fun r => RDat.FramePost cfg0 (fun c => (dat m c).toRRel marked (left m c)) (V m) r ∧ r.2.sem = fun _ => 0) :=
  Pipeline.RDat.θ_run_frame (Q' := _) cfgs (0 : Fin 1) launch0 defs₀ Variants.none (fun c => (dat m c).toRRel marked (left m c)) m ρ main
    (hbody := fun c => (obligation m c).toRRel) (hshare := fun c => (dat m c).share_full fun _ => rfl) (howed := fun _ _ => rfl)
    (V := V m) (hmain := hmain m Variants.none) (hA := A_eq m) (hΦ := fun _ _ => rfl)

/-- The frame: the arguments end as they were, and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0) :=
  (θ_run defs _ _).mono (fun _ h => ⟨fun c => ⟨((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c)⟩, h.2⟩) (run m ρ)

end Cert.OutKernelIdeal.DwRun

end
-- ==== Proof.OutBits.lean ====
/-
  dw_out: the kernel's run at the machine's floats. The program is the ideal one's, read at other float values.
-/
module

public import proofs.«01_k».proof.Defs
public import proofs.«01_k».proof.Proof.OutRun
public import proofs.«01_k».proof.Proof.Gen.OutKernel

@[expose] public section

noncomputable section

open Idealize.ShloMosaic Idealize.SL.Sem

namespace Cert.OutKernel.DwRun

/-- The two programs have one body. -/
theorem defs₀_eq : Cert.OutKernel.defs₀ (F := Bits) = Cert.OutKernelIdeal.defs₀ (F := Bits) := by
  unfold Cert.OutKernel.defs₀ Cert.OutKernelIdeal.defs₀
  refine congrArg Defs.onTc (funext fun l => funext fun a => ?_)
  match l, a with
  | 0, _ => rfl
  | ⟨n + 1, h⟩, _ => exact absurd h (Nat.not_lt.2 (Nat.le_add_left _ _))

/-- So they have one table of procedures. -/
theorem defs_eq : Cert.OutKernel.defs (F := Bits) = Cert.OutKernelIdeal.defs (F := Bits) :=
  congrArg (Pipeline.defs Cert.OutKernelIdeal.pcfgs) defs₀_eq

/-- The frame at the machine's floats: the arguments end as they were, and every counter ends at zero. -/
theorem frame : Cert.quiescent_OutKernel (hOutKernel := Cert.OutKernel.Gen.facts) := fun m ρ _ => by
  have h := Cert.OutKernelIdeal.DwRun.frame (F := Bits) m ρ
  rw [← defs_eq] at h
  exact h

end Cert.OutKernel.DwRun

end
-- ==== Proof.OutValue.lean ====
/-
  dw_out: what one block of the kernel computes inside the arrays, and what its result array holds after the run.
-/
module

public import proofs.«01_k».proof.Proof.OutRun
public import proofs.«01_k».proof.Proof.Tokens

@[expose] public section

set_option maxRecDepth 16384

noncomputable section

open Idealize.ShloMosaic Idealize.ShloMosaic.TcCoe Idealize.SL.Sem
open Idealize.ShloMosaic.Pipeline (Dat RDat)

namespace Cert.OutKernelIdeal.DwValue

open Cert.OutKernelIdeal Cert.OutKernelIdeal.Gen Cert.OutKernelIdeal.DwRun

variable (m : (ℓ : Loc nD τ sig) → Buf (Elt Ideal) ℓ) (ρ : Dev nD → PrngReg)

/-- What the kernel stores for a block is the weight gradient of the block's buffers. -/
theorem block_eq (a : Vec Ideal S3072x1024 .fp8e4m3) (b : Vec Ideal S3072x1024 .fp8e5m2) (sa : Vec Ideal S3072x1 .f32)
    (sb : Vec Ideal S3072x1 .f32) (gain : Vec Ideal S1024x1 .f32) (j : S1024x1024.Idx) :
    stored a b sa sb gain j = Tokens.gradient a b sa sb gain j := by
  unfold stored
  frame_out
  unfold k0_pay1 Tokens.gradient
  pointwise

/-- Where each window stands at a grid point. -/
theorem idx0 : ∀ t, win0_0.index t = ![0, t.val / 4] := by decide +kernel
theorem idx1 : ∀ t, win0_1.index t = ![0, t.val % 4] := by decide +kernel
theorem idx2 : ∀ t, win0_2.index t = ![0, 0] := by decide +kernel
theorem idx3 : ∀ t, win0_3.index t = ![0, 0] := by decide +kernel
theorem idx4 : ∀ t, win0_4.index t = ![t.val / 4, 0] := by decide +kernel
theorem idx5 : ∀ t, win0_5.index t = ![t.val / 4, t.val % 4] := by decide +kernel

/-- Inside the array a filled buffer holds the window's block. -/
theorem filled_at (c : Dev nD) (w : Fin cfg0.W) (t : Fin cfg0.N) (d) (x : (cfg0.win w).block.Idx)
    (h : ∀ a, (x a).val < (cfg0.win w).xsize (cfg0.grid.coords t) a) : filled m c w t d x = iblk m c w t fun a => ⟨x a, h a⟩ := by
  unfold filled Pipeline.Window.fill
  rw [dif_pos (((cfg0.win w).moved_iff _ _).mpr h)]

/-- The row of blocks cuts g's columns, the gain's rows and the result's rows alike. -/
theorem cut0 : ∀ t, (cfg0.win 0).xsize (cfg0.grid.coords t) = ![3072, (cfg0.win 5).xsize (cfg0.grid.coords t) 0] := by decide +kernel
theorem cut4 : ∀ t, (cfg0.win 4).xsize (cfg0.grid.coords t) = ![(cfg0.win 5).xsize (cfg0.grid.coords t) 0, 1] := by decide +kernel

/-- The weight gradient of the whole arrays, as the host's operations leave them. -/
abbrev result (c : Dev nD) : Buf (Elt Ideal) ((c : Thread nD τ).loc main_v5) :=
  Tokens.gradient (M := 11008) (N := 4096) (V m c main_v1) (V m c main_v0) (V m c main_v3) (V m c main_v4) (V m c main_v2)

/-- Any run's result array is the weight gradient: its blocks tile it, and inside the array each is the block product of its windows. -/
theorem final (c : Dev nD) (after : (w : Fin cfg0.W) → (t : Fin cfg0.N) → (cfg0.win w).block.Idx → Elt Ideal (cfg0.win w).elt)
    (h : ∀ t, (cfg0.win 5).flush t = true → left m c 5 t (after 5 t)) :
    (((dat m c).toRRel marked (left m c)).withAfter after).arrAt 5 cfg0.N = result m c := by
  refine Dat.arrAt_eq_of_covers _ 5 _ (by decide +kernel) fun t hf y => ?_
  obtain ⟨d0, d4, e⟩ := h t hf
  rw [RDat.withAfter_after, e]
  blk_simp
  rw [block_eq]
  refine Tokens.gradient_congr (fun x => ?_) (fun x => ?_) (fun x => ?_) (fun x => ?_) ?_
  · refine (filled_at m c 0 t _ _ ?_).trans ?_
    · rw [cut0]; exact Fin.forall_fin_two.2 ⟨x.isLt, (y 0).isLt⟩
    · blk_point [iblk, V, idx0 t, idx5 t]
  · blk_point [iblk, V, idx1 t, idx5 t]
  · blk_point [iblk, V, idx2 t, idx5 t]
  · blk_point [iblk, V, idx3 t, idx5 t]
  · refine (filled_at m c 4 t _ _ ?_).trans ?_
    · rw [cut4]; exact Fin.forall_fin_two.2 ⟨(y 0).isLt, Nat.one_pos⟩
    · blk_point [iblk, V, idx4 t, idx5 t]

end Cert.OutKernelIdeal.DwValue

end
-- ==== Proof.OutReference.lean ====
/-
  dw_out: what the reference computes, entry by entry, in the terms of its arguments.
-/
module

public import proofs.«01_k».proof.Proof.Gen.OutReferenceIdeal.Frame
public import proofs.«01_k».proof.Proof.Tokens

@[expose] public section

set_option maxRecDepth 16384

noncomputable section

open Idealize.ShloMosaic Idealize.ShloMosaic.TcCoe Idealize.SL.Sem

namespace Cert.OutReferenceIdeal.DwValue

open Cert.OutReferenceIdeal Cert.OutReferenceIdeal.Gen

variable (m : (ℓ : Loc nD τ sig) → Buf (Elt Ideal) ℓ) (ρ : Dev nD → PrngReg)

/-- The reference's entry at (f, d): the sum over batch and position of the scaled codes' product. -/
def entry (dy : S6x512x4096.Idx → EReal) (dyScale : S6x512.Idx → EReal) (g : S6x512x11008.Idx → EReal) (gScale : S6x512.Idx → EReal) :
    S11008x4096.Idx → EReal := fun j =>
  ∑ b : Fin 6, ∑ s : Fin 512, g (ix3 b s (j 0)) * gScale (ix2 b s) * (dy (ix3 b s (j 1)) * dyScale (ix2 b s))

/-- The reference's one step stores this entry at each index. -/
theorem step_eq (dy : Vec Ideal S6x512x4096 .fp8e5m2) (dyScale : Vec Ideal S6x512 .f32) (g : Vec Ideal S6x512x11008 .fp8e4m3) (gScale : Vec Ideal S6x512 .f32)
    (j : S11008x4096.Idx) : k0_pay1 dy dyScale g gScale j = entry dy dyScale g gScale j := by
  unfold k0_pay1 entry
  pointwise

/-- The reference's result. -/
abbrev result (c : Dev nD) : Buf (Elt Ideal) ((c : Thread nD τ).loc main_v0) :=
  entry (m ((c : Thread nD τ).loc main_arg0)) (m ((c : Thread nD τ).loc main_arg1)) (m ((c : Thread nD τ).loc main_arg2)) (m ((c : Thread nD τ).loc main_arg3))

/-- Every window is its whole array. -/
theorem idx0 : ∀ t, win0_0.index t = ![0, 0, 0] := by decide +kernel
theorem idx1 : ∀ t, win0_1.index t = ![0, 0] := by decide +kernel
theorem idx2 : ∀ t, win0_2.index t = ![0, 0, 0] := by decide +kernel
theorem idx3 : ∀ t, win0_3.index t = ![0, 0] := by decide +kernel
theorem idx4 : ∀ t, win0_4.index t = ![0, 0] := by decide +kernel

/-- The reference's result array after its run. -/
theorem final (c : Dev nD) : (dats m 0 c).arrAt 4 cfg0.N = result m c := by
  refine (dats m 0 c).arrAt_eq_of_covers 4 _ (by decide +kernel) fun t hf y => ?_
  blk_simp
  rw [after0_4]
  frame_out
  rw [step_eq]
  unfold result entry
  blk_point [iblk, V, idx0 t, idx1 t, idx2 t, idx3 t, idx4 t]

end Cert.OutReferenceIdeal.DwValue

end
-- ==== Proof.OutEquation.lean ====
/-
  dw_out: the kernel's result is the reference's, entry by entry.
-/
module

public import proofs.«01_k».proof.Proof.OutValue
public import proofs.«01_k».proof.Proof.OutReference
public import Idealize.ShloMosaic.Lib.StableHlo.ReadAt
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat RDat)

namespace Cert.OutKernelIdeal.DwValue

open Cert.OutKernelIdeal Cert.OutKernelIdeal.Gen Cert.OutKernelIdeal.DwRun

variable (m : (ℓ : Loc nD τ sig) → Buf (Elt Ideal) ℓ) (ρ : Dev nD → PrngReg)

/-- The weight gradient of the reshaped arguments, its gain being 1 in every row, is the reference's entry: the reshapes only
number the tokens differently. -/
theorem result_eq (c : Dev nD) (j : S11008x4096.Idx) : result m c j =
    Cert.OutReferenceIdeal.DwValue.entry (m ((c : Thread nD τ).loc main_arg0)) (m ((c : Thread nD τ).loc main_arg1)) (m ((c : Thread nD τ).loc main_arg2)) (m ((c : Thread nD τ).loc main_arg3)) j := by
  unfold result Tokens.gradient Cert.OutReferenceIdeal.DwValue.entry V
  rw [Tokens.sum_tokens]
  after_reads_at

/-- What one kernel's certificate needs: the reference's run ends at the value the kernel's run ends at. -/
theorem algebraic : Cert.algebraic_OutKernelIdeal_OutReferenceIdeal := by
  intro m ρ m' ρ' _ hagree
  refine ⟨fun c => result m c, ?_, ?_⟩
  · refine (θ_run _ _ _).mono (fun _ h c => ?_) (run m ρ)
    obtain ⟨after, hL, hA⟩ := h.1.exists_exact c
    refine ⟨(hA 5).trans (final m c after fun t hf => (dat m c).toRRel_leaves (fgt := marked) rfl (hL 5 t hf)), ?_, ?_, ?_, ?_⟩
    · exact ((h.1 c).2 main_arg0 (Pipeline.mem_restRefs_of main_arg0 (by decide) (by decide))).trans (V_main_arg0 m c)
    · exact ((h.1 c).2 main_arg1 (Pipeline.mem_restRefs_of main_arg1 (by decide) (by decide))).trans (V_main_arg1 m c)
    · exact ((h.1 c).2 main_arg2 (Pipeline.mem_restRefs_of main_arg2 (by decide) (by decide))).trans (V_main_arg2 m c)
    · exact ((h.1 c).2 main_arg3 (Pipeline.mem_restRefs_of main_arg3 (by decide) (by decide))).trans (V_main_arg3 m c)
  · have e (c : Dev nD) : Cert.OutReferenceIdeal.DwValue.result m' c = result m c := by
      obtain ⟨h0, h1, h2, h3⟩ := hagree c
      funext j
      refine Eq.trans ?_ (result_eq m c j).symm
      unfold Cert.OutReferenceIdeal.DwValue.result
      rw [h0, h1, h2, h3]
    open Cert.OutReferenceIdeal.Gen in
    refine (θ_run _ _ _).mono (fun _ h c => ⟨((h c).1 4).trans ((Cert.OutReferenceIdeal.DwValue.final m' c).trans (e c)), ?_, ?_, ?_, ?_⟩)
      (Cert.OutReferenceIdeal.Gen.run_main m' ρ')
    · exact ((h c).1 0).trans ((Cert.OutReferenceIdeal.Gen.dats m' 0 c).arrAt_in 0 rfl _)
    · exact ((h c).1 1).trans ((Cert.OutReferenceIdeal.Gen.dats m' 0 c).arrAt_in 1 rfl _)
    · exact ((h c).1 2).trans ((Cert.OutReferenceIdeal.Gen.dats m' 0 c).arrAt_in 2 rfl _)
    · exact ((h c).1 3).trans ((Cert.OutReferenceIdeal.Gen.dats m' 0 c).arrAt_in 3 rfl _)

end Cert.OutKernelIdeal.DwValue

end
-- ==== Proof.InRun.lean ====
/-
  dw_in: one run of the kernel, at any float values. The blocks of the codes and of the result overhang their arrays at the last block, so a staging buffer
  holds words there that nothing names; what a block's step stores is a function of the filled buffers, whatever those words are.
-/
module

public import proofs.«01_k».proof.Proof.Gen.InKernelIdeal.Frame
public import proofs.«01_k».proof.Proof.Gen.InKernelIdeal.Skeleton
public import Idealize.ShloMosaic.Lib.Pipeline.DatRel
public import Idealize.ShloMosaic.Lib.Pipeline.ArrRel
public import Idealize.ShloMosaic.Lib.Claim

@[expose] public section

set_option maxRecDepth 16384

noncomputable section

namespace Cert.InKernelIdeal.DwRun

open Cert.InKernelIdeal Cert.InKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligationRel)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body -/

/-- What the body leaves in the result's buffer, from the five input buffers: its one store. -/
def stored (x0 : Vec F S3072x1024 .fp8e4m3) (x1 : Vec F S3072x1024 .fp8e5m2) (x2 : Vec F S3072x1 .f32) (x3 : Vec F S3072x1 .f32)
    (x4 : Vec F S1024x1 .f32) : Vec F S1024x1024 .bf16 :=
  View.canon [⟨Rect.unit (s := S1024x1024) ![0, 0] S1024x1024.size inb_S1024x1024_S1024x1024_0_0,
    k0_pay1 (View.ld x0 (Rect.unit (s := S3072x1024) ![0, 0] S3072x1024.size inb_S3072x1024_S3072x1024_0_0))
      (View.ld x2 (Rect.unit (s := S3072x1) ![0, 0] S3072x1.size inb_S3072x1_S3072x1_0_0))
      (View.ld x1 (Rect.unit (s := S3072x1024) ![0, 0] S3072x1024.size inb_S3072x1024_S3072x1024_0_0))
      (View.ld x3 (Rect.unit (s := S3072x1) ![0, 0] S3072x1.size inb_S3072x1_S3072x1_0_0))
      (View.ld x4 (Rect.unit (s := S1024x1) ![0, 0] S1024x1.size inb_S1024x1_S1024x1_0_0))⟩]

set_option maxHeartbeats 1000000 in
/-- The body on whole staging buffers: the inputs' are left as found, the result's holds what is stored. -/
theorem body_triple (c : Dev nD) (i : grid0.Coords) (arg2 : Memref sig .tc .vmem S3072x1024 .fp8e4m3) (harg2 : arg2.IsWhole)
    (arg3 : Memref sig .tc .vmem S3072x1024 .fp8e5m2) (harg3 : arg3.IsWhole) (arg4 : Memref sig .tc .vmem S3072x1 .f32) (harg4 : arg4.IsWhole)
    (arg5 : Memref sig .tc .vmem S3072x1 .f32) (harg5 : arg5.IsWhole) (arg6 : Memref sig .tc .vmem S1024x1 .f32) (harg6 : arg6.IsWhole)
    (arg7 : Memref sig .tc .vmem S1024x1024 .bf16) (harg7 : arg7.IsWhole) (x0 : Vec F S3072x1024 .fp8e4m3) (x1 : Vec F S3072x1024 .fp8e5m2)
    (x2 : Vec F S3072x1 .f32) (x3 : Vec F S3072x1 .f32) (x4 : Vec F S1024x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
          ∗ owns (c : Thread nD τ) arg5 fullShare x3 ∗ owns (c : Thread nD τ) arg6 fullShare x4
          ∗ owns (c : Thread nD τ) arg7 fullShare (stored x0 x1 x2 x3 x4)) -∗ K ⟨⟩))
      ⊢ wp frame (wpE (defs₀ (F := F)) Variants.none c none) Set.univ (cc0_dw_in i arg2 harg2 arg3 harg3 arg4 harg4 arg5 harg5 arg6 harg6 arg7 harg7) K := by
  simp only [cc0_dw_in_eq_skeleton]; unfold cc0_dw_in_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (View.cover_of_tiled [⟨_, _⟩] S1024x1024.size (by rfl))

/-! ## The proof data -/

/-- Window w's staging buffer at point t: its block where the block lies in the array, d elsewhere. -/
abbrev filled (c : Dev nD) (w : Fin cfg0.W) (t : Fin cfg0.N) (d : (cfg0.win w).block.Idx → Elt F (cfg0.win w).elt) :
    (cfg0.win w).block.Idx → Elt F (cfg0.win w).elt :=
  (cfg0.win w).fill (cfg0.grid.coords t) d (iblk m c w t)

/-- The proof data: the arrays as the call finds them; the input buffers keep their blocks. -/
def dat (c : Dev nD) : Dat τ (Elt F) Unit ℕ (UR sig nD τ) ℕ cfg0 c where
  A w := V m c (Pipeline.arrRef spec0 w)
  after w t := filled m c w t fun _ => Classical.arbitrary _
  Φ _ := Pipeline.ΦA spec0 c
  q _ := fullShare
  owed _ := 0

theorem A_eq (c : Dev nD) (w : Fin cfg0.W) : (dat m c).A w = V m c (Pipeline.arrRef spec0 w) := by dsimp only [dat]

/-- The result's window is the one whose buffer is described by a relation. -/
def marked : Fin cfg0.W → Bool := fun | 5 => true | _ => false

/-- What the result's buffer may hold after point t: what the body stores from the filled input buffers. -/
def left (c : Dev nD) (w : Fin cfg0.W) (t : Fin cfg0.N) : ((cfg0.win w).block.Idx → Elt F (cfg0.win w).elt) → Prop :=
  match w with
  | ⟨5, _⟩ => fun X => ∃ d1, X = stored (iblk m c 0 t) (filled m c 1 t d1) (iblk m c 2 t) (iblk m c 3 t) (iblk m c 4 t)
  | _ => fun _ => True

/-- A cut of a block depends on the block's place only. -/
theorem clip_congr (w : Fin cfg0.W) (hw : (cfg0.win w).isOut = false) : ∀ t t' : Fin cfg0.N, (cfg0.win w).index t = (cfg0.win w).index t' →
    (cfg0.win w).clip (cfg0.grid.coords t) = (cfg0.win w).clip (cfg0.grid.coords t') := by
  revert w; decide +kernel

/-- An input's buffer holds its block at every point, fetched there or not. -/
theorem before_eq (c : Dev nD) (w : Fin cfg0.W) (hw : (cfg0.win w).isOut = false) (t : Fin cfg0.N) (d) :
    (dat m c).before w t d = filled m c w t d := by
  rw [(dat m c).before_in_eq_fetched w hw (fun _ => rfl) (clip_congr w hw)
    (fun t => (cfg0.win w).cut_fill _ _ _) t d]
  rfl

/-- Keeping its block, an input's buffer is again its block where that lies in the array. -/
theorem kept_eq (c : Dev nD) (w : Fin cfg0.W) (t : Fin cfg0.N) (d) :
    (cfg0.win w).fill (cfg0.grid.coords t) d ((cfg0.win w).cut (cfg0.grid.coords t) ((dat m c).after w t)) = filled m c w t d :=
  congrArg ((cfg0.win w).fill (cfg0.grid.coords t) d) ((cfg0.win w).cut_fill _ _ _)

/-! ## The body's obligation -/

/-- The body as the pipeline calls it at point t. -/
theorem defs₀_row (t : Fin cfg0.N) : defs₀ (F := F) .tc cfg0.body (cfg0.bodyArgs t (cfg0.slots t)) = bodyAt0 t := by
  unfold defs₀; rw [Defs.onTc_tc]

/-- One step of the pipeline: given the buffers before it, the body leaves what the relation allows. -/
theorem obligation (c : Dev nD) : BodyObligationRel (dat (F := F) m c) (defs₀ (F := F)) Variants.none () Set.univ marked (left m c) := fun t => by
  rw [bigSep_W0, bigSep_W0, defs₀_row]
  simp only [marked, before_eq m c 0 rfl, before_eq m c 1 rfl, before_eq m c 2 rfl, before_eq m c 3 rfl, before_eq m c 4 rfl]
  rw [show (dat m c).Φ t.succ = (dat m c).Φ t.castSucc from rfl,
    show (dat m c).owesAt () t.succ = (dat m c).owesAt () t.castSucc from rfl]
  have e1 : ∀ d, (win0 1).fill (grid0.coords t) d ((win0 1).cut (grid0.coords t) ((dat m c).after 1 t)) = filled m c 1 t d := kept_eq m c 1 t
  simp only [e1]
  unfold bodyAt0
  iintro ⟨HΦ, Ho, ⟨%d0, H0⟩, ⟨%d1, H1⟩, ⟨%d2, H2⟩, ⟨%d3, H3⟩, ⟨%d4, H4⟩, ⟨%Y, -, H5⟩⟩
  iapply (body_triple c (grid0.coords t) _ _ _ _ _ _ _ _ _ _ _ _ (filled m c 0 t d0) (filled m c 1 t d1) (filled m c 2 t d2)
    (filled m c 3 t d3) (filled m c 4 t d4) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexists d1; iexact H1
  isplitl [H2]; · iexact H2
  isplitl [H3]; · iexact H3
  isplitl [H4]; · iexact H4
  iexists _; isplitr
  swap; · iexact H5
  ipureintro
  exact ⟨d1, rfl⟩

/-! ## The run -/

set_option backward.isDefEq.respectTransparency.types false in
set_option maxHeartbeats 800000 in
/-- Every run ends, at the arrays that the relation describes and with every counter at zero. -/
theorem run : θ_run defs (onTc (τ := τ) (main (F := F))) (s₀ m ρ)
    (fun r => RDat.FramePost cfg0 (fun c => (dat m c).toRRel marked (left m c)) (V m) r ∧ r.2.sem = fun _ => 0) :=
  Pipeline.RDat.θ_run_frame (Q' := _) cfgs (0 : Fin 1) launch0 defs₀ Variants.none (fun c => (dat m c).toRRel marked (left m c)) m ρ main
    (hbody := fun c => (obligation m c).toRRel) (hshare := fun c => (dat m c).share_full fun _ => rfl) (howed := fun _ _ => rfl)
    (V := V m) (hmain := hmain m Variants.none) (hA := A_eq m) (hΦ := fun _ _ => rfl)

/-- The frame: the arguments end as they were, and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0) :=
  (θ_run defs _ _).mono (fun _ h => ⟨fun c => ⟨((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c)⟩, h.2⟩) (run m ρ)

end Cert.InKernelIdeal.DwRun

end
-- ==== Proof.InBits.lean ====
/-
  dw_in: the kernel's run at the machine's floats. The program is the ideal one's, read at other float values.
-/
module

public import proofs.«01_k».proof.Defs
public import proofs.«01_k».proof.Proof.InRun
public import proofs.«01_k».proof.Proof.Gen.InKernel

@[expose] public section

noncomputable section

open Idealize.ShloMosaic Idealize.SL.Sem

namespace Cert.InKernel.DwRun

/-- The two programs have one body. -/
theorem defs₀_eq : Cert.InKernel.defs₀ (F := Bits) = Cert.InKernelIdeal.defs₀ (F := Bits) := by
  unfold Cert.InKernel.defs₀ Cert.InKernelIdeal.defs₀
  refine congrArg Defs.onTc (funext fun l => funext fun a => ?_)
  match l, a with
  | 0, _ => rfl
  | ⟨n + 1, h⟩, _ => exact absurd h (Nat.not_lt.2 (Nat.le_add_left _ _))

/-- So they have one table of procedures. -/
theorem defs_eq : Cert.InKernel.defs (F := Bits) = Cert.InKernelIdeal.defs (F := Bits) :=
  congrArg (Pipeline.defs Cert.InKernelIdeal.pcfgs) defs₀_eq

/-- The frame at the machine's floats: the arguments end as they were, and every counter ends at zero. -/
theorem frame : Cert.quiescent_InKernel (hInKernel := Cert.InKernel.Gen.facts) := fun m ρ _ => by
  have h := Cert.InKernelIdeal.DwRun.frame (F := Bits) m ρ
  rw [← defs_eq] at h
  exact h

end Cert.InKernel.DwRun

end
-- ==== Proof.InValue.lean ====
/-
  dw_in: what one block of the kernel computes inside the arrays, and what its result array holds after the run.
-/
module

public import proofs.«01_k».proof.Proof.InRun
public import proofs.«01_k».proof.Proof.Tokens

@[expose] public section

set_option maxRecDepth 16384

noncomputable section

open Idealize.ShloMosaic Idealize.ShloMosaic.TcCoe Idealize.SL.Sem
open Idealize.ShloMosaic.Pipeline (Dat RDat)

namespace Cert.InKernelIdeal.DwValue

open Cert.InKernelIdeal Cert.InKernelIdeal.Gen Cert.InKernelIdeal.DwRun

variable (m : (ℓ : Loc nD τ sig) → Buf (Elt Ideal) ℓ) (ρ : Dev nD → PrngReg)

/-- What the kernel stores for a block is the weight gradient of the block's buffers. -/
theorem block_eq (a : Vec Ideal S3072x1024 .fp8e4m3) (b : Vec Ideal S3072x1024 .fp8e5m2) (sa : Vec Ideal S3072x1 .f32)
    (sb : Vec Ideal S3072x1 .f32) (gain : Vec Ideal S1024x1 .f32) (j : S1024x1024.Idx) :
    stored a b sa sb gain j = Tokens.gradient a b sa sb gain j := by
  unfold stored
  frame_out
  unfold k0_pay1 Tokens.gradient
  pointwise

/-- Where each window stands at a grid point. -/
theorem idx0 : ∀ t, win0_0.index t = ![0, t.val / 11] := by decide +kernel
theorem idx1 : ∀ t, win0_1.index t = ![0, t.val % 11] := by decide +kernel
theorem idx2 : ∀ t, win0_2.index t = ![0, 0] := by decide +kernel
theorem idx3 : ∀ t, win0_3.index t = ![0, 0] := by decide +kernel
theorem idx4 : ∀ t, win0_4.index t = ![t.val / 11, 0] := by decide +kernel
theorem idx5 : ∀ t, win0_5.index t = ![t.val / 11, t.val % 11] := by decide +kernel

/-- Inside the array a filled buffer holds the window's block. -/
theorem filled_at (c : Dev nD) (w : Fin cfg0.W) (t : Fin cfg0.N) (d) (x : (cfg0.win w).block.Idx)
    (h : ∀ a, (x a).val < (cfg0.win w).xsize (cfg0.grid.coords t) a) : filled m c w t d x = iblk m c w t fun a => ⟨x a, h a⟩ := by
  unfold filled Pipeline.Window.fill
  rw [dif_pos (((cfg0.win w).moved_iff _ _).mpr h)]

/-- The column of blocks cuts the codes' columns and the result's columns alike. -/
theorem cut1 : ∀ t, (cfg0.win 1).xsize (cfg0.grid.coords t) = ![3072, (cfg0.win 5).xsize (cfg0.grid.coords t) 1] := by decide +kernel

/-- The weight gradient of the whole arrays, as the host's operations leave them. -/
abbrev result (c : Dev nD) : Buf (Elt Ideal) ((c : Thread nD τ).loc main_v5) :=
  Tokens.gradient (M := 4096) (N := 11008) (V m c main_v0) (V m c main_v1) (V m c main_v3) (V m c main_v2) (V m c main_v4)

/-- Any run's result array is the weight gradient: its blocks tile it, and inside the array each is the block product of its windows. -/
theorem final (c : Dev nD) (after : (w : Fin cfg0.W) → (t : Fin cfg0.N) → (cfg0.win w).block.Idx → Elt Ideal (cfg0.win w).elt)
    (h : ∀ t, (cfg0.win 5).flush t = true → left m c 5 t (after 5 t)) :
    (((dat m c).toRRel marked (left m c)).withAfter after).arrAt 5 cfg0.N = result m c := by
  refine Dat.arrAt_eq_of_covers _ 5 _ (by decide +kernel) fun t hf y => ?_
  obtain ⟨d1, e⟩ := h t hf
  rw [RDat.withAfter_after, e]
  blk_simp
  rw [block_eq]
  refine Tokens.gradient_congr (fun x => ?_) (fun x => ?_) (fun x => ?_) (fun x => ?_) ?_
  · blk_point [iblk, V, idx0 t, idx5 t]
  · refine (filled_at m c 1 t _ _ ?_).trans ?_
    · rw [cut1]; exact Fin.forall_fin_two.2 ⟨x.isLt, (y 1).isLt⟩
    · blk_point [iblk, V, idx1 t, idx5 t]
  · blk_point [iblk, V, idx2 t, idx5 t]
  · blk_point [iblk, V, idx3 t, idx5 t]
  · blk_point [iblk, V, idx4 t, idx5 t]

end Cert.InKernelIdeal.DwValue

end
-- ==== Proof.InReference.lean ====
/-
  dw_in: what the reference computes, entry by entry, in the terms of its arguments.
-/
module

public import proofs.«01_k».proof.Proof.Gen.InReferenceIdeal.Frame
public import proofs.«01_k».proof.Proof.Tokens

@[expose] public section

set_option maxRecDepth 16384

noncomputable section

open Idealize.ShloMosaic Idealize.ShloMosaic.TcCoe Idealize.SL.Sem

namespace Cert.InReferenceIdeal.DwValue

open Cert.InReferenceIdeal Cert.InReferenceIdeal.Gen

variable (m : (ℓ : Loc nD τ sig) → Buf (Elt Ideal) ℓ) (ρ : Dev nD → PrngReg)

/-- The reference's entry at (d, f): gamma times the sum over batch and position of the scaled codes' product. -/
def entry (xhat : S6x512x4096.Idx → EReal) (xhatScale : S6x512.Idx → EReal) (gamma : S4096.Idx → EReal) (codes : S6x512x11008.Idx → EReal) (scale : S6x512.Idx → EReal) :
    S4096x11008.Idx → EReal := fun j =>
  gamma (ix1 (j 0)) * ∑ b : Fin 6, ∑ s : Fin 512, xhat (ix3 b s (j 0)) * xhatScale (ix2 b s) * (codes (ix3 b s (j 1)) * scale (ix2 b s))

/-- The reference's one step stores this entry at each index. -/
theorem step_eq (xhat : Vec Ideal S6x512x4096 .fp8e4m3) (xhatScale : Vec Ideal S6x512 .f32) (gamma : Vec Ideal S4096 .f32) (codes : Vec Ideal S6x512x11008 .fp8e5m2) (scale : Vec Ideal S6x512 .f32)
    (j : S4096x11008.Idx) : k0_pay1 xhat xhatScale gamma codes scale j = entry xhat xhatScale gamma codes scale j := by
  unfold k0_pay1 entry
  pointwise

/-- The reference's result. -/
abbrev result (c : Dev nD) : Buf (Elt Ideal) ((c : Thread nD τ).loc main_v0) :=
  entry (m ((c : Thread nD τ).loc main_arg0)) (m ((c : Thread nD τ).loc main_arg1)) (m ((c : Thread nD τ).loc main_arg2)) (m ((c : Thread nD τ).loc main_arg3)) (m ((c : Thread nD τ).loc main_arg4))

/-- Every window is its whole array. -/
theorem idx0 : ∀ t, win0_0.index t = ![0, 0, 0] := by decide +kernel
theorem idx1 : ∀ t, win0_1.index t = ![0, 0] := by decide +kernel
theorem idx2 : ∀ t, win0_2.index t = ![0] := by decide +kernel
theorem idx3 : ∀ t, win0_3.index t = ![0, 0, 0] := by decide +kernel
theorem idx4 : ∀ t, win0_4.index t = ![0, 0] := by decide +kernel
theorem idx5 : ∀ t, win0_5.index t = ![0, 0] := by decide +kernel

/-- The reference's result array after its run. -/
theorem final (c : Dev nD) : (dats m 0 c).arrAt 5 cfg0.N = result m c := by
  refine (dats m 0 c).arrAt_eq_of_covers 5 _ (by decide +kernel) fun t hf y => ?_
  blk_simp
  rw [after0_5]
  frame_out
  rw [step_eq]
  unfold result entry
  blk_point [iblk, V, idx0 t, idx1 t, idx2 t, idx3 t, idx4 t, idx5 t]

end Cert.InReferenceIdeal.DwValue

end
-- ==== Proof.InEquation.lean ====
/-
  dw_in: the kernel's result is the reference's, entry by entry.
-/
module

public import proofs.«01_k».proof.Proof.InValue
public import proofs.«01_k».proof.Proof.InReference
public import Idealize.ShloMosaic.Lib.StableHlo.ReadAt
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat RDat)

namespace Cert.InKernelIdeal.DwValue

open Cert.InKernelIdeal Cert.InKernelIdeal.Gen Cert.InKernelIdeal.DwRun

variable (m : (ℓ : Loc nD τ sig) → Buf (Elt Ideal) ℓ) (ρ : Dev nD → PrngReg)

/-- The weight gradient of the reshaped arguments is the reference's entry: the reshapes only number the tokens differently. -/
theorem result_eq (c : Dev nD) (j : S4096x11008.Idx) : result m c j =
    Cert.InReferenceIdeal.DwValue.entry (m ((c : Thread nD τ).loc main_arg0)) (m ((c : Thread nD τ).loc main_arg1)) (m ((c : Thread nD τ).loc main_arg2)) (m ((c : Thread nD τ).loc main_arg3)) (m ((c : Thread nD τ).loc main_arg4)) j := by
  unfold result Tokens.gradient Cert.InReferenceIdeal.DwValue.entry V
  rw [Tokens.sum_tokens, mul_comm]
  after_reads_at

/-- What one kernel's certificate needs: the reference's run ends at the value the kernel's run ends at. -/
theorem algebraic : Cert.algebraic_InKernelIdeal_InReferenceIdeal := by
  intro m ρ m' ρ' _ hagree
  refine ⟨fun c => result m c, ?_, ?_⟩
  · refine (θ_run _ _ _).mono (fun _ h c => ?_) (run m ρ)
    obtain ⟨after, hL, hA⟩ := h.1.exists_exact c
    refine ⟨(hA 5).trans (final m c after fun t hf => (dat m c).toRRel_leaves (fgt := marked) rfl (hL 5 t hf)), ?_, ?_, ?_, ?_, ?_⟩
    · exact ((h.1 c).2 main_arg0 (Pipeline.mem_restRefs_of main_arg0 (by decide) (by decide))).trans (V_main_arg0 m c)
    · exact ((h.1 c).2 main_arg1 (Pipeline.mem_restRefs_of main_arg1 (by decide) (by decide))).trans (V_main_arg1 m c)
    · exact ((h.1 c).2 main_arg2 (Pipeline.mem_restRefs_of main_arg2 (by decide) (by decide))).trans (V_main_arg2 m c)
    · exact ((h.1 c).2 main_arg3 (Pipeline.mem_restRefs_of main_arg3 (by decide) (by decide))).trans (V_main_arg3 m c)
    · exact ((h.1 c).2 main_arg4 (Pipeline.mem_restRefs_of main_arg4 (by decide) (by decide))).trans (V_main_arg4 m c)
  · have e (c : Dev nD) : Cert.InReferenceIdeal.DwValue.result m' c = result m c := by
      obtain ⟨h0, h1, h2, h3, h4⟩ := hagree c
      funext j
      refine Eq.trans ?_ (result_eq m c j).symm
      unfold Cert.InReferenceIdeal.DwValue.result
      rw [h0, h1, h2, h3, h4]
    open Cert.InReferenceIdeal.Gen in
    refine (θ_run _ _ _).mono (fun _ h c => ⟨((h c).1 5).trans ((Cert.InReferenceIdeal.DwValue.final m' c).trans (e c)), ?_, ?_, ?_, ?_, ?_⟩)
      (Cert.InReferenceIdeal.Gen.run_main m' ρ')
    · exact ((h c).1 0).trans ((Cert.InReferenceIdeal.Gen.dats m' 0 c).arrAt_in 0 rfl _)
    · exact ((h c).1 1).trans ((Cert.InReferenceIdeal.Gen.dats m' 0 c).arrAt_in 1 rfl _)
    · exact ((h c).1 2).trans ((Cert.InReferenceIdeal.Gen.dats m' 0 c).arrAt_in 2 rfl _)
    · exact ((h c).1 3).trans ((Cert.InReferenceIdeal.Gen.dats m' 0 c).arrAt_in 3 rfl _)
    · exact ((h c).1 4).trans ((Cert.InReferenceIdeal.Gen.dats m' 0 c).arrAt_in 4 rfl _)

end Cert.InKernelIdeal.DwValue

end
-- ==== Proof.DxBody.lean ====
/-
  dx: what one grid step of the body does, at any float values. The step is one of six: it clears the two accumulators, adds a block of the MLP or of the
  attention product, and at the end of a row block finishes 512 rows, 64 at a time.
-/
module

public import proofs.«01_k».proof.Proof.Gen.DxKernelIdeal.Frame
public import proofs.«01_k».proof.Proof.Gen.DxKernelIdeal.Loops
public import Idealize.ShloMosaic.Lib.WritesUnit
public import Idealize.ShloMosaic.Lib.VecWindow
public import Idealize.ShloMosaic.Lib.Pointwise.Index
public import Idealize.ShloMosaic.Lib.Pipeline.ValueKit.Basic

@[expose] public section

set_option maxRecDepth 16384

noncomputable section

namespace Cert.DxKernelIdeal.DxBody

open Cert.DxKernelIdeal Cert.DxKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A load of a whole rank-2 buffer reads its contents. -/
theorem ld_z {Val : EltTy → Type} {e : EltTy} {d : Fin 2 → ℕ} (X : (⟨2, d⟩ : Shape).Idx → Val e) (inb : ∀ a, (![0, 0] : Fin 2 → ℕ) a + d a ≤ d a) :
    View.ld X (Rect.unit (s := ⟨2, d⟩) ![0, 0] d inb) = X :=
  View.ld_unit_lit inb X (Fin.forall_fin_two.2 ⟨rfl, rfl⟩)

/-- A buffer whose last store is whole holds that store's value. -/
theorem read_whole {κ : Kind} {sp : Space} {e : EltTy} {Val : EltTy → Type} {d : Fin 2 → ℕ} (v : View sig κ sp ⟨2, d⟩ e) (f : v.ty.Contents Val)
    {inb : ∀ a, (![0, 0] : Fin 2 → ℕ) a + d a ≤ d a} (w : (⟨2, d⟩ : Shape).Idx → Val e) (L : List (View.Piece Val ⟨2, d⟩ e))
    {x : (⟨2, d⟩ : Shape).Idx → Val e} (h : w = x) :
    v.read Val (v.writes Val f (⟨Rect.unit (s := ⟨2, d⟩) ![0, 0] d inb, w⟩ :: L)) = x :=
  (View.read_writes_full v f inb w L).trans h

/-! ## The branch conditions -/

/-- The step is the first of its row block. -/
abbrev first (i : grid0.Coords) : Prop := (Scalar.cmpi .ne (Scalar.extui (Scalar.cmpi .eq (BitVec.ofNat 32 (i 1).val) 0#32)) 0#32) = 1#1
/-- The step is the first of all. -/
abbrev start (i : grid0.Coords) : Prop := k0_cond2 i = 1#1
/-- The step adds a whole block of the MLP product. -/
abbrev mlpStep (i : grid0.Coords) : Prop := (Scalar.cmpi .ne (Scalar.extui (Scalar.cmpi .slt (BitVec.ofNat 32 (i 1).val) 10#32)) 0#32) = 1#1
/-- The step adds the last, shorter block of the MLP product. -/
abbrev mlpTail (i : grid0.Coords) : Prop := (Scalar.cmpi .ne (Scalar.extui (Scalar.cmpi .eq (BitVec.ofNat 32 (i 1).val) 10#32)) 0#32) = 1#1
/-- The step adds a block of the attention product. -/
abbrev attnStep (i : grid0.Coords) : Prop := (Scalar.cmpi .ne (Scalar.extui (Scalar.cmpi .sge (BitVec.ofNat 32 (i 1).val) 11#32)) 0#32) = 1#1
/-- The step is the last of its row block. -/
abbrev last (i : grid0.Coords) : Prop := k0_cond6 i = 1#1

/-- The six kinds of step. -/
def Kinds (i : grid0.Coords) : Prop :=
  (first i ∧ start i ∧ mlpStep i ∧ ¬ mlpTail i ∧ ¬ attnStep i ∧ ¬ last i)
  ∨ (first i ∧ ¬ start i ∧ mlpStep i ∧ ¬ mlpTail i ∧ ¬ attnStep i ∧ ¬ last i)
  ∨ (¬ first i ∧ ¬ start i ∧ mlpStep i ∧ ¬ mlpTail i ∧ ¬ attnStep i ∧ ¬ last i)
  ∨ (¬ first i ∧ ¬ start i ∧ ¬ mlpStep i ∧ mlpTail i ∧ ¬ attnStep i ∧ ¬ last i)
  ∨ (¬ first i ∧ ¬ start i ∧ ¬ mlpStep i ∧ ¬ mlpTail i ∧ attnStep i ∧ ¬ last i)
  ∨ (¬ first i ∧ ¬ start i ∧ ¬ mlpStep i ∧ ¬ mlpTail i ∧ attnStep i ∧ last i)

/-! ## What a step leaves -/

/-- The MLP accumulator after the step. -/
def accMNext (i : grid0.Coords) (x0 : Vec F S512x1024 .fp8e5m2) (x1 : Vec F S4096x1024 .fp8e4m3) (x2 : Vec F S1x1024 .f32)
    (m : Vec F S512x4096 .f32) : Vec F S512x4096 .f32 :=
  if mlpStep i then k0_pay5 x0 x2 (if first i then k0_pay1 else m) x1
  else if mlpTail i then
    k0_pay6 (View.ld x0 (Rect.unit (s := S512x1024) ![0, 0] S512x768.size inb_S512x1024_S512x768_0_0))
      (View.ld x2 (Rect.unit (s := S1x1024) ![0, 0] S1x768.size inb_S1x1024_S1x768_0_0)) m
      (View.ld x1 (Rect.unit (s := S4096x1024) ![0, 0] S4096x768.size inb_S4096x1024_S4096x768_0_0))
  else m

/-- The attention accumulator after the step. -/
def accANext (i : grid0.Coords) (x3 : Vec F S512x1024 .fp8e5m2) (x4 : Vec F S4096x1024 .fp8e4m3) (x5 : Vec F S1x1024 .f32)
    (a : Vec F S512x4096 .f32) : Vec F S512x4096 .f32 :=
  if attnStep i then k0_pay7 x3 x5 a x4 else if first i then k0_pay2 else a

section Chunks

variable (i : grid0.Coords) (h6 : last i) (x6 : Vec F S512x4096 .fp8e5m2) (x7 : Vec F S512x4096 .fp8e4m3) (x8 : Vec F S512x6 .f32)
  (x9 : Vec F S1x4096 .f32) (x10 : Vec F S1x4096 .f32) (m a : Vec F S512x4096 .f32)

/-- Rows of chunk k. -/
abbrev rows (k : Fin k0_t1_loop.trips) : Rect S512x4096 := Rect.unit (s := S512x4096) (k0_off6 k) S64x4096.size (k0_off6_inb i k h6)

/-- The attention gain's gradient after the first n chunks of a row block, from its value g before. -/
def attnUpTo (g : Vec F S1x4096 .f32) : ℕ → Vec F S1x4096 .f32
  | 0 => g
  | n + 1 => if hk : n < k0_t1_loop.trips then
      k0_pay15 (View.ld x8 (Rect.unit (s := S512x6) (k0_off3 ⟨n, hk⟩) S64x1.size (k0_off3_inb i ⟨n, hk⟩ h6)))
        (View.ld x8 (Rect.unit (s := S512x6) (k0_off4 ⟨n, hk⟩) S64x1.size (k0_off4_inb i ⟨n, hk⟩ h6)))
        (View.ld x7 (rows i h6 ⟨n, hk⟩)) (View.ld a (rows i h6 ⟨n, hk⟩)) (attnUpTo g n)
    else attnUpTo g n

/-- The MLP gain's gradient after the first n chunks of a row block, from its value h before. -/
def mlpUpTo (h : Vec F S1x4096 .f32) : ℕ → Vec F S1x4096 .f32
  | 0 => h
  | n + 1 => if hk : n < k0_t1_loop.trips then
      k0_pay8 (k0_pay16 (mlpUpTo h n))
        (k0_pay17 (View.ld x8 (Rect.unit (s := S512x6) (k0_off2 ⟨n, hk⟩) S64x1.size (k0_off2_inb i ⟨n, hk⟩ h6)))
          (View.ld x8 (Rect.unit (s := S512x6) (k0_off4 ⟨n, hk⟩) S64x1.size (k0_off4_inb i ⟨n, hk⟩ h6)))
          (View.ld x7 (rows i h6 ⟨n, hk⟩)) (View.ld m (rows i h6 ⟨n, hk⟩)))
    else mlpUpTo h n

/-- The 64 rows of dx of chunk k. -/
def dxChunk (k : Fin k0_t1_loop.trips) : Vec F S64x4096 .bf16 :=
  k0_pay9 (k0_pay10 (View.ld x8 (Rect.unit (s := S512x6) (k0_off1 k) S64x1.size (k0_off1_inb i k h6))))
    (k0_pay11 (View.ld x8 (Rect.unit (s := S512x6) (k0_off5 k) S64x1.size (k0_off5_inb i k h6))))
    (k0_pay12 (View.ld x8 (Rect.unit (s := S512x6) (k0_off4 k) S64x1.size (k0_off4_inb i k h6))) (View.ld x7 (rows i h6 k)))
    (k0_pay13 (View.ld x8 (Rect.unit (s := S512x6) (k0_off3 k) S64x1.size (k0_off3_inb i k h6))) (View.ld a (rows i h6 k)))
    (k0_pay14 (View.ld x8 (Rect.unit (s := S512x6) (k0_off2 k) S64x1.size (k0_off2_inb i k h6))) (View.ld m (rows i h6 k)))
    x9 x10 (View.ld x6 (rows i h6 k))

/-- The loop makes eight trips. -/
theorem trips_eq : k0_t1_loop.trips = 8 := by decide +kernel

/-- Every row of a block lies in one of the eight chunks. -/
theorem row_lt (y : S512x4096.Idx) : (y 0).val < 64 * k0_t1_loop.trips := by
  have h : (y 0).val < 512 := (y 0).isLt
  rw [trips_eq]; omega

/-- The 512 rows of dx: row r is row r mod 64 of chunk r / 64. -/
def dxRows : Vec F S512x4096 .bf16 := fun y =>
  dxChunk i h6 x6 x7 x8 x9 x10 m a ⟨(y 0).val / 64, by have h : (y 0).val < 512 := (y 0).isLt; rw [trips_eq]; omega⟩
    (ix2 ⟨(y 0).val % 64, Nat.mod_lt _ (by omega)⟩ (y 1))

end Chunks

/-- The attention gain's gradient after the step. -/
def attnNext (i : grid0.Coords) (x3 : Vec F S512x1024 .fp8e5m2) (x4 : Vec F S4096x1024 .fp8e4m3) (x5 : Vec F S1x1024 .f32)
    (x7 : Vec F S512x4096 .fp8e4m3) (x8 : Vec F S512x6 .f32) (a : Vec F S512x4096 .f32) (g : Vec F S1x4096 .f32) : Vec F S1x4096 .f32 :=
  if h6 : last i then attnUpTo i h6 x7 x8 (accANext i x3 x4 x5 a) g k0_t1_loop.trips else if start i then k0_pay3 else g

/-- The MLP gain's gradient after the step. -/
def mlpNext (i : grid0.Coords) (x0 : Vec F S512x1024 .fp8e5m2) (x1 : Vec F S4096x1024 .fp8e4m3) (x2 : Vec F S1x1024 .f32)
    (x7 : Vec F S512x4096 .fp8e4m3) (x8 : Vec F S512x6 .f32) (m : Vec F S512x4096 .f32) (h : Vec F S1x4096 .f32) : Vec F S1x4096 .f32 :=
  if h6 : last i then mlpUpTo i h6 x7 x8 (accMNext i x0 x1 x2 m) h k0_t1_loop.trips else if start i then k0_pay4 else h

/-- The rows of dx after the step. -/
def dxNext (i : grid0.Coords) (x3 : Vec F S512x1024 .fp8e5m2) (x4 : Vec F S4096x1024 .fp8e4m3) (x5 : Vec F S1x1024 .f32)
    (x0 : Vec F S512x1024 .fp8e5m2) (x1 : Vec F S4096x1024 .fp8e4m3) (x2 : Vec F S1x1024 .f32)
    (x6 : Vec F S512x4096 .fp8e5m2) (x7 : Vec F S512x4096 .fp8e4m3) (x8 : Vec F S512x6 .f32) (x9 x10 : Vec F S1x4096 .f32)
    (m a : Vec F S512x4096 .f32) (d : Vec F S512x4096 .bf16) : Vec F S512x4096 .bf16 :=
  if h6 : last i then dxRows i h6 x6 x7 x8 x9 x10 (accMNext i x0 x1 x2 m) (accANext i x3 x4 x5 a) else d

/-! ## The loop over the chunks of a row block -/

section Loop

variable (𝒱 : Variants) (c : Dev nD) (bd : Option 𝒱.V) (i : grid0.Coords) (arg2 : Memref sig .tc .vmem S512x1024 .fp8e5m2) (harg2 : arg2.IsWhole) (arg3 : Memref sig .tc .vmem S4096x1024 .fp8e4m3) (harg3 : arg3.IsWhole) (arg4 : Memref sig .tc .vmem S1x1024 .f32) (harg4 : arg4.IsWhole) (arg5 : Memref sig .tc .vmem S512x1024 .fp8e5m2) (harg5 : arg5.IsWhole) (arg6 : Memref sig .tc .vmem S4096x1024 .fp8e4m3) (harg6 : arg6.IsWhole) (arg7 : Memref sig .tc .vmem S1x1024 .f32) (harg7 : arg7.IsWhole) (arg8 : Memref sig .tc .vmem S512x4096 .fp8e5m2) (harg8 : arg8.IsWhole) (arg9 : Memref sig .tc .vmem S512x4096 .fp8e4m3) (harg9 : arg9.IsWhole) (arg10 : Memref sig .tc .vmem S512x6 .f32) (harg10 : arg10.IsWhole) (arg11 : Memref sig .tc .vmem S1x4096 .f32) (harg11 : arg11.IsWhole) (arg12 : Memref sig .tc .vmem S1x4096 .f32) (harg12 : arg12.IsWhole) (arg13 : Memref sig .tc .vmem S512x4096 .bf16) (harg13 : arg13.IsWhole) (arg14 : Memref sig .tc .vmem S1x4096 .f32) (harg14 : arg14.IsWhole) (arg15 : Memref sig .tc .vmem S1x4096 .f32) (harg15 : arg15.IsWhole) (arg16 : Memref sig .tc .vmem S512x4096 .f32) (harg16 : arg16.IsWhole) (arg17 : Memref sig .tc .vmem S512x4096 .f32) (harg17 : arg17.IsWhole) (k0_h6 : k0_cond6 i = 1#1) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (X_arg16 : BufTy.Contents (Elt F) arg16.view.ty) (X_arg17 : BufTy.Contents (Elt F) arg17.view.ty)
  (G_arg13 : BufTy.Contents (Elt F) arg13.view.ty) (G_arg14 : BufTy.Contents (Elt F) arg14.view.ty) (G_arg15 : BufTy.Contents (Elt F) arg15.view.ty)

/-- The stores of the first n chunks, per buffer. -/
abbrev upTo (n : ℕ) := pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h6 X_arg8 X_arg9 X_arg10 X_arg11 X_arg12 X_arg16 X_arg17 G_arg13 G_arg14 G_arg15 n

variable {𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h6 X_arg8 X_arg9 X_arg10 X_arg11 X_arg12 X_arg16 X_arg17 G_arg13 G_arg14 G_arg15}

/-- The attention gain's gradient in its buffer after n chunks. -/
theorem read_attn : ∀ n, n ≤ k0_t1_loop.trips →
    arg14.view.read (Elt F) (arg14.view.writes (Elt F) G_arg14 (upTo 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h6 X_arg8 X_arg9 X_arg10 X_arg11 X_arg12 X_arg16 X_arg17 G_arg13 G_arg14 G_arg15 n).2.1)
      = attnUpTo i k0_h6 (arg9.view.read (Elt F) X_arg9) (arg10.view.read (Elt F) X_arg10) (arg17.view.read (Elt F) X_arg17)
          (arg14.view.read (Elt F) G_arg14) n
  | 0, _ => rfl
  | n + 1, hn => by
    have hk : n < k0_t1_loop.trips := hn
    have ih := read_attn n hk.le
    rw [upTo, pb_k0_t1_succ (k := ⟨n, hk⟩)]
    unfold tripL_k0_t1 trip_k0_t1
    rw [attnUpTo, dif_pos hk, ← ih]
    refine (View.read_writes_full _ _ _ _ _).trans ?_
    simp only [View.readAt_eq_ld, ld_z]

/-- The MLP gain's gradient in its buffer after n chunks. -/
theorem read_mlp : ∀ n, n ≤ k0_t1_loop.trips →
    arg15.view.read (Elt F) (arg15.view.writes (Elt F) G_arg15 (upTo 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h6 X_arg8 X_arg9 X_arg10 X_arg11 X_arg12 X_arg16 X_arg17 G_arg13 G_arg14 G_arg15 n).2.2)
      = mlpUpTo i k0_h6 (arg9.view.read (Elt F) X_arg9) (arg10.view.read (Elt F) X_arg10) (arg16.view.read (Elt F) X_arg16)
          (arg15.view.read (Elt F) G_arg15) n
  | 0, _ => rfl
  | n + 1, hn => by
    have hk : n < k0_t1_loop.trips := hn
    have ih := read_mlp n hk.le
    rw [upTo, pb_k0_t1_succ (k := ⟨n, hk⟩)]
    unfold tripL_k0_t1 trip_k0_t1
    rw [mlpUpTo, dif_pos hk, ← ih]
    exact (View.read_writes_full _ _ _ _ _).trans (congrArg₂ k0_pay8 (congrArg k0_pay16 (ld_z _ _)) rfl)

/-- The rows of dx in their buffer after n chunks. -/
theorem read_dx : ∀ n, n ≤ k0_t1_loop.trips → ∀ y : S512x4096.Idx, (y 0).val < 64 * n →
    arg13.view.read (Elt F) (arg13.view.writes (Elt F) G_arg13 (upTo 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h6 X_arg8 X_arg9 X_arg10 X_arg11 X_arg12 X_arg16 X_arg17 G_arg13 G_arg14 G_arg15 n).1) y
      = dxRows i k0_h6 (arg8.view.read (Elt F) X_arg8) (arg9.view.read (Elt F) X_arg9) (arg10.view.read (Elt F) X_arg10)
          (arg11.view.read (Elt F) X_arg11) (arg12.view.read (Elt F) X_arg12) (arg16.view.read (Elt F) X_arg16) (arg17.view.read (Elt F) X_arg17) y
  | 0, _ => fun y hy => absurd hy (by omega)
  | n + 1, hn => fun y hy => by
    have hk : n < k0_t1_loop.trips := hn
    have ih := read_dx n hk.le y
    rw [upTo, pb_k0_t1_succ (k := ⟨n, hk⟩)]
    unfold tripL_k0_t1 trip_k0_t1
    by_cases hy' : (y 0).val < 64 * n
    · rw [← ih hy']
      exact View.read_writes_cons_rows_of_not_mem _ _ _ _ _ y (k0_off6_eq ⟨n, hk⟩) rfl (.inl hy')
    · have e : (y 0).val / 64 = n := by omega
      refine (View.read_writes_cons_rows_of_mem _ _ _ _ _ y (ix2 ⟨(y 0).val % 64, Nat.mod_lt _ (by omega)⟩ (y 1)) (k0_off6_eq ⟨n, hk⟩) ?_ rfl).trans ?_
      · show (y 0).val = 64 * n + (y 0).val % 64
        omega
      · have hq : (⟨n, hk⟩ : Fin k0_t1_loop.trips) = ⟨(y 0).val / 64, e ▸ hk⟩ := Fin.ext e.symm
        rw [dxRows, ← hq]
        simp only [View.readAt_eq_ld, ld_z]
        rfl

end Loop

/-! ## The body -/

set_option maxHeartbeats 4000000 in
/-- One step of the body: every buffer it reads is left as it was, every buffer it stores into holds what the step leaves. -/
theorem body_triple (c : Dev nD) (i : grid0.Coords) (arg2 : Memref sig .tc .vmem S512x1024 .fp8e5m2) (harg2 : arg2.IsWhole) (arg3 : Memref sig .tc .vmem S4096x1024 .fp8e4m3) (harg3 : arg3.IsWhole) (arg4 : Memref sig .tc .vmem S1x1024 .f32) (harg4 : arg4.IsWhole) (arg5 : Memref sig .tc .vmem S512x1024 .fp8e5m2) (harg5 : arg5.IsWhole) (arg6 : Memref sig .tc .vmem S4096x1024 .fp8e4m3) (harg6 : arg6.IsWhole) (arg7 : Memref sig .tc .vmem S1x1024 .f32) (harg7 : arg7.IsWhole) (arg8 : Memref sig .tc .vmem S512x4096 .fp8e5m2) (harg8 : arg8.IsWhole) (arg9 : Memref sig .tc .vmem S512x4096 .fp8e4m3) (harg9 : arg9.IsWhole) (arg10 : Memref sig .tc .vmem S512x6 .f32) (harg10 : arg10.IsWhole) (arg11 : Memref sig .tc .vmem S1x4096 .f32) (harg11 : arg11.IsWhole) (arg12 : Memref sig .tc .vmem S1x4096 .f32) (harg12 : arg12.IsWhole) (arg13 : Memref sig .tc .vmem S512x4096 .bf16) (harg13 : arg13.IsWhole) (arg14 : Memref sig .tc .vmem S1x4096 .f32) (harg14 : arg14.IsWhole) (arg15 : Memref sig .tc .vmem S1x4096 .f32) (harg15 : arg15.IsWhole) (arg16 : Memref sig .tc .vmem S512x4096 .f32) (harg16 : arg16.IsWhole) (arg17 : Memref sig .tc .vmem S512x4096 .f32) (harg17 : arg17.IsWhole)
    (x0 : Vec F S512x1024 .fp8e5m2)
    (x1 : Vec F S4096x1024 .fp8e4m3)
    (x2 : Vec F S1x1024 .f32)
    (x3 : Vec F S512x1024 .fp8e5m2)
    (x4 : Vec F S4096x1024 .fp8e4m3)
    (x5 : Vec F S1x1024 .f32)
    (x6 : Vec F S512x4096 .fp8e5m2)
    (x7 : Vec F S512x4096 .fp8e4m3)
    (x8 : Vec F S512x6 .f32)
    (x9 : Vec F S1x4096 .f32)
    (x10 : Vec F S1x4096 .f32)
    (d : Vec F S512x4096 .bf16)
    (g : Vec F S1x4096 .f32)
    (h : Vec F S1x4096 .f32)
    (m : Vec F S512x4096 .f32)
    (a : Vec F S512x4096 .f32) (hi : Kinds i) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare d ∗ owns (c : Thread nD τ) arg14 fullShare g ∗ owns (c : Thread nD τ) arg15 fullShare h ∗ owns (c : Thread nD τ) arg16 fullShare m ∗ owns (c : Thread nD τ) arg17 fullShare a
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare (dxNext i x3 x4 x5 x0 x1 x2 x6 x7 x8 x9 x10 m a d) ∗ owns (c : Thread nD τ) arg14 fullShare (attnNext i x3 x4 x5 x7 x8 a g) ∗ owns (c : Thread nD τ) arg15 fullShare (mlpNext i x0 x1 x2 x7 x8 m h) ∗ owns (c : Thread nD τ) arg16 fullShare (accMNext i x0 x1 x2 m) ∗ owns (c : Thread nD τ) arg17 fullShare (accANext i x3 x4 x5 a)) -∗ K ⟨⟩))
      ⊢ wp frame (wpE (defs₀ (F := F)) Variants.none c none) Set.univ (cc0_dx i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_dx_eq_skeleton]; unfold cc0_dx_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
  subst hf2 hf3 hf4 hf5 hf6 hf7 hf8 hf9 hf10 hf11 hf12 hf13 hf14 hf15 hf16 hf17
  rcases hi with hc | hc | hc | hc | hc | hc <;> obtain ⟨hc1, hc2, hc3, hc4, hc5, hc6⟩ := hc
  all_goals
    sl_exec (disch := first | sl_exact hc1 | sl_exact hc2 | sl_exact hc3 | sl_exact hc4 | sl_exact hc5 | sl_exact hc6)
    sl_step
    iapply Hk
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists f9; isplitr; · ipureintro; rfl
      iexact H9
    isplitl [H10]
    · iexists f10; isplitr; · ipureintro; rfl
      iexact H10
    isplitl [H11]
    · iexists f11; isplitr; · ipureintro; rfl
      iexact H11
    isplitl [H12]
    · iexists f12; isplitr; · ipureintro; rfl
      iexact H12
    isplitl [H13]
    · iexists _; isplitr
      swap; · iexact H13
      ipureintro
      simp only [accMNext, accANext, attnNext, mlpNext, dxNext, first, start, mlpStep, mlpTail, attnStep, last, hc1, hc2, hc3, hc4, hc5, hc6, if_true, if_false, dite_true, dite_false,
        View.read_writes_full, View.readAt_eq_ld, ld_z] <;> first
      | rfl
      | exact View.read_writes_full _ _ _ _ _
      | exact read_whole _ _ _ _ (by simp only [View.readAt_eq_ld, ld_z])
      | exact read_whole _ _ _ _ (congrArg (fun m => k0_pay5 _ _ m _) (View.readCov_full _ _ _ _ _))
      | exact (read_attn _ le_rfl).trans
          (congrArg (fun a => attnUpTo i hc6 _ _ a _ _) (read_whole _ _ _ _ (by simp only [View.readAt_eq_ld, ld_z])))
      | exact read_mlp _ le_rfl
      | exact funext fun y => (read_dx _ le_rfl y (row_lt y)).trans
          (congrArg (fun a => dxRows i hc6 _ _ _ _ _ _ a y) (read_whole _ _ _ _ (by simp only [View.readAt_eq_ld, ld_z])))
    isplitl [H14]
    · iexists _; isplitr
      swap; · iexact H14
      ipureintro
      simp only [accMNext, accANext, attnNext, mlpNext, dxNext, first, start, mlpStep, mlpTail, attnStep, last, hc1, hc2, hc3, hc4, hc5, hc6, if_true, if_false, dite_true, dite_false,
        View.read_writes_full, View.readAt_eq_ld, ld_z] <;> first
      | rfl
      | exact View.read_writes_full _ _ _ _ _
      | exact read_whole _ _ _ _ (by simp only [View.readAt_eq_ld, ld_z])
      | exact read_whole _ _ _ _ (congrArg (fun m => k0_pay5 _ _ m _) (View.readCov_full _ _ _ _ _))
      | exact (read_attn _ le_rfl).trans
          (congrArg (fun a => attnUpTo i hc6 _ _ a _ _) (read_whole _ _ _ _ (by simp only [View.readAt_eq_ld, ld_z])))
      | exact read_mlp _ le_rfl
      | exact funext fun y => (read_dx _ le_rfl y (row_lt y)).trans
          (congrArg (fun a => dxRows i hc6 _ _ _ _ _ _ a y) (read_whole _ _ _ _ (by simp only [View.readAt_eq_ld, ld_z])))
    isplitl [H15]
    · iexists _; isplitr
      swap; · iexact H15
      ipureintro
      simp only [accMNext, accANext, attnNext, mlpNext, dxNext, first, start, mlpStep, mlpTail, attnStep, last, hc1, hc2, hc3, hc4, hc5, hc6, if_true, if_false, dite_true, dite_false,
        View.read_writes_full, View.readAt_eq_ld, ld_z] <;> first
      | rfl
      | exact View.read_writes_full _ _ _ _ _
      | exact read_whole _ _ _ _ (by simp only [View.readAt_eq_ld, ld_z])
      | exact read_whole _ _ _ _ (congrArg (fun m => k0_pay5 _ _ m _) (View.readCov_full _ _ _ _ _))
      | exact (read_attn _ le_rfl).trans
          (congrArg (fun a => attnUpTo i hc6 _ _ a _ _) (read_whole _ _ _ _ (by simp only [View.readAt_eq_ld, ld_z])))
      | exact read_mlp _ le_rfl
      | exact funext fun y => (read_dx _ le_rfl y (row_lt y)).trans
          (congrArg (fun a => dxRows i hc6 _ _ _ _ _ _ a y) (read_whole _ _ _ _ (by simp only [View.readAt_eq_ld, ld_z])))
    isplitl [H16]
    · iexists _; isplitr
      swap; · iexact H16
      ipureintro
      simp only [accMNext, accANext, attnNext, mlpNext, dxNext, first, start, mlpStep, mlpTail, attnStep, last, hc1, hc2, hc3, hc4, hc5, hc6, if_true, if_false, dite_true, dite_false,
        View.read_writes_full, View.readAt_eq_ld, ld_z] <;> first
      | rfl
      | exact View.read_writes_full _ _ _ _ _
      | exact read_whole _ _ _ _ (by simp only [View.readAt_eq_ld, ld_z])
      | exact read_whole _ _ _ _ (congrArg (fun m => k0_pay5 _ _ m _) (View.readCov_full _ _ _ _ _))
      | exact (read_attn _ le_rfl).trans
          (congrArg (fun a => attnUpTo i hc6 _ _ a _ _) (read_whole _ _ _ _ (by simp only [View.readAt_eq_ld, ld_z])))
      | exact read_mlp _ le_rfl
      | exact funext fun y => (read_dx _ le_rfl y (row_lt y)).trans
          (congrArg (fun a => dxRows i hc6 _ _ _ _ _ _ a y) (read_whole _ _ _ _ (by simp only [View.readAt_eq_ld, ld_z])))
    · iexists _; isplitr
      swap; · iexact H17
      ipureintro
      simp only [accMNext, accANext, attnNext, mlpNext, dxNext, first, start, mlpStep, mlpTail, attnStep, last, hc1, hc2, hc3, hc4, hc5, hc6, if_true, if_false, dite_true, dite_false,
        View.read_writes_full, View.readAt_eq_ld, ld_z] <;> first
      | rfl
      | exact View.read_writes_full _ _ _ _ _
      | exact read_whole _ _ _ _ (by simp only [View.readAt_eq_ld, ld_z])
      | exact read_whole _ _ _ _ (congrArg (fun m => k0_pay5 _ _ m _) (View.readCov_full _ _ _ _ _))
      | exact (read_attn _ le_rfl).trans
          (congrArg (fun a => attnUpTo i hc6 _ _ a _ _) (read_whole _ _ _ _ (by simp only [View.readAt_eq_ld, ld_z])))
      | exact read_mlp _ le_rfl
      | exact funext fun y => (read_dx _ le_rfl y (row_lt y)).trans
          (congrArg (fun a => dxRows i hc6 _ _ _ _ _ _ a y) (read_whole _ _ _ _ (by simp only [View.readAt_eq_ld, ld_z])))

end Cert.DxKernelIdeal.DxBody

end
-- ==== Proof.DxRun.lean ====
/-
  dx: one run of the kernel, at any float values. The blocks of da, of w_in and of its scales overhang their arrays at the last MLP block, but only their first 768
  columns are used there; so what the step leaves, in the two accumulators and in the three results, is determined by the arrays.
-/
module

public import proofs.«01_k».proof.Proof.DxBody
public import proofs.«01_k».proof.Proof.Gen.DxKernelIdeal.Points
public import Idealize.ShloMosaic.Lib.Pipeline.TableIdle
public import Idealize.ShloMosaic.Lib.Pipeline.Frame
public import Idealize.ShloMosaic.Lib.Pipeline.FrameBody
public import Idealize.ShloMosaic.Lib.Claim

@[expose] public section

set_option maxRecDepth 16384

noncomputable section

namespace Cert.DxKernelIdeal.DxRun

open Cert.DxKernelIdeal Cert.DxKernelIdeal.Gen Cert.DxKernelIdeal.DxBody
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule -/

/-- Every grid step is one of the six kinds. -/
theorem kinds : ∀ t : Fin cfg0.N, Kinds (grid0.coords t) := by unfold Kinds; decide +kernel

/-- The first step of all is the first of its row block, and adds a whole MLP block. -/
theorem start_kind : ∀ t : Fin cfg0.N, start (grid0.coords t) → first (grid0.coords t) ∧ mlpStep (grid0.coords t) ∧ ¬ attnStep (grid0.coords t) ∧ ¬ last (grid0.coords t) := by
  decide +kernel

/-- The first step of all has index 0. -/
theorem start_iff : ∀ t : Fin cfg0.N, start (grid0.coords t) ↔ t.val = 0 := by decide +kernel

/-- The last step of a row block. -/
theorem last_iff : ∀ t : Fin cfg0.N, last (grid0.coords t) ↔ t.val % 23 = 22 := by decide +kernel

/-- The rows of dx are stored at the last step of a row block only. -/
theorem idle11 : ∀ t : Fin cfg0.N, cfg0.idle 11 (grid0.coords t) = !decide (t.val % 23 = 22) := by decide +kernel
theorem noflush11 : ∀ t : Fin cfg0.N, (cfg0.win 11).flush t = decide (t.val % 23 = 22) := by decide +kernel
/-- The gains' gradients are stored at the first step and at the last step of a row block only. -/
theorem idle12 : ∀ t : Fin cfg0.N, cfg0.idle 12 (grid0.coords t) = !(decide (t.val = 0) || decide (t.val % 23 = 22)) := by decide +kernel
theorem idle13 : ∀ t : Fin cfg0.N, cfg0.idle 13 (grid0.coords t) = !(decide (t.val = 0) || decide (t.val % 23 = 22)) := by decide +kernel
theorem noflush12 : ∀ t : Fin cfg0.N, (cfg0.win 12).flush t = decide (t.val = 137) := by decide +kernel
theorem noflush13 : ∀ t : Fin cfg0.N, (cfg0.win 13).flush t = decide (t.val = 137) := by decide +kernel

/-- The gains' buffers hold nothing named before the first step only. -/
theorem fresh12 (t : Fin cfg0.N) : cfg0.fresh 12 t.val = decide (t.val % 138 = 0) :=
  Pipeline.Cfg.fresh_tab cfg0 12 (fun n => decide (n % 138 = 0)) rfl (by decide +kernel) t.val (Nat.le_of_lt t.isLt)
theorem fresh13 (t : Fin cfg0.N) : cfg0.fresh 13 t.val = decide (t.val % 138 = 0) :=
  Pipeline.Cfg.fresh_tab cfg0 13 (fun n => decide (n % 138 = 0)) rfl (by decide +kernel) t.val (Nat.le_of_lt t.isLt)

/-! ## The blocks that overhang -/

/-- A buffer of words that nothing names. -/
def junk {s : Shape} {e : EltTy} : s.Idx → Elt F e := fun _ => Classical.arbitrary _

/-- Window w's staging buffer at point t: its block where the block lies in the array, d elsewhere. -/
abbrev filled (c : Dev nD) (w : Fin cfg0.W) (t : Fin cfg0.N) (d : (cfg0.win w).block.Idx → Elt F (cfg0.win w).elt) :
    (cfg0.win w).block.Idx → Elt F (cfg0.win w).elt :=
  (cfg0.win w).fill (cfg0.grid.coords t) d (iblk m c w t)

/-- Where the block lies in the array, the filled buffer holds the block's element. -/
theorem filled_at (c : Dev nD) (w : Fin cfg0.W) (t : Fin cfg0.N) (d) (x : (cfg0.win w).block.Idx)
    (h : ∀ a, (x a).val < (cfg0.win w).xsize (cfg0.grid.coords t) a) : filled m c w t d x = iblk m c w t fun a => ⟨(x a).val, h a⟩ := by
  unfold filled Pipeline.Window.fill
  rw [dif_pos (((cfg0.win w).moved_iff _ _).mpr h)]

/-- The buffer with the words that nothing names chosen once. -/
abbrev blk (c : Dev nD) (w : Fin cfg0.W) (t : Fin cfg0.N) : (cfg0.win w).block.Idx → Elt F (cfg0.win w).elt :=
  filled m c w t junk

/-- How much of the block of da lies in the array: all of it in an MLP step, 768 columns in the last one. -/
theorem size0 : ∀ t : Fin cfg0.N, (cfg0.win 0).xsize (cfg0.grid.coords t) = if mlpStep (grid0.coords t) then ![512, 1024] else ![512, 768] := by decide +kernel
theorem size1 : ∀ t : Fin cfg0.N, (cfg0.win 1).xsize (cfg0.grid.coords t) = if mlpStep (grid0.coords t) then ![4096, 1024] else ![4096, 768] := by decide +kernel
theorem size2 : ∀ t : Fin cfg0.N, (cfg0.win 2).xsize (cfg0.grid.coords t) = if mlpStep (grid0.coords t) then ![1, 1024] else ![1, 768] := by decide +kernel

/-- In an MLP step the buffer of window 0 is its block, whatever it held before. -/
theorem whole0 (c : Dev nD) (t : Fin cfg0.N) (h : mlpStep (grid0.coords t)) (d) : filled m c 0 t d = blk m c 0 t := by
  funext x
  have hx : ∀ a, (x a).val < (cfg0.win 0).xsize (cfg0.grid.coords t) a := by
    rw [size0, if_pos h]; exact Fin.forall_fin_two.2 ⟨(x 0).isLt, (x 1).isLt⟩
  rw [filled_at m c 0 t d x hx]; exact (filled_at m c 0 t _ x hx).symm

/-- In the last MLP step the first 768 columns of the buffer of window 0 are its block's. -/
theorem part0 (c : Dev nD) (t : Fin cfg0.N) (d) :
    View.ld (Val := Elt F) (filled m c 0 t d : Vec F S512x1024 .fp8e5m2) (Rect.unit (s := S512x1024) ![0, 0] S512x768.size inb_S512x1024_S512x768_0_0)
      = View.ld (Val := Elt F) (blk m c 0 t : Vec F S512x1024 .fp8e5m2) (Rect.unit (s := S512x1024) ![0, 0] S512x768.size inb_S512x1024_S512x768_0_0) := by
  funext x
  have hx : ∀ a, ((Rect.unit (s := S512x1024) ![0, 0] S512x768.size inb_S512x1024_S512x768_0_0).toLoadRect.idx x a).val < (cfg0.win 0).xsize (cfg0.grid.coords t) a := by
    have h0 : (x 0).val < 512 := (x 0).isLt
    have h1 : (x 1).val < 768 := (x 1).isLt
    rw [size0]
    refine Fin.forall_fin_two.2 ⟨?_, ?_⟩
    · rw [LoadRect.idx_apply]; split <;> simp <;> omega
    · rw [LoadRect.idx_apply]; split <;> simp <;> omega
  exact (filled_at m c 0 t d _ hx).trans (filled_at m c 0 t _ _ hx).symm

/-- In an MLP step the buffer of window 1 is its block, whatever it held before. -/
theorem whole1 (c : Dev nD) (t : Fin cfg0.N) (h : mlpStep (grid0.coords t)) (d) : filled m c 1 t d = blk m c 1 t := by
  funext x
  have hx : ∀ a, (x a).val < (cfg0.win 1).xsize (cfg0.grid.coords t) a := by
    rw [size1, if_pos h]; exact Fin.forall_fin_two.2 ⟨(x 0).isLt, (x 1).isLt⟩
  rw [filled_at m c 1 t d x hx]; exact (filled_at m c 1 t _ x hx).symm

/-- In the last MLP step the first 768 columns of the buffer of window 1 are its block's. -/
theorem part1 (c : Dev nD) (t : Fin cfg0.N) (d) :
    View.ld (Val := Elt F) (filled m c 1 t d : Vec F S4096x1024 .fp8e4m3) (Rect.unit (s := S4096x1024) ![0, 0] S4096x768.size inb_S4096x1024_S4096x768_0_0)
      = View.ld (Val := Elt F) (blk m c 1 t : Vec F S4096x1024 .fp8e4m3) (Rect.unit (s := S4096x1024) ![0, 0] S4096x768.size inb_S4096x1024_S4096x768_0_0) := by
  funext x
  have hx : ∀ a, ((Rect.unit (s := S4096x1024) ![0, 0] S4096x768.size inb_S4096x1024_S4096x768_0_0).toLoadRect.idx x a).val < (cfg0.win 1).xsize (cfg0.grid.coords t) a := by
    have h0 : (x 0).val < 4096 := (x 0).isLt
    have h1 : (x 1).val < 768 := (x 1).isLt
    rw [size1]
    refine Fin.forall_fin_two.2 ⟨?_, ?_⟩
    · rw [LoadRect.idx_apply]; split <;> simp <;> omega
    · rw [LoadRect.idx_apply]; split <;> simp <;> omega
  exact (filled_at m c 1 t d _ hx).trans (filled_at m c 1 t _ _ hx).symm

/-- In an MLP step the buffer of window 2 is its block, whatever it held before. -/
theorem whole2 (c : Dev nD) (t : Fin cfg0.N) (h : mlpStep (grid0.coords t)) (d) : filled m c 2 t d = blk m c 2 t := by
  funext x
  have hx : ∀ a, (x a).val < (cfg0.win 2).xsize (cfg0.grid.coords t) a := by
    rw [size2, if_pos h]; exact Fin.forall_fin_two.2 ⟨(x 0).isLt, (x 1).isLt⟩
  rw [filled_at m c 2 t d x hx]; exact (filled_at m c 2 t _ x hx).symm

/-- In the last MLP step the first 768 columns of the buffer of window 2 are its block's. -/
theorem part2 (c : Dev nD) (t : Fin cfg0.N) (d) :
    View.ld (Val := Elt F) (filled m c 2 t d : Vec F S1x1024 .f32) (Rect.unit (s := S1x1024) ![0, 0] S1x768.size inb_S1x1024_S1x768_0_0)
      = View.ld (Val := Elt F) (blk m c 2 t : Vec F S1x1024 .f32) (Rect.unit (s := S1x1024) ![0, 0] S1x768.size inb_S1x1024_S1x768_0_0) := by
  funext x
  have hx : ∀ a, ((Rect.unit (s := S1x1024) ![0, 0] S1x768.size inb_S1x1024_S1x768_0_0).toLoadRect.idx x a).val < (cfg0.win 2).xsize (cfg0.grid.coords t) a := by
    have h0 : (x 0).val < 1 := (x 0).isLt
    have h1 : (x 1).val < 768 := (x 1).isLt
    rw [size2]
    refine Fin.forall_fin_two.2 ⟨?_, ?_⟩
    · rw [LoadRect.idx_apply]; split <;> simp <;> omega
    · rw [LoadRect.idx_apply]; split <;> simp <;> omega
  exact (filled_at m c 2 t d _ hx).trans (filled_at m c 2 t _ _ hx).symm

/-- So the MLP accumulator after a step does not depend on the words that nothing names. -/
theorem accM_congr (c : Dev nD) (t : Fin cfg0.N) (d0 d1 d2) (a : Vec F S512x4096 .f32) :
    accMNext (grid0.coords t) (filled m c 0 t d0) (filled m c 1 t d1) (filled m c 2 t d2) a
      = accMNext (grid0.coords t) (blk m c 0 t) (blk m c 1 t) (blk m c 2 t) a := by
  unfold accMNext
  by_cases h : mlpStep (grid0.coords t)
  · rw [if_pos h, if_pos h, whole0 m c t h, whole1 m c t h, whole2 m c t h]
  · rw [if_neg h, if_neg h]
    refine congrArg (fun z => if mlpTail (grid0.coords t) then z else a) ?_
    exact congr (congrFun (congr (congrArg k0_pay6 (part0 m c t d0)) (part2 m c t d2)) a) (part1 m c t d1)

/-! ## What the buffers hold between steps -/

/-- The two accumulators and the two gains' gradients. -/
abbrev State (F : FTy → Type) [FloatOps F] : Type :=
  Vec F S512x4096 .f32 × Vec F S512x4096 .f32 × Vec F S1x4096 .f32 × Vec F S1x4096 .f32

/-- One step on them. -/
def step (c : Dev nD) (t : Fin cfg0.N) (s : State F) : State F :=
  (accMNext (grid0.coords t) (blk m c 0 t) (blk m c 1 t) (blk m c 2 t) s.1,
   accANext (grid0.coords t) (iblk m c 3 t) (iblk m c 4 t) (iblk m c 5 t) s.2.1,
   attnNext (grid0.coords t) (iblk m c 3 t) (iblk m c 4 t) (iblk m c 5 t) (iblk m c 7 t) (iblk m c 8 t) s.2.1 s.2.2.1,
   mlpNext (grid0.coords t) (blk m c 0 t) (blk m c 1 t) (blk m c 2 t) (iblk m c 7 t) (iblk m c 8 t) s.1 s.2.2.2)

/-- What they hold before step n; before the first, nothing named. -/
def st (c : Dev nD) : ℕ → State F
  | 0 => (junk, junk, junk, junk)
  | n + 1 => if h : n < cfg0.N then step m c ⟨n, h⟩ (st c n) else st c n

theorem st_succ (c : Dev nD) (t : Fin cfg0.N) : st m c (t.val + 1) = step m c t (st m c t.val) := by
  conv_lhs => unfold st
  rw [dif_pos t.isLt]

/-- The first step does not read them. -/
theorem step_start (c : Dev nD) (t : Fin cfg0.N) (h : start (grid0.coords t)) (s s' : State F) : step m c t s = step m c t s' := by
  obtain ⟨h1, h2, h3, h4⟩ := start_kind t h
  unfold step accMNext accANext attnNext mlpNext
  rw [if_pos h2, if_pos h1, if_pos h2, if_pos h1, if_neg h3, if_pos h1, if_neg h3, if_pos h1, dif_neg h4, if_pos h, dif_neg h4, if_pos h,
    dif_neg h4, if_pos h, dif_neg h4, if_pos h]

/-- The 512 rows of dx that the last step of a row block stores. -/
def dxAt (c : Dev nD) (t : Fin cfg0.N) : Vec F S512x4096 .bf16 :=
  dxNext (grid0.coords t) (iblk m c 3 t) (iblk m c 4 t) (iblk m c 5 t) (blk m c 0 t) (blk m c 1 t) (blk m c 2 t)
    (iblk m c 6 t) (iblk m c 7 t) (iblk m c 8 t) (iblk m c 9 t) (iblk m c 10 t) (st m c t.val).1 (st m c t.val).2.1 junk

/-! ## The proof data -/

/-- The two accumulators as the kernel's body is handed them. -/
abbrev scM0 : Memref sig .tc .vmem S512x4096 .f32 := Memref.whole cc0_scratch0
abbrev scA0 : Memref sig .tc .vmem S512x4096 .f32 := Memref.whole cc0_scratch1

/-- What the pipeline keeps beside the windows: the two accumulators at anything, and the generator register. -/
theorem ΦA_eq (c : Dev nD) :
    (Pipeline.ΦA spec0 c : sProp 𝕄)
      = iprop(iprop((∃ d, owns (c : Thread nD τ) scM0 fullShare d) ∗ (∃ d, owns (c : Thread nD τ) scA0 fullShare d)) ∗ (∃ r, prngReg c r)) := by
  unfold Pipeline.ΦA; rw [scopedRest0_eq]; simp only [scM0, scA0, owns_whole]; try rfl

/-- The same before step n: after a step, the accumulators at what the step left. -/
def Φn (c : Dev nD) : ℕ → sProp 𝕄
  | 0 => Pipeline.ΦA spec0 c
  | n + 1 => iprop(iprop(owns (c : Thread nD τ) scM0 fullShare (st m c (n + 1)).1 ∗ owns (c : Thread nD τ) scA0 fullShare (st m c (n + 1)).2.1) ∗ (∃ r, prngReg c r))

/-- The proof data: the arrays as the call finds them; the input buffers keep their blocks; the results' buffers hold what the steps so far left. -/
def dats (_ : Fin 1) (c : Dev nD) : Dat τ (Elt F) Unit ℕ (UR sig nD τ) ℕ cfg0 c where
  A w := V m c (Pipeline.arrRef spec0 w)
  after w t := match w with
    | ⟨0, _⟩ => blk m c 0 t
    | ⟨1, _⟩ => blk m c 1 t
    | ⟨2, _⟩ => blk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => dxAt m c t
    | ⟨12, _⟩ => (st m c (t.val + 1)).2.2.1
    | ⟨13, _⟩ => (st m c (t.val + 1)).2.2.2
  Φ t := Φn m c t.val
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = blk m c 0 t := by dsimp only [dats]
theorem after1 (c : Dev nD) (t : Fin cfg0.N) : (dats m 0 c).after 1 t = blk m c 1 t := by dsimp only [dats]
theorem after2 (c : Dev nD) (t : Fin cfg0.N) : (dats m 0 c).after 2 t = blk m c 2 t := by dsimp only [dats]
theorem after11 (c : Dev nD) (t : Fin cfg0.N) : (dats m 0 c).after 11 t = dxAt m c t := by dsimp only [dats]
theorem after12 (c : Dev nD) (t : Fin cfg0.N) : (dats m 0 c).after 12 t = (st m c (t.val + 1)).2.2.1 := by dsimp only [dats]
theorem after13 (c : Dev nD) (t : Fin cfg0.N) : (dats m 0 c).after 13 t = (st m c (t.val + 1)).2.2.2 := by dsimp only [dats]

/-- A cut of a block depends on the block's place only. -/
theorem clip0 : ∀ t t' : Fin cfg0.N, (cfg0.win 0).index t = (cfg0.win 0).index t' →
    (cfg0.win 0).clip (cfg0.grid.coords t) = (cfg0.win 0).clip (cfg0.grid.coords t') := by decide +kernel
theorem clip1 : ∀ t t' : Fin cfg0.N, (cfg0.win 1).index t = (cfg0.win 1).index t' →
    (cfg0.win 1).clip (cfg0.grid.coords t) = (cfg0.win 1).clip (cfg0.grid.coords t') := by decide +kernel
theorem clip2 : ∀ t t' : Fin cfg0.N, (cfg0.win 2).index t = (cfg0.win 2).index t' →
    (cfg0.win 2).clip (cfg0.grid.coords t) = (cfg0.win 2).clip (cfg0.grid.coords t') := by decide +kernel

/-- An input's buffer keeps its block, and so holds it at every point, fetched there or not. -/
theorem cut0 (c : Dev nD) (t : Fin cfg0.N) : (cfg0.win 0).cut (cfg0.grid.coords t) ((dats m 0 c).after 0 t) = iblk m c 0 t := by
  rw [after0]; exact (cfg0.win 0).cut_fill (cfg0.grid.coords t) junk (iblk m c 0 t)
theorem before0 (c : Dev nD) (t : Fin cfg0.N) (d) : (dats m 0 c).before 0 t d = filled m c 0 t d := by
  rw [(dats m 0 c).before_in_eq_fetched 0 rfl (fun _ => rfl) (clip0) (fun t => (cut0 m c t).trans (by unfold Dat.blockOf iblk; rw [A_eq])) t d]
  rfl
theorem cut1 (c : Dev nD) (t : Fin cfg0.N) : (cfg0.win 1).cut (cfg0.grid.coords t) ((dats m 0 c).after 1 t) = iblk m c 1 t := by
  rw [after1]; exact (cfg0.win 1).cut_fill (cfg0.grid.coords t) junk (iblk m c 1 t)
theorem before1 (c : Dev nD) (t : Fin cfg0.N) (d) : (dats m 0 c).before 1 t d = filled m c 1 t d := by
  rw [(dats m 0 c).before_in_eq_fetched 1 rfl (fun _ => rfl) (clip1) (fun t => (cut1 m c t).trans (by unfold Dat.blockOf iblk; rw [A_eq])) t d]
  rfl
theorem cut2 (c : Dev nD) (t : Fin cfg0.N) : (cfg0.win 2).cut (cfg0.grid.coords t) ((dats m 0 c).after 2 t) = iblk m c 2 t := by
  rw [after2]; exact (cfg0.win 2).cut_fill (cfg0.grid.coords t) junk (iblk m c 2 t)
theorem before2 (c : Dev nD) (t : Fin cfg0.N) (d) : (dats m 0 c).before 2 t d = filled m c 2 t d := by
  rw [(dats m 0 c).before_in_eq_fetched 2 rfl (fun _ => rfl) (clip2) (fun t => (cut2 m c t).trans (by unfold Dat.blockOf iblk; rw [A_eq])) t d]
  rfl
theorem before3 (c : Dev nD) (t : Fin cfg0.N) (d) : (dats m 0 c).before 3 t d = iblk m c 3 t :=
  before0_3_of m (dats m 0 c) (A_eq m c 3) (fun _ => by dsimp only [dats]) t d
theorem before4 (c : Dev nD) (t : Fin cfg0.N) (d) : (dats m 0 c).before 4 t d = iblk m c 4 t :=
  before0_4_of m (dats m 0 c) (A_eq m c 4) (fun _ => by dsimp only [dats]) t d
theorem before5 (c : Dev nD) (t : Fin cfg0.N) (d) : (dats m 0 c).before 5 t d = iblk m c 5 t :=
  before0_5_of m (dats m 0 c) (A_eq m c 5) (fun _ => by dsimp only [dats]) t d
theorem before6 (c : Dev nD) (t : Fin cfg0.N) (d) : (dats m 0 c).before 6 t d = iblk m c 6 t :=
  before0_6_of m (dats m 0 c) (A_eq m c 6) (fun _ => by dsimp only [dats]) t d
theorem before7 (c : Dev nD) (t : Fin cfg0.N) (d) : (dats m 0 c).before 7 t d = iblk m c 7 t :=
  before0_7_of m (dats m 0 c) (A_eq m c 7) (fun _ => by dsimp only [dats]) t d
theorem before8 (c : Dev nD) (t : Fin cfg0.N) (d) : (dats m 0 c).before 8 t d = iblk m c 8 t :=
  before0_8_of m (dats m 0 c) (A_eq m c 8) (fun _ => by dsimp only [dats]) t d
theorem before9 (c : Dev nD) (t : Fin cfg0.N) (d) : (dats m 0 c).before 9 t d = iblk m c 9 t :=
  before0_9_of m (dats m 0 c) (A_eq m c 9) (fun _ => by dsimp only [dats]) t d
theorem before10 (c : Dev nD) (t : Fin cfg0.N) (d) : (dats m 0 c).before 10 t d = iblk m c 10 t :=
  before0_10_of m (dats m 0 c) (A_eq m c 10) (fun _ => by dsimp only [dats]) t d

/-- A step that stores nothing into window 12 leaves its gradient as it was. -/
theorem carry12 (c : Dev nD) (t : Fin cfg0.N) (hi : cfg0.idle 12 (grid0.coords t) = true) :
    (st m c (t.val + 1)).2.2.1 = (st m c t.val).2.2.1 := by
  rw [idle12] at hi
  have h : ¬ (t.val = 0) ∧ ¬ (t.val % 23 = 22) := by simpa using hi
  rw [st_succ]; unfold step attnNext; dsimp only
  rw [dif_neg (fun h' => h.2 ((last_iff t).mp h')), if_neg (fun h' => h.1 ((start_iff t).mp h'))]

/-- Before every step but the first, window 12's buffer holds what the steps so far left. -/
theorem before12 (c : Dev nD) (t : Fin cfg0.N) (ht : t.val ≠ 0) (d) : (dats m 0 c).before 12 t d = (st m c t.val).2.2.1 := by
  have hN : t.val < 138 := lt_of_lt_of_eq t.isLt (show cfg0.N = 138 from N_0)
  rw [Dat.before_out_traj _ 12 rfl (fun _ _ => rfl) (fun t ht hi _ => ?_) t.val t rfl d,
    if_neg (by rw [fresh12 t, decide_eq_true_eq]; omega), after12]
  · dsimp only; rw [Nat.sub_add_cancel (Nat.one_le_iff_ne_zero.2 ht)]
  · rw [after12, after12, carry12 m c t hi]; dsimp only; rw [Nat.sub_add_cancel (Nat.one_le_iff_ne_zero.2 ht)]

/-- A step that stores nothing into window 13 leaves its gradient as it was. -/
theorem carry13 (c : Dev nD) (t : Fin cfg0.N) (hi : cfg0.idle 13 (grid0.coords t) = true) :
    (st m c (t.val + 1)).2.2.2 = (st m c t.val).2.2.2 := by
  rw [idle13] at hi
  have h : ¬ (t.val = 0) ∧ ¬ (t.val % 23 = 22) := by simpa using hi
  rw [st_succ]; unfold step mlpNext; dsimp only
  rw [dif_neg (fun h' => h.2 ((last_iff t).mp h')), if_neg (fun h' => h.1 ((start_iff t).mp h'))]

/-- Before every step but the first, window 13's buffer holds what the steps so far left. -/
theorem before13 (c : Dev nD) (t : Fin cfg0.N) (ht : t.val ≠ 0) (d) : (dats m 0 c).before 13 t d = (st m c t.val).2.2.2 := by
  have hN : t.val < 138 := lt_of_lt_of_eq t.isLt (show cfg0.N = 138 from N_0)
  rw [Dat.before_out_traj _ 13 rfl (fun _ _ => rfl) (fun t ht hi _ => ?_) t.val t rfl d,
    if_neg (by rw [fresh13 t, decide_eq_true_eq]; omega), after13]
  · dsimp only; rw [Nat.sub_add_cancel (Nat.one_le_iff_ne_zero.2 ht)]
  · rw [after13, after13, carry13 m c t hi]; dsimp only; rw [Nat.sub_add_cancel (Nat.one_le_iff_ne_zero.2 ht)]

/-! ## The body's obligation -/

theorem leaves0 (c : Dev nD) (t : Fin cfg0.N) :
    (dats m 0 c).leaves 0 t = iprop(∃ d, owns (c : Thread nD τ) (st0_0 t) fullShare (filled m c 0 t d)) := by
  have e : ∀ d, (cfg0.win 0).fill (cfg0.grid.coords t) d ((cfg0.win 0).cut (cfg0.grid.coords t) ((dats m 0 c).after 0 t)) = filled m c 0 t d :=
    fun d => congrArg ((cfg0.win 0).fill (cfg0.grid.coords t) d) (cut0 m c t)
  show (iprop(∃ d, owns (c : Thread nD τ) (st0_0 t) fullShare ((cfg0.win 0).fill (cfg0.grid.coords t) d ((cfg0.win 0).cut (cfg0.grid.coords t) ((dats m 0 c).after 0 t)))) : sProp 𝕄) = _
  simp only [e]
theorem leaves1 (c : Dev nD) (t : Fin cfg0.N) :
    (dats m 0 c).leaves 1 t = iprop(∃ d, owns (c : Thread nD τ) (st0_1 t) fullShare (filled m c 1 t d)) := by
  have e : ∀ d, (cfg0.win 1).fill (cfg0.grid.coords t) d ((cfg0.win 1).cut (cfg0.grid.coords t) ((dats m 0 c).after 1 t)) = filled m c 1 t d :=
    fun d => congrArg ((cfg0.win 1).fill (cfg0.grid.coords t) d) (cut1 m c t)
  show (iprop(∃ d, owns (c : Thread nD τ) (st0_1 t) fullShare ((cfg0.win 1).fill (cfg0.grid.coords t) d ((cfg0.win 1).cut (cfg0.grid.coords t) ((dats m 0 c).after 1 t)))) : sProp 𝕄) = _
  simp only [e]
theorem leaves2 (c : Dev nD) (t : Fin cfg0.N) :
    (dats m 0 c).leaves 2 t = iprop(∃ d, owns (c : Thread nD τ) (st0_2 t) fullShare (filled m c 2 t d)) := by
  have e : ∀ d, (cfg0.win 2).fill (cfg0.grid.coords t) d ((cfg0.win 2).cut (cfg0.grid.coords t) ((dats m 0 c).after 2 t)) = filled m c 2 t d :=
    fun d => congrArg ((cfg0.win 2).fill (cfg0.grid.coords t) d) (cut2 m c t)
  show (iprop(∃ d, owns (c : Thread nD τ) (st0_2 t) fullShare ((cfg0.win 2).fill (cfg0.grid.coords t) d ((cfg0.win 2).cut (cfg0.grid.coords t) ((dats m 0 c).after 2 t)))) : sProp 𝕄) = _
  simp only [e]
theorem leaves3 (c : Dev nD) (t : Fin cfg0.N) :
    (dats m 0 c).leaves 3 t = owns (c : Thread nD τ) (st0_3 t) fullShare (iblk m c 3 t) := rfl
theorem leaves4 (c : Dev nD) (t : Fin cfg0.N) :
    (dats m 0 c).leaves 4 t = owns (c : Thread nD τ) (st0_4 t) fullShare (iblk m c 4 t) := rfl
theorem leaves5 (c : Dev nD) (t : Fin cfg0.N) :
    (dats m 0 c).leaves 5 t = owns (c : Thread nD τ) (st0_5 t) fullShare (iblk m c 5 t) := rfl
theorem leaves6 (c : Dev nD) (t : Fin cfg0.N) :
    (dats m 0 c).leaves 6 t = owns (c : Thread nD τ) (st0_6 t) fullShare (iblk m c 6 t) := rfl
theorem leaves7 (c : Dev nD) (t : Fin cfg0.N) :
    (dats m 0 c).leaves 7 t = owns (c : Thread nD τ) (st0_7 t) fullShare (iblk m c 7 t) := rfl
theorem leaves8 (c : Dev nD) (t : Fin cfg0.N) :
    (dats m 0 c).leaves 8 t = owns (c : Thread nD τ) (st0_8 t) fullShare (iblk m c 8 t) := rfl
theorem leaves9 (c : Dev nD) (t : Fin cfg0.N) :
    (dats m 0 c).leaves 9 t = owns (c : Thread nD τ) (st0_9 t) fullShare (iblk m c 9 t) := rfl
theorem leaves10 (c : Dev nD) (t : Fin cfg0.N) :
    (dats m 0 c).leaves 10 t = owns (c : Thread nD τ) (st0_10 t) fullShare (iblk m c 10 t) := rfl

/-- What the step leaves in the buffer of the rows of dx. -/
theorem leaves11 (c : Dev nD) (t : Fin cfg0.N) (d) (X : Vec F S512x4096 .bf16)
    (e11 : last (grid0.coords t) → X = dxAt m c t) (n11 : ¬ last (grid0.coords t) → X = (dats m 0 c).before 11 t d) :
    owns (c : Thread nD τ) (st0_11 t) fullShare X ⊢ ((dats m 0 c).leaves 11 t : sProp 𝕄) := by
  by_cases h : t.val % 23 = 22
  · rw [show (dats m 0 c).leaves 11 t = owns (c : Thread nD τ) (st0_11 t) fullShare ((dats m 0 c).after 11 t) from by
      unfold Dat.leaves; rw [idle11 t, decide_eq_true h]; rfl, after11, e11 ((last_iff t).mpr h)]
  · rw [show (dats m 0 c).leaves 11 t = iprop(∃ d, owns (c : Thread nD τ) (st0_11 t) fullShare ((dats m 0 c).before 11 t d)) from by
      unfold Dat.leaves; rw [idle11 t, noflush11 t, decide_eq_false h]; rfl, n11 (fun h' => h ((last_iff t).mp h'))]
    iintro H; iexists _; iexact H

/-- What the step leaves in the buffer of window 12. -/
theorem leaves12 (c : Dev nD) (t : Fin cfg0.N) :
    owns (c : Thread nD τ) (st0_12 t) fullShare (st m c (t.val + 1)).2.2.1 ⊢ ((dats m 0 c).leaves 12 t : sProp 𝕄) := by
  by_cases h : t.val = 0 ∨ t.val % 23 = 22
  · rw [show (dats m 0 c).leaves 12 t = owns (c : Thread nD τ) (st0_12 t) fullShare ((dats m 0 c).after 12 t) from by
      unfold Dat.leaves
      rw [idle12 t, show (!(decide (t.val = 0) || decide (t.val % 23 = 22))) = false from by rcases h with h | h <;> simp [h]], after12]
  · have hi : cfg0.idle 12 (grid0.coords t) = true := by rw [idle12 t]; simpa using h
    rw [show (dats m 0 c).leaves 12 t = iprop(∃ d, owns (c : Thread nD τ) (st0_12 t) fullShare ((dats m 0 c).before 12 t d)) from by
      unfold Dat.leaves
      rw [hi, noflush12 t, decide_eq_false (fun h' : t.val = 137 => h (Or.inr (by rw [h'])))],
      carry12 m c t hi]
    simp only [before12 m c t (fun h' => h (Or.inl h'))]
    iintro H; iexists junk; iexact H

/-- What the step leaves in the buffer of window 13. -/
theorem leaves13 (c : Dev nD) (t : Fin cfg0.N) :
    owns (c : Thread nD τ) (st0_13 t) fullShare (st m c (t.val + 1)).2.2.2 ⊢ ((dats m 0 c).leaves 13 t : sProp 𝕄) := by
  by_cases h : t.val = 0 ∨ t.val % 23 = 22
  · rw [show (dats m 0 c).leaves 13 t = owns (c : Thread nD τ) (st0_13 t) fullShare ((dats m 0 c).after 13 t) from by
      unfold Dat.leaves
      rw [idle13 t, show (!(decide (t.val = 0) || decide (t.val % 23 = 22))) = false from by rcases h with h | h <;> simp [h]], after13]
  · have hi : cfg0.idle 13 (grid0.coords t) = true := by rw [idle13 t]; simpa using h
    rw [show (dats m 0 c).leaves 13 t = iprop(∃ d, owns (c : Thread nD τ) (st0_13 t) fullShare ((dats m 0 c).before 13 t d)) from by
      unfold Dat.leaves
      rw [hi, noflush13 t, decide_eq_false (fun h' : t.val = 137 => h (Or.inr (by rw [h'])))],
      carry13 m c t hi]
    simp only [before13 m c t (fun h' => h (Or.inl h'))]
    iintro H; iexists junk; iexact H

/-- What the body is called with at point t. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

/-- What it gives back. -/
def bodyPost (c : Dev nD) (t : Fin cfg0.N) : sProp 𝕄 :=
  iprop((dats m 0 c).Φ t.succ ∗ (dats m 0 c).owesAt () t.succ
    ∗ (dats m 0 c).leaves 0 t
    ∗ (dats m 0 c).leaves 1 t
    ∗ (dats m 0 c).leaves 2 t
    ∗ (dats m 0 c).leaves 3 t
    ∗ (dats m 0 c).leaves 4 t
    ∗ (dats m 0 c).leaves 5 t
    ∗ (dats m 0 c).leaves 6 t
    ∗ (dats m 0 c).leaves 7 t
    ∗ (dats m 0 c).leaves 8 t
    ∗ (dats m 0 c).leaves 9 t
    ∗ (dats m 0 c).leaves 10 t
    ∗ (dats m 0 c).leaves 11 t
    ∗ (dats m 0 c).leaves 12 t
    ∗ (dats m 0 c).leaves 13 t)

/-- A step from buffers that hold m, a, g, h leaves what the step on them computes, so long as that is what the step computes from the named state. -/
theorem step_sound (c : Dev nD) (t : Fin cfg0.N) (d0 d1 d2 d11) (s : State F) (hs : step m c t s = st m c (t.val + 1)) (hl : last (grid0.coords t) → s = st m c t.val)
    (R : sProp 𝕄) :
    iprop(owns (c : Thread nD τ) (st0_0 t) fullShare (filled m c 0 t d0) ∗ owns (c : Thread nD τ) (st0_1 t) fullShare (filled m c 1 t d1) ∗ owns (c : Thread nD τ) (st0_2 t) fullShare (filled m c 2 t d2) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare (iblk m c 6 t) ∗ owns (c : Thread nD τ) (st0_7 t) fullShare (iblk m c 7 t) ∗ owns (c : Thread nD τ) (st0_8 t) fullShare (iblk m c 8 t) ∗ owns (c : Thread nD τ) (st0_9 t) fullShare (iblk m c 9 t) ∗ owns (c : Thread nD τ) (st0_10 t) fullShare (iblk m c 10 t)
      ∗ owns (c : Thread nD τ) (st0_11 t) fullShare ((dats m 0 c).before 11 t d11) ∗ owns (c : Thread nD τ) (st0_12 t) fullShare s.2.2.1 ∗ owns (c : Thread nD τ) (st0_13 t) fullShare s.2.2.2
      ∗ owns (c : Thread nD τ) scM0 fullShare s.1 ∗ owns (c : Thread nD τ) scA0 fullShare s.2.1 ∗ R)
    ⊢ wp frame (wpE (defs₀ (F := F)) Variants.none c none) Set.univ (bodyAt0 t) (fun _ => iprop(R ∗ owns (c : Thread nD τ) scM0 fullShare (st m c (t.val + 1)).1 ∗ owns (c : Thread nD τ) scA0 fullShare (st m c (t.val + 1)).2.1
      ∗ (dats m 0 c).leaves 0 t
    ∗ (dats m 0 c).leaves 1 t
    ∗ (dats m 0 c).leaves 2 t
    ∗ (dats m 0 c).leaves 3 t
    ∗ (dats m 0 c).leaves 4 t
    ∗ (dats m 0 c).leaves 5 t
    ∗ (dats m 0 c).leaves 6 t
    ∗ (dats m 0 c).leaves 7 t
    ∗ (dats m 0 c).leaves 8 t
    ∗ (dats m 0 c).leaves 9 t
    ∗ (dats m 0 c).leaves 10 t
    ∗ (dats m 0 c).leaves 11 t
    ∗ (dats m 0 c).leaves 12 t
    ∗ (dats m 0 c).leaves 13 t)) := by
  unfold bodyAt0
  rw [leaves0, leaves1, leaves2, leaves3, leaves4, leaves5, leaves6, leaves7, leaves8, leaves9, leaves10]
  iintro ⟨H0, H1, H2, H3, H4, H5, H6, H7, H8, H9, H10, H11, H12, H13, H14, H15, HR⟩
  iapply (body_triple c (grid0.coords t) _ _ _ _ _ _ _ _ _ _ _ _ _ _ _ _ _ _ _ _ _ _ _ _ _ _ _ _ _ _ _ _ (filled m c 0 t d0) (filled m c 1 t d1) (filled m c 2 t d2) (iblk m c 3 t) (iblk m c 4 t) (iblk m c 5 t) (iblk m c 6 t) (iblk m c 7 t) (iblk m c 8 t) (iblk m c 9 t) (iblk m c 10 t)
    ((dats m 0 c).before 11 t d11) s.2.2.1 s.2.2.2 s.1 s.2.1 (kinds t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  have e11 : last (grid0.coords t) → dxNext (grid0.coords t) (iblk m c 3 t) (iblk m c 4 t) (iblk m c 5 t) (filled m c 0 t d0) (filled m c 1 t d1) (filled m c 2 t d2)
      (iblk m c 6 t) (iblk m c 7 t) (iblk m c 8 t) (iblk m c 9 t) (iblk m c 10 t) s.1 s.2.1 ((dats m 0 c).before 11 t d11) = dxAt m c t := by
    intro h; unfold dxAt dxNext; rw [dif_pos h, dif_pos h, accM_congr, hl h]
  have n11 : ¬ last (grid0.coords t) → dxNext (grid0.coords t) (iblk m c 3 t) (iblk m c 4 t) (iblk m c 5 t) (filled m c 0 t d0) (filled m c 1 t d1) (filled m c 2 t d2)
      (iblk m c 6 t) (iblk m c 7 t) (iblk m c 8 t) (iblk m c 9 t) (iblk m c 10 t) s.1 s.2.1 ((dats m 0 c).before 11 t d11) = (dats m 0 c).before 11 t d11 := by
    intro h; unfold dxNext; rw [dif_neg h]
  have e13 : mlpNext (grid0.coords t) (filled m c 0 t d0) (filled m c 1 t d1) (filled m c 2 t d2) (iblk m c 7 t) (iblk m c 8 t) s.1 s.2.2.2 = (st m c (t.val + 1)).2.2.2 := by
    rw [← hs]; unfold step mlpNext; rw [accM_congr]
  rw [show attnNext (grid0.coords t) (iblk m c 3 t) (iblk m c 4 t) (iblk m c 5 t) (iblk m c 7 t) (iblk m c 8 t) s.2.1 s.2.2.1 = (st m c (t.val + 1)).2.2.1 from congrArg (fun s => s.2.2.1) hs,
    e13,
    accM_congr,
    show accMNext (grid0.coords t) (blk m c 0 t) (blk m c 1 t) (blk m c 2 t) s.1 = (st m c (t.val + 1)).1 from congrArg (fun s => s.1) hs,
    show accANext (grid0.coords t) (iblk m c 3 t) (iblk m c 4 t) (iblk m c 5 t) s.2.1 = (st m c (t.val + 1)).2.1 from congrArg (fun s => s.2.1) hs]
  iintro ⟨H0, H1, H2, H3, H4, H5, H6, H7, H8, H9, H10, H11, H12, H13, H14, H15⟩
  isplitl [HR]; · iexact HR
  isplitl [H14]; · iexact H14
  isplitl [H15]; · iexact H15
  isplitl [H0]; · iexists d0; iexact H0
  isplitl [H1]; · iexists d1; iexact H1
  isplitl [H2]; · iexists d2; iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · iapply (leaves11 m c t d11 _ (e11 := e11) (n11 := n11))
    iexact H11
  isplitl [H12]; · iapply (leaves12 m c t); iexact H12
  iapply (leaves13 m c t); iexact H13

/-- The step's buffers, regrouped as the pipeline takes them back. -/
theorem hpost (c : Dev nD) (t : Fin cfg0.N) (_ : PUnit) :
    iprop(iprop((∃ r, prngReg c r) ∗ (dats m 0 c).owesAt () t.castSucc) ∗ owns (c : Thread nD τ) scM0 fullShare (st m c (t.val + 1)).1 ∗ owns (c : Thread nD τ) scA0 fullShare (st m c (t.val + 1)).2.1
      ∗ (dats m 0 c).leaves 0 t
    ∗ (dats m 0 c).leaves 1 t
    ∗ (dats m 0 c).leaves 2 t
    ∗ (dats m 0 c).leaves 3 t
    ∗ (dats m 0 c).leaves 4 t
    ∗ (dats m 0 c).leaves 5 t
    ∗ (dats m 0 c).leaves 6 t
    ∗ (dats m 0 c).leaves 7 t
    ∗ (dats m 0 c).leaves 8 t
    ∗ (dats m 0 c).leaves 9 t
    ∗ (dats m 0 c).leaves 10 t
    ∗ (dats m 0 c).leaves 11 t
    ∗ (dats m 0 c).leaves 12 t
    ∗ (dats m 0 c).leaves 13 t) ⊢ bodyPost m c t := by
  unfold bodyPost
  rw [show (dats m 0 c).Φ t.succ = Φn m c (t.val + 1) from rfl, show (dats m 0 c).owesAt () t.succ = (dats m 0 c).owesAt () t.castSucc from rfl]
  unfold Φn
  iintro ⟨⟨Hg, Ho⟩, HM, HA, Hr⟩
  isplitl [HM HA Hg]
  · isplitl [HM HA]
    · isplitl [HM]; · iexact HM
      iexact HA
    iexact Hg
  isplitl [Ho]; · iexact Ho
  iexact Hr

/-- One step of the pipeline. -/
theorem sound_body (c : Dev nD) (t : Fin cfg0.N) :
    bodyPre m c t ⊢ wp frame (wpE (defs₀ (F := F)) Variants.none c none) Set.univ (bodyAt0 t) (fun _ => bodyPost m c t) := by
  unfold bodyPre
  simp only [before0 m c t, before1 m c t, before2 m c t, before3 m c t, before4 m c t, before5 m c t, before6 m c t, before7 m c t, before8 m c t, before9 m c t, before10 m c t]
  rw [show (dats m 0 c).Φ t.castSucc = Φn m c t.val from rfl]
  by_cases hz : t.val = 0
  · rw [show Φn m c t.val = Pipeline.ΦA spec0 c from by rw [hz]; rfl, ΦA_eq]
    iintro ⟨⟨⟨⟨%a0, HM⟩, ⟨%a1, HA⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (triple_restated (step_sound m c t d0 d1 d2 d11 (a0, a1, (dats m 0 c).before 12 t d12, (dats m 0 c).before 13 t d13) ((step_start m c t ((start_iff t).mpr hz) _ _).trans (st_succ m c t).symm) (fun h => absurd h (start_kind t ((start_iff t).mpr hz)).2.2.2) iprop((∃ r, prngReg c r) ∗ (dats m 0 c).owesAt () t.castSucc)) rfl .rfl (hpost m c t))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [HM]; · iexact HM
    isplitl [HA]; · iexact HA
    isplitl [Hg]; · iexact Hg
    iexact Ho
  · simp only [before12 m c t hz, before13 m c t hz]
    rw [show Φn m c t.val = iprop(iprop(owns (c : Thread nD τ) scM0 fullShare (st m c t.val).1 ∗ owns (c : Thread nD τ) scA0 fullShare (st m c t.val).2.1) ∗ (∃ r, prngReg c r)) from by
      obtain ⟨n, hn⟩ := Nat.exists_eq_succ_of_ne_zero hz
      rw [hn]; rfl]
    iintro ⟨⟨⟨HM, HA⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (triple_restated (step_sound m c t d0 d1 d2 d11 (st m c t.val) (st_succ m c t).symm (fun _ => rfl) iprop((∃ r, prngReg c r) ∗ (dats m 0 c).owesAt () t.castSucc)) rfl .rfl (hpost m c t))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [HM]; · iexact HM
    isplitl [HA]; · iexact HA
    isplitl [Hg]; · iexact Hg
    iexact Ho

/-- The body as the pipeline calls it at point t. -/
theorem defs₀_row (t : Fin cfg0.N) : defs₀ (F := F) .tc cfg0.body (cfg0.bodyArgs t (cfg0.slots t)) = bodyAt0 t := by
  unfold defs₀; rw [Defs.onTc_tc]

/-- The body's obligation at every point. -/
theorem obligation (c : Dev nD) : BodyObligationLoose (dats (F := F) m 0 c) (defs₀ (F := F)) Variants.none () Set.univ := fun t => by
  rw [bigSep_W0, bigSep_W0, defs₀_row]
  exact triple_restated (sound_body m c t) rfl .rfl fun _ => .rfl

/-! ## The run -/

theorem hin (c : Dev nD) : Pipeline.ΦA spec0 c ⊢ (dats m 0 c).Φ 0 := Idealize.SL.BI.Entails.refl _

theorem hout (c : Dev nD) : (dats m 0 c).Φ (Fin.last cfg0.N) ⊢ Pipeline.ΦA spec0 c := by
  rw [show (dats m 0 c).Φ (Fin.last cfg0.N) = Φn m c (137 + 1) from congrArg (Φn m c) N_0, ΦA_eq]
  unfold Φn
  iintro ⟨⟨HM, HA⟩, Hg⟩
  isplitl [HM HA]
  · isplitl [HM]; · iexists _; iexact HM
    iexists _; iexact HA
  iexact Hg

set_option backward.isDefEq.respectTransparency.types false in
/-- Every run ends, at the arrays that the proof data describe and with every counter at zero. -/
theorem run : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := obligation m) (hshare := fun c => (dats m 0 c).share_full fun _ => rfl)
    (howed := fun _ _ => rfl) (V := V m) (hmain := hmain m Variants.none) (hA := A_eq m) (hin := hin m) (hout := hout m)

/-- The frame: the arguments end as they were, and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  θ_run_and (frame_of m ρ (dats m) (A_eq m) ((θ_run defs _ _).mono (fun _ h => h.1) (run m ρ))) ((θ_run defs _ _).mono (fun _ h => h.2) (run m ρ))

end Cert.DxKernelIdeal.DxRun

end
-- ==== Proof.DxBits.lean ====
/-
  dx: the kernel's run at the machine's floats. The program is the ideal one's, read at other float values.
-/
module

public import proofs.«01_k».proof.Defs
public import proofs.«01_k».proof.Proof.DxRun
public import proofs.«01_k».proof.Proof.Gen.DxKernel

@[expose] public section

set_option maxHeartbeats 4000000
set_option maxRecDepth 16384

noncomputable section

open Idealize.ShloMosaic Idealize.SL.Sem

namespace Cert.DxKernel.DxRun

/-- The two programs have one body. -/
theorem defs₀_eq : Cert.DxKernel.defs₀ (F := Bits) = Cert.DxKernelIdeal.defs₀ (F := Bits) := by
  unfold Cert.DxKernel.defs₀ Cert.DxKernelIdeal.defs₀
  refine congrArg Defs.onTc (funext fun l => funext fun a => ?_)
  match l, a with
  | 0, _ => rfl
  | ⟨n + 1, h⟩, _ => exact absurd h (Nat.not_lt.2 (Nat.le_add_left _ _))

/-- So they have one table of procedures. -/
theorem defs_eq : Cert.DxKernel.defs (F := Bits) = Cert.DxKernelIdeal.defs (F := Bits) :=
  congrArg (Pipeline.defs Cert.DxKernelIdeal.pcfgs) defs₀_eq

/-- The frame at the machine's floats: the arguments end as they were, and every counter ends at zero. -/
theorem frame : Cert.quiescent_DxKernel (hDxKernel := Cert.DxKernel.Gen.facts) := fun m ρ _ => by
  have h := Cert.DxKernelIdeal.DxRun.frame (F := Bits) m ρ
  rw [← defs_eq] at h
  exact h

end Cert.DxKernel.DxRun

end
-- ==== Proof.DxMath.lean ====
/-
  dx: the layer norm's backward pass on one token, and sums over a numbered axis, as the kernel and its reference both compute them.
-/
module

public import Idealize.ShloMosaic.Lib.Pipeline.ValueKit
public import Idealize.ShloMosaic.Lib.IdealHost
public import Idealize.ShloMosaic.Lib.Pipeline.FrameBody

@[expose] public section

noncomputable section

open Idealize.ShloMosaic

namespace Cert.DxMath

/-- The machine's 4096 and 1/4096 are those numbers. -/
theorem ofBits_4096 : Ideal.ofBits .f32 0x45800000#32 = ((4096 : ℝ) : EReal) := by
  simp [Ideal.ofBits, Ideal.ieee, -EReal.coe_mul]; norm_num

theorem ofBits_inv : Ideal.ofBits .f32 0x39800000#32 = ((1 / 4096 : ℝ) : EReal) := by
  simp [Ideal.ofBits, Ideal.ieee, -EReal.coe_mul]; norm_num

/-- Dividing by 4096 is multiplying by its reciprocal, which is a machine float. -/
theorem div_4096 (x : EReal) : Ideal.div x (Ideal.ofBits .f32 0x45800000#32) = x * Ideal.ofBits .f32 0x39800000#32 := by
  rw [ofBits_4096, ofBits_inv]; exact Ideal.div_coe (by norm_num : (4096 : ℝ) ≠ 0) x

/-- The gradient through the layer norm at one feature of a token: from the two products, the normalized input, the two gains, the
reciprocal deviation, and the incoming gradient with its scale. -/
def rowGrad (a h x ga gh : Fin 4096 → EReal) (rstd dyScale : EReal) (dy : Fin 4096 → EReal) (d : Fin 4096) : EReal :=
  dy d * dyScale + rstd * ((a d * ga d + h d * gh d) - (∑ e, (a e * ga e + h e * gh e)) * Ideal.ofBits .f32 0x39800000#32
    - x d * ((∑ e, (a e * ga e + h e * gh e) * x e) * Ideal.ofBits .f32 0x39800000#32))

/-- A rank-2 array read at natural numbers; zero outside. -/
def at2 {M N : ℕ} (A : (⟨2, ![M, N]⟩ : Shape).Idx → EReal) (i j : ℕ) : EReal :=
  if h : i < M ∧ j < N then A (ix2 ⟨i, h.1⟩ ⟨j, h.2⟩) else 0

theorem at2_eq {M N : ℕ} (A : (⟨2, ![M, N]⟩ : Shape).Idx → EReal) (i : Fin M) (j : Fin N) : at2 A i.val j.val = A (ix2 i j) :=
  dif_pos ⟨i.isLt, j.isLt⟩

/-- An array read through a rectangle. -/
theorem at2_rect {M N : ℕ} {o0 o1 : ℕ} (X : (⟨2, ![M, N]⟩ : Shape).Idx → EReal) {off sz : Fin 2 → ℕ}
    (inb : ∀ a, off a + sz a ≤ (⟨2, ![M, N]⟩ : Shape).size a) (ho : off = ![o0, o1]) (x : (Rect.unit (s := ⟨2, ![M, N]⟩) off sz inb).shape.Idx) :
    X ((Rect.unit (s := ⟨2, ![M, N]⟩) off sz inb).idx x) = at2 X (o0 + (x 0).val) (o1 + (x 1).val) := by
  subst ho
  have h0 : o0 + (x 0).val = ((Rect.unit (s := ⟨2, ![M, N]⟩) ![o0, o1] sz inb).idx x 0).val := by
    rw [LoadRect.idx_apply]; show _ = o0 + 1 * _; rw [one_mul]
  have h1 : o1 + (x 1).val = ((Rect.unit (s := ⟨2, ![M, N]⟩) ![o0, o1] sz inb).idx x 1).val := by
    rw [LoadRect.idx_apply]; show _ = o1 + 1 * _; rw [one_mul]
  rw [h0, h1]
  exact (congrArg X (eq_ix2 _)).trans (at2_eq X _ _).symm

/-- A sum over the first a + b numbers, split. -/
theorem sum_split (f : ℕ → EReal) (a b : ℕ) : (∑ x ∈ Finset.range a, f x) + ∑ y : Fin b, f (a + y.val) = ∑ x ∈ Finset.range (a + b), f x := by
  rw [Finset.sum_range_add, Finset.sum_range fun x => f (a + x)]

end Cert.DxMath

end
-- ==== Proof.DxSteps.lean ====
/-
  dx: what one grid step of the kernel computes at the ideal values, entry by entry.
-/
module

public import proofs.«01_k».proof.Proof.DxBody
public import proofs.«01_k».proof.Proof.DxMath

@[expose] public section

set_option maxRecDepth 16384

noncomputable section

open Idealize.ShloMosaic Idealize.ShloMosaic.TcCoe Idealize.SL.Sem

namespace Cert.DxKernelIdeal.DxBody

open Cert.DxKernelIdeal Cert.DxKernelIdeal.Gen Cert.DxMath

/-! ## The blocks of the two products -/

theorem zero1 (y : S512x4096.Idx) : k0_pay1 (F := Ideal) y = 0 := by unfold k0_pay1; pointwise
theorem zero2 (y : S512x4096.Idx) : k0_pay2 (F := Ideal) y = 0 := by unfold k0_pay2; pointwise
theorem zero3 (y : S1x4096.Idx) : k0_pay3 (F := Ideal) y = 0 := by unfold k0_pay3; pointwise
theorem zero4 (y : S1x4096.Idx) : k0_pay4 (F := Ideal) y = 0 := by unfold k0_pay4; pointwise

/-- A whole block of the MLP product adds 1024 terms to each entry. -/
theorem mlp_block (x : Vec Ideal S512x1024 .fp8e5m2) (s : Vec Ideal S1x1024 .f32) (a : Vec Ideal S512x4096 .f32) (w : Vec Ideal S4096x1024 .fp8e4m3)
    (r : Fin 512) (d : Fin 4096) : k0_pay5 x s a w (ix2 r d) = a (ix2 r d) + ∑ f : Fin 1024, (x (ix2 r f) * s (ix2 0 f)) * w (ix2 d f) := by
  unfold k0_pay5
  pointwise

/-- Its last block adds 768. -/
theorem mlp_tail (x : Vec Ideal S512x768 .fp8e5m2) (s : Vec Ideal S1x768 .f32) (a : Vec Ideal S512x4096 .f32) (w : Vec Ideal S4096x768 .fp8e4m3)
    (r : Fin 512) (d : Fin 4096) : k0_pay6 x s a w (ix2 r d) = a (ix2 r d) + ∑ f : Fin 768, (x (ix2 r f) * s (ix2 0 f)) * w (ix2 d f) := by
  unfold k0_pay6
  pointwise

/-- A block of the attention product adds 1024. -/
theorem attn_block (x : Vec Ideal S512x1024 .fp8e5m2) (s : Vec Ideal S1x1024 .f32) (a : Vec Ideal S512x4096 .f32) (w : Vec Ideal S4096x1024 .fp8e4m3)
    (r : Fin 512) (d : Fin 4096) : k0_pay7 x s a w (ix2 r d) = a (ix2 r d) + ∑ f : Fin 1024, (x (ix2 r f) * s (ix2 0 f)) * w (ix2 d f) := by
  unfold k0_pay7
  pointwise

/-! ## The 64 rows of a chunk -/

theorem attn_rows (sa sx : Vec Ideal S64x1 .f32) (x : Vec Ideal S64x4096 .fp8e4m3) (a : Vec Ideal S64x4096 .f32) (g : Vec Ideal S1x4096 .f32)
    (o : Fin 1) (d : Fin 4096) : k0_pay15 sa sx x a g (ix2 o d)
      = g (ix2 o d) + ∑ r : Fin 64, (a (ix2 r d) * sa (ix2 r 0)) * (x (ix2 r d) * sx (ix2 r 0)) := by
  unfold k0_pay15 k0_pay13 k0_pay12
  pointwise

theorem mlp_rows (sm sx : Vec Ideal S64x1 .f32) (x : Vec Ideal S64x4096 .fp8e4m3) (a : Vec Ideal S64x4096 .f32) (g : Vec Ideal S1x4096 .f32)
    (o : Fin 1) (d : Fin 4096) : k0_pay8 (k0_pay16 g) (k0_pay17 sm sx x a) (ix2 o d)
      = g (ix2 o d) + ∑ r : Fin 64, (a (ix2 r d) * sm (ix2 r 0)) * (x (ix2 r d) * sx (ix2 r 0)) := by
  unfold k0_pay8 k0_pay16 k0_pay17 k0_pay14 k0_pay12
  pointwise

theorem dx_rows (sdy rstd sx sa sm : Vec Ideal S64x1 .f32) (x : Vec Ideal S64x4096 .fp8e4m3) (a h : Vec Ideal S64x4096 .f32)
    (ga gh : Vec Ideal S1x4096 .f32) (dy : Vec Ideal S64x4096 .fp8e5m2) (r : Fin 64) (d : Fin 4096) :
    k0_pay9 (k0_pay10 sdy) (k0_pay11 rstd) (k0_pay12 sx x) (k0_pay13 sa a) (k0_pay14 sm h) ga gh dy (ix2 r d)
      = rowGrad (fun e => a (ix2 r e) * sa (ix2 r 0)) (fun e => h (ix2 r e) * sm (ix2 r 0)) (fun e => x (ix2 r e) * sx (ix2 r 0))
          (fun e => ga (ix2 0 e)) (fun e => gh (ix2 0 e)) (rstd (ix2 r 0)) (sdy (ix2 r 0)) (fun e => dy (ix2 r e)) d := by
  unfold k0_pay9 k0_pay10 k0_pay11 k0_pay12 k0_pay13 k0_pay14 rowGrad
  pointwise

section Chunks

variable (i : grid0.Coords) (h6 : last i) (x6 : Vec Ideal S512x4096 .fp8e5m2) (x7 : Vec Ideal S512x4096 .fp8e4m3) (x8 : Vec Ideal S512x6 .f32)
  (x9 x10 : Vec Ideal S1x4096 .f32) (h a : Vec Ideal S512x4096 .f32)

/-- After n chunks the attention gain's gradient has gained 64 n terms. -/
theorem attnUpTo_eq (g : Vec Ideal S1x4096 .f32) (o : Fin 1) (d : Fin 4096) : ∀ n, n ≤ 8 → attnUpTo i h6 x7 x8 a g n (ix2 o d)
    = g (ix2 o d) + ∑ r ∈ Finset.range (64 * n), (at2 a r d.val * at2 x8 r 3) * (at2 x7 r d.val * at2 x8 r 2)
  | 0, _ => by simp [attnUpTo]
  | n + 1, hn => by
    have hk : n < k0_t1_loop.trips := by rw [trips_eq]; omega
    rw [attnUpTo, dif_pos hk, attn_rows, attnUpTo_eq g o d n (by omega), Nat.mul_succ, ← sum_split, add_assoc]
    congr 2
    refine Finset.sum_congr rfl fun r _ => ?_
    simp only [at2_rect _ _ (k0_off3_eq _), at2_rect _ _ (k0_off4_eq _), at2_rect _ _ (k0_off6_eq _)]
    simp

/-- So has the MLP gain's. -/
theorem mlpUpTo_eq (g : Vec Ideal S1x4096 .f32) (o : Fin 1) (d : Fin 4096) : ∀ n, n ≤ 8 → mlpUpTo i h6 x7 x8 h g n (ix2 o d)
    = g (ix2 o d) + ∑ r ∈ Finset.range (64 * n), (at2 h r d.val * at2 x8 r 5) * (at2 x7 r d.val * at2 x8 r 2)
  | 0, _ => by simp [mlpUpTo]
  | n + 1, hn => by
    have hk : n < k0_t1_loop.trips := by rw [trips_eq]; omega
    rw [mlpUpTo, dif_pos hk, mlp_rows, mlpUpTo_eq g o d n (by omega), Nat.mul_succ, ← sum_split, add_assoc]
    congr 2
    refine Finset.sum_congr rfl fun r _ => ?_
    simp only [at2_rect _ _ (k0_off2_eq _), at2_rect _ _ (k0_off4_eq _), at2_rect _ _ (k0_off6_eq _)]
    simp

/-- A row of dx is the layer norm's backward pass on that row. -/
theorem dxRows_eq (r : Fin 512) (d : Fin 4096) : dxRows i h6 x6 x7 x8 x9 x10 h a (ix2 r d)
    = rowGrad (fun e => at2 a r.val e.val * at2 x8 r.val 3) (fun e => at2 h r.val e.val * at2 x8 r.val 5) (fun e => at2 x7 r.val e.val * at2 x8 r.val 2)
        (fun e => x9 (ix2 0 e)) (fun e => x10 (ix2 0 e)) (at2 x8 r.val 4) (at2 x8 r.val 0) (fun e => at2 x6 r.val e.val) d := by
  have hr : 64 * (r.val / 64) + r.val % 64 = r.val := Nat.div_add_mod _ _
  unfold dxRows dxChunk
  rw [ix2_1, dx_rows]
  simp only [at2_rect _ _ (k0_off1_eq _), at2_rect _ _ (k0_off2_eq _), at2_rect _ _ (k0_off3_eq _), at2_rect _ _ (k0_off4_eq _), at2_rect _ _ (k0_off5_eq _), at2_rect _ _ (k0_off6_eq _)]
  simp [hr]

end Chunks

end Cert.DxKernelIdeal.DxBody

end
-- ==== Proof.DxBlocks.lean ====
/-
  dx: the blocks of the kernel's windows, as parts of the arrays they are taken from.
-/
module

public import proofs.«01_k».proof.Proof.DxRun
public import proofs.«01_k».proof.Proof.DxSteps

@[expose] public section

set_option maxRecDepth 16384

noncomputable section

open Idealize.ShloMosaic Idealize.ShloMosaic.TcCoe Idealize.SL.Sem

namespace Cert.DxKernelIdeal.DxValue

open Cert.DxKernelIdeal Cert.DxKernelIdeal.Gen Cert.DxKernelIdeal.DxBody Cert.DxKernelIdeal.DxRun Cert.DxMath

variable (m : (ℓ : Loc nD τ sig) → Buf (Elt Ideal) ℓ)

/-- Which kind of step each grid point is. -/
theorem first_iff : ∀ t : Fin cfg0.N, first (grid0.coords t) ↔ t.val % 23 = 0 := by decide +kernel
theorem mlpStep_iff : ∀ t : Fin cfg0.N, mlpStep (grid0.coords t) ↔ t.val % 23 < 10 := by decide +kernel
theorem mlpTail_iff : ∀ t : Fin cfg0.N, mlpTail (grid0.coords t) ↔ t.val % 23 = 10 := by decide +kernel
theorem attnStep_iff : ∀ t : Fin cfg0.N, attnStep (grid0.coords t) ↔ 11 ≤ t.val % 23 := by decide +kernel

/-- Where each window stands at a grid point. -/
theorem idx0 : ∀ t, win0_0.index t = ![t.val / 23, min (t.val % 23) 10] := by decide +kernel
theorem idx1 : ∀ t, win0_1.index t = ![0, min (t.val % 23) 10] := by decide +kernel
theorem idx2 : ∀ t, win0_2.index t = ![0, min (t.val % 23) 10] := by decide +kernel
theorem idx3 : ∀ t, win0_3.index t = ![t.val / 23, t.val % 23 - 11] := by decide +kernel
theorem idx4 : ∀ t, win0_4.index t = ![0, t.val % 23 - 11] := by decide +kernel
theorem idx5 : ∀ t, win0_5.index t = ![0, t.val % 23 - 11] := by decide +kernel
theorem idx6 : ∀ t, win0_6.index t = ![t.val / 23, 0] := by decide +kernel
theorem idx7 : ∀ t, win0_7.index t = ![t.val / 23, 0] := by decide +kernel
theorem idx8 : ∀ t, win0_8.index t = ![t.val / 23, 0] := by decide +kernel
theorem idx9 : ∀ t, win0_9.index t = ![0, 0] := by decide +kernel
theorem idx10 : ∀ t, win0_10.index t = ![0, 0] := by decide +kernel
theorem idx11 : ∀ t, win0_11.index t = ![t.val / 23, 0] := by decide +kernel
theorem idx12 : ∀ t, win0_12.index t = ![0, 0] := by decide +kernel
theorem idx13 : ∀ t, win0_13.index t = ![0, 0] := by decide +kernel

/-- The arrays the windows are taken from: da's codes, w_in and its scales; dqkv's codes, w_qkv and its scales; dy's codes, xhat's codes,
the six numbers of each token, and the two gains. -/
abbrev arrDa (c : Dev nD) : S3072x11008.Idx → EReal := V m c main_v2
abbrev arrWin (c : Dev nD) : S4096x11008.Idx → EReal := V m c main_arg10
abbrev arrSin (c : Dev nD) : S1x11008.Idx → EReal := V m c main_v13
abbrev arrDqkv (c : Dev nD) : S3072x12288.Idx → EReal := V m c main_v4
abbrev arrWqkv (c : Dev nD) : S4096x12288.Idx → EReal := V m c main_v5
abbrev arrSqkv (c : Dev nD) : S1x12288.Idx → EReal := V m c main_v14
abbrev arrDy (c : Dev nD) : S3072x4096.Idx → EReal := V m c main_v0
abbrev arrXhat (c : Dev nD) : S3072x4096.Idx → EReal := V m c main_v1
abbrev arrTok (c : Dev nD) : S3072x6.Idx → EReal := V m c main_v12
abbrev arrGattn (c : Dev nD) : S1x4096.Idx → EReal := V m c main_v15
abbrev arrGmlp (c : Dev nD) : S1x4096.Idx → EReal := V m c main_v16

/-- An entry of a block that the array's end may cut, where it lies in the array. -/
theorem block0 (c : Dev nD) (t : Fin cfg0.N) (r : Fin 512) (x : Fin 1024) (h : t.val % 23 < 10 ∨ x.val < 768) :
    blk m c 0 t (ix2 r x) = at2 (arrDa m c) (512 * (t.val / 23) + r.val) (1024 * min (t.val % 23) 10 + x.val) := by
  have hN : t.val < 138 := t.isLt
  have hb : ∀ a, ((ix2 r x : S512x1024.Idx) a).val < (cfg0.win 0).xsize (cfg0.grid.coords t) a := by
    rw [size0 t]
    refine Fin.forall_fin_two.2 ⟨?_, ?_⟩
    · split <;> exact r.isLt
    · split
      · exact x.isLt
      · rename_i hk; rw [mlpStep_iff] at hk; show x.val < 768; omega
  refine (filled_at m c 0 t junk (ix2 r x) hb).trans ?_
  unfold at2
  rw [dif_pos ⟨by omega, by omega⟩]
  blk_point [iblk, V, idx0 t]

theorem block1 (c : Dev nD) (t : Fin cfg0.N) (r : Fin 4096) (x : Fin 1024) (h : t.val % 23 < 10 ∨ x.val < 768) :
    blk m c 1 t (ix2 r x) = at2 (arrWin m c) r.val (1024 * min (t.val % 23) 10 + x.val) := by
  have hN : t.val < 138 := t.isLt
  have hb : ∀ a, ((ix2 r x : S4096x1024.Idx) a).val < (cfg0.win 1).xsize (cfg0.grid.coords t) a := by
    rw [size1 t]
    refine Fin.forall_fin_two.2 ⟨?_, ?_⟩
    · split <;> exact r.isLt
    · split
      · exact x.isLt
      · rename_i hk; rw [mlpStep_iff] at hk; show x.val < 768; omega
  refine (filled_at m c 1 t junk (ix2 r x) hb).trans ?_
  unfold at2
  rw [dif_pos ⟨by omega, by omega⟩]
  blk_point [iblk, V, idx1 t]

theorem block2 (c : Dev nD) (t : Fin cfg0.N) (x : Fin 1024) (h : t.val % 23 < 10 ∨ x.val < 768) :
    blk m c 2 t (ix2 0 x) = at2 (arrSin m c) 0 (1024 * min (t.val % 23) 10 + x.val) := by
  have hN : t.val < 138 := t.isLt
  have hb : ∀ a, ((ix2 0 x : S1x1024.Idx) a).val < (cfg0.win 2).xsize (cfg0.grid.coords t) a := by
    rw [size2 t]
    refine Fin.forall_fin_two.2 ⟨?_, ?_⟩
    · split <;> exact Nat.one_pos
    · split
      · exact x.isLt
      · rename_i hk; rw [mlpStep_iff] at hk; show x.val < 768; omega
  refine (filled_at m c 2 t junk (ix2 0 x) hb).trans ?_
  unfold at2
  rw [dif_pos ⟨by omega, by omega⟩]
  blk_point [iblk, V, idx2 t]

/-- An entry of a block of the attention product's operands. -/
theorem block3 (c : Dev nD) (t : Fin cfg0.N) (ht : 11 ≤ t.val % 23) (r : Fin 512) (x : Fin 1024) :
    iblk m c 3 t (ix2 r x) = at2 (arrDqkv m c) (512 * (t.val / 23) + r.val) (1024 * (t.val % 23 - 11) + x.val) := by
  have hN : t.val < 138 := t.isLt
  unfold at2
  rw [dif_pos ⟨by omega, by omega⟩]
  blk_point [iblk, V, idx3 t]

theorem block4 (c : Dev nD) (t : Fin cfg0.N) (ht : 11 ≤ t.val % 23) (r : Fin 4096) (x : Fin 1024) :
    iblk m c 4 t (ix2 r x) = at2 (arrWqkv m c) r.val (1024 * (t.val % 23 - 11) + x.val) := by
  have hN : t.val < 138 := t.isLt
  unfold at2
  rw [dif_pos ⟨by omega, by omega⟩]
  blk_point [iblk, V, idx4 t]

theorem block5 (c : Dev nD) (t : Fin cfg0.N) (ht : 11 ≤ t.val % 23) (x : Fin 1024) :
    iblk m c 5 t (ix2 0 x) = at2 (arrSqkv m c) 0 (1024 * (t.val % 23 - 11) + x.val) := by
  have hN : t.val < 138 := t.isLt
  unfold at2
  rw [dif_pos ⟨by omega, by omega⟩]
  blk_point [iblk, V, idx5 t]

/-- An entry of a row block. -/
theorem block6 (c : Dev nD) (t : Fin cfg0.N) (r : Fin 512) (x : Fin 4096) :
    iblk m c 6 t (ix2 r x) = at2 (arrDy m c) (512 * (t.val / 23) + r.val) x.val := by
  have hN : t.val < 138 := t.isLt
  unfold at2
  rw [dif_pos ⟨by omega, by omega⟩]
  blk_point [iblk, V, idx6 t]

theorem block7 (c : Dev nD) (t : Fin cfg0.N) (r : Fin 512) (x : Fin 4096) :
    iblk m c 7 t (ix2 r x) = at2 (arrXhat m c) (512 * (t.val / 23) + r.val) x.val := by
  have hN : t.val < 138 := t.isLt
  unfold at2
  rw [dif_pos ⟨by omega, by omega⟩]
  blk_point [iblk, V, idx7 t]

theorem block8 (c : Dev nD) (t : Fin cfg0.N) (r : Fin 512) (x : Fin 6) :
    iblk m c 8 t (ix2 r x) = at2 (arrTok m c) (512 * (t.val / 23) + r.val) x.val := by
  have hN : t.val < 138 := t.isLt
  unfold at2
  rw [dif_pos ⟨by omega, by omega⟩]
  blk_point [iblk, V, idx8 t]

/-- A gain. -/
theorem block9 (c : Dev nD) (t : Fin cfg0.N) (e : Fin 4096) : iblk m c 9 t (ix2 0 e) = arrGattn m c (ix2 0 e) := by
  blk_point [iblk, V, idx9 t]
theorem block10 (c : Dev nD) (t : Fin cfg0.N) (e : Fin 4096) : iblk m c 10 t (ix2 0 e) = arrGmlp m c (ix2 0 e) := by
  blk_point [iblk, V, idx10 t]

end Cert.DxKernelIdeal.DxValue

end
-- ==== Proof.DxValue.lean ====
/-
  dx: what the kernel's accumulators hold between its steps, and what its three result arrays hold after the run.
-/
module

public import proofs.«01_k».proof.Proof.DxBlocks

@[expose] public section

set_option maxRecDepth 16384

noncomputable section

open Idealize.ShloMosaic Idealize.ShloMosaic.TcCoe Idealize.SL.Sem

namespace Cert.DxKernelIdeal.DxValue

open Cert.DxKernelIdeal Cert.DxKernelIdeal.Gen Cert.DxKernelIdeal.DxBody Cert.DxKernelIdeal.DxRun Cert.DxMath

variable (m : (ℓ : Loc nD τ sig) → Buf (Elt Ideal) ℓ)

/-- One term of the MLP product at token x and feature d. -/
def mlpTerm (c : Dev nD) (x d f : ℕ) : EReal := (at2 (arrDa m c) x f * at2 (arrSin m c) 0 f) * at2 (arrWin m c) d f

/-- One term of the attention product. -/
def attnTerm (c : Dev nD) (x d f : ℕ) : EReal := (at2 (arrDqkv m c) x f * at2 (arrSqkv m c) 0 f) * at2 (arrWqkv m c) d f

/-- The first columns of a block, as the last step reads them. -/
theorem head_idx {M N n : ℕ} {inb : ∀ a, (![0, 0] : Fin 2 → ℕ) a + (![M, n] : Fin 2 → ℕ) a ≤ (⟨2, ![M, N]⟩ : Shape).size a} (r : Fin M) (x : Fin n) (hx : x.val < N) :
    (Rect.unit (s := ⟨2, ![M, N]⟩) ![0, 0] ![M, n] inb).idx (ix2 r x) = ix2 r ⟨x.val, hx⟩ := by
  funext a
  refine Fin.ext ?_
  rw [LoadRect.idx_apply]
  match a with
  | ⟨0, _⟩ => show 0 + 1 * r.val = r.val; omega
  | ⟨1, _⟩ => show 0 + 1 * x.val = x.val; omega

/-- A step of the MLP product adds its block's terms, from zero at the start of a row block. -/
theorem mlp_add (c : Dev nD) (t : Fin cfg0.N) (hk : t.val % 23 < 10) (a : Vec Ideal S512x4096 .f32) (r : Fin 512) (d : Fin 4096) :
    accMNext (grid0.coords t) (blk m c 0 t) (blk m c 1 t) (blk m c 2 t) a (ix2 r d)
      = (if t.val % 23 = 0 then 0 else a (ix2 r d)) + ∑ x : Fin 1024, mlpTerm m c (512 * (t.val / 23) + r.val) d.val (1024 * (t.val % 23) + x.val) := by
  unfold accMNext
  rw [if_pos ((mlpStep_iff t).mpr hk)]
  refine (mlp_block _ _ _ _ r d).trans (congrArg₂ (· + ·) ?_ (Finset.sum_congr rfl fun x _ => ?_))
  · by_cases h0 : t.val % 23 = 0
    · rw [if_pos ((first_iff t).mpr h0), if_pos h0, zero1]
    · rw [if_neg fun hf => h0 ((first_iff t).mp hf), if_neg h0]
  · rw [← Nat.min_eq_left hk.le]
    exact congrArg₂ (· * ·) (congrArg₂ (· * ·) (block0 m c t r x (.inl hk)) (block2 m c t x (.inl hk))) (block1 m c t d x (.inl hk))

/-- The last step of the MLP product adds the remaining 768 terms. -/
theorem mlp_add_tail (c : Dev nD) (t : Fin cfg0.N) (hk : t.val % 23 = 10) (a : Vec Ideal S512x4096 .f32) (r : Fin 512) (d : Fin 4096) :
    accMNext (grid0.coords t) (blk m c 0 t) (blk m c 1 t) (blk m c 2 t) a (ix2 r d)
      = a (ix2 r d) + ∑ x : Fin 768, mlpTerm m c (512 * (t.val / 23) + r.val) d.val (1024 * 10 + x.val) := by
  unfold accMNext
  rw [if_neg fun hs => by have := (mlpStep_iff t).mp hs; omega, if_pos ((mlpTail_iff t).mpr hk)]
  refine (mlp_tail _ _ _ _ r d).trans (congrArg (a (ix2 r d) + ·) (Finset.sum_congr rfl fun x _ => ?_))
  have hx : x.val < 1024 := by omega
  rw [show (10 : ℕ) = min (t.val % 23) 10 by omega]
  exact congrArg₂ (· * ·) (congrArg₂ (· * ·) ((congrArg (blk m c 0 t) (head_idx r x hx)).trans (block0 m c t r ⟨x.val, hx⟩ (.inr x.isLt)))
    ((congrArg (blk m c 2 t) (head_idx 0 x hx)).trans (block2 m c t ⟨x.val, hx⟩ (.inr x.isLt))))
    ((congrArg (blk m c 1 t) (head_idx d x hx)).trans (block1 m c t d ⟨x.val, hx⟩ (.inr x.isLt)))

/-- Then it stays. -/
theorem mlp_keep (c : Dev nD) (t : Fin cfg0.N) (hk : 10 < t.val % 23) (a : Vec Ideal S512x4096 .f32) :
    accMNext (grid0.coords t) (blk m c 0 t) (blk m c 1 t) (blk m c 2 t) a = a := by
  unfold accMNext
  rw [if_neg fun hs => by have := (mlpStep_iff t).mp hs; omega, if_neg fun hs => by have := (mlpTail_iff t).mp hs; omega]

/-- A step of the attention product adds its block's terms. -/
theorem attn_add (c : Dev nD) (t : Fin cfg0.N) (hk : 11 ≤ t.val % 23) (a : Vec Ideal S512x4096 .f32) (r : Fin 512) (d : Fin 4096) :
    accANext (grid0.coords t) (iblk m c 3 t) (iblk m c 4 t) (iblk m c 5 t) a (ix2 r d)
      = a (ix2 r d) + ∑ x : Fin 1024, attnTerm m c (512 * (t.val / 23) + r.val) d.val (1024 * (t.val % 23 - 11) + x.val) := by
  unfold accANext
  rw [if_pos ((attnStep_iff t).mpr hk)]
  refine (attn_block _ _ _ _ r d).trans (congrArg (a (ix2 r d) + ·) (Finset.sum_congr rfl fun x _ => ?_))
  exact congrArg₂ (· * ·) (congrArg₂ (· * ·) (block3 m c t hk r x) (block5 m c t hk x)) (block4 m c t hk d x)

/-- Before that it is zero. -/
theorem attn_keep (c : Dev nD) (t : Fin cfg0.N) (hk : t.val % 23 < 11) (a : Vec Ideal S512x4096 .f32) (y : S512x4096.Idx) :
    accANext (grid0.coords t) (iblk m c 3 t) (iblk m c 4 t) (iblk m c 5 t) a y = if t.val % 23 = 0 then 0 else a y := by
  unfold accANext
  rw [if_neg fun hs => by have := (attnStep_iff t).mp hs; omega]
  by_cases h0 : t.val % 23 = 0
  · rw [if_pos ((first_iff t).mpr h0), if_pos h0, zero2]
  · rw [if_neg fun hf => h0 ((first_iff t).mp hf), if_neg h0]

/-- The step before, in the same row block. -/
theorem prev (t : Fin cfg0.N) (h : t.val % 23 ≠ 0) : ∃ t' : Fin cfg0.N, t'.val + 1 = t.val ∧ t'.val / 23 = t.val / 23 ∧ t'.val % 23 = t.val % 23 - 1 :=
  ⟨⟨t.val - 1, by have := t.isLt; omega⟩, by show t.val - 1 + 1 = _; omega, by show (t.val - 1) / 23 = _; omega, by show (t.val - 1) % 23 = _; omega⟩

/-- How many terms of the MLP product step k of a row block leaves summed. -/
abbrev mlpEnd (k : ℕ) : ℕ := if k < 10 then 1024 * (k + 1) else 11008

/-- The MLP accumulator after a step: the terms summed so far in this row block. -/
theorem accM_at (c : Dev nD) (r : Fin 512) (d : Fin 4096) : ∀ n : ℕ, ∀ t : Fin cfg0.N, t.val % 23 = n → (st m c (t.val + 1)).1 (ix2 r d)
    = ∑ f ∈ Finset.range (mlpEnd n), mlpTerm m c (512 * (t.val / 23) + r.val) d.val f := fun n => by
  induction n with
  | zero =>
    intro t ht
    rw [st_succ m c t]
    refine (mlp_add m c t (by omega) _ r d).trans ?_
    rw [if_pos ht, zero_add, ht]
    refine (Finset.sum_congr rfl fun x _ => ?_).trans (Finset.sum_range (n := 1024) _).symm
    rw [Nat.mul_zero, Nat.zero_add]
  | succ n ih =>
    intro t ht
    obtain ⟨t', h1, h2, h3⟩ := prev t (by omega)
    have ih := ih t' (by omega)
    rw [h1, h2] at ih
    rw [st_succ m c t]
    rcases Nat.lt_trichotomy (t.val % 23) 10 with hk | hk | hk
    · refine (mlp_add m c t hk _ r d).trans ?_
      rw [if_neg (by omega), ih, ht]
      unfold mlpEnd
      rw [if_pos (by omega), if_pos (by omega), sum_split, ← Nat.mul_succ]
    · refine (mlp_add_tail m c t hk _ r d).trans ?_
      obtain rfl : n = 9 := by omega
      rw [ih]
      exact sum_split _ _ _
    · refine (congrFun (mlp_keep m c t hk _) _).trans (ih.trans ?_)
      unfold mlpEnd
      rw [if_neg (by omega), if_neg (by omega)]

/-- The attention accumulator after a step. -/
theorem accA_at (c : Dev nD) (r : Fin 512) (d : Fin 4096) : ∀ n : ℕ, ∀ t : Fin cfg0.N, t.val % 23 = n → (st m c (t.val + 1)).2.1 (ix2 r d)
    = ∑ f ∈ Finset.range (1024 * (n - 10)), attnTerm m c (512 * (t.val / 23) + r.val) d.val f := fun n => by
  induction n with
  | zero =>
    intro t ht
    rw [st_succ m c t]
    refine (attn_keep m c t (by omega) _ _).trans ?_
    rw [if_pos ht]
    simp
  | succ n ih =>
    intro t ht
    obtain ⟨t', h1, h2, h3⟩ := prev t (by omega)
    have ih := ih t' (by omega)
    rw [h1, h2] at ih
    rw [st_succ m c t]
    by_cases hk : 11 ≤ t.val % 23
    · refine (attn_add m c t hk _ r d).trans ?_
      rw [ih, show t.val % 23 - 11 = n - 10 by omega, sum_split, ← Nat.mul_succ, show (n - 10).succ = n + 1 - 10 by omega]
    · refine (attn_keep m c t (by omega) _ _).trans ?_
      rw [if_neg (by omega), ih, show n - 10 = 0 by omega, show n + 1 - 10 = 0 by omega]

/-! ## The finished row blocks -/

/-- The two layers' input gradients at a token and a feature. -/
def mlpGrad (c : Dev nD) (x d : ℕ) : EReal := (∑ f ∈ Finset.range 11008, mlpTerm m c x d f) * at2 (arrTok m c) x 5
def attnGrad (c : Dev nD) (x d : ℕ) : EReal := (∑ f ∈ Finset.range 12288, attnTerm m c x d f) * at2 (arrTok m c) x 3

/-- The normalized input. -/
def xn (c : Dev nD) (x d : ℕ) : EReal := at2 (arrXhat m c) x d * at2 (arrTok m c) x 2

/-- In the last step of a row block, the accumulators read at a row and a feature. -/
theorem mlp_done (c : Dev nD) (t : Fin cfg0.N) (ht : t.val % 23 = 22) (r : ℕ) (hr : r < 512) (d : Fin 4096) :
    at2 (accMNext (grid0.coords t) (blk m c 0 t) (blk m c 1 t) (blk m c 2 t) (st m c t.val).1) r d.val * at2 (iblk m c 8 t) r 5
      = mlpGrad m c (512 * (t.val / 23) + r) d.val := by
  refine congrArg₂ (· * ·) ?_ ((at2_eq _ ⟨r, hr⟩ 5).trans (block8 m c t ⟨r, hr⟩ 5))
  refine (at2_eq _ ⟨r, hr⟩ d).trans ?_
  have h := accM_at m c ⟨r, hr⟩ d 22 t ht
  rw [st_succ m c t] at h
  exact h

theorem attn_done (c : Dev nD) (t : Fin cfg0.N) (ht : t.val % 23 = 22) (r : ℕ) (hr : r < 512) (d : Fin 4096) :
    at2 (accANext (grid0.coords t) (iblk m c 3 t) (iblk m c 4 t) (iblk m c 5 t) (st m c t.val).2.1) r d.val * at2 (iblk m c 8 t) r 3
      = attnGrad m c (512 * (t.val / 23) + r) d.val := by
  refine congrArg₂ (· * ·) ?_ ((at2_eq _ ⟨r, hr⟩ 3).trans (block8 m c t ⟨r, hr⟩ 3))
  refine (at2_eq _ ⟨r, hr⟩ d).trans ?_
  have h := accA_at m c ⟨r, hr⟩ d 22 t ht
  rw [st_succ m c t] at h
  exact h

theorem xn_at (c : Dev nD) (t : Fin cfg0.N) (r : ℕ) (hr : r < 512) (d : Fin 4096) :
    at2 (iblk m c 7 t) r d.val * at2 (iblk m c 8 t) r 2 = xn m c (512 * (t.val / 23) + r) d.val :=
  congrArg₂ (· * ·) ((at2_eq _ ⟨r, hr⟩ d).trans (block7 m c t ⟨r, hr⟩ d)) ((at2_eq _ ⟨r, hr⟩ 2).trans (block8 m c t ⟨r, hr⟩ 2))

/-- The gains' gradients after a step: the tokens of the finished row blocks summed. -/
theorem gains_at (c : Dev nD) (o : Fin 1) (d : Fin 4096) : ∀ n : ℕ, ∀ t : Fin cfg0.N, t.val = n →
    (st m c (t.val + 1)).2.2.1 (ix2 o d) = ∑ x ∈ Finset.range (512 * ((t.val + 1) / 23)), attnGrad m c x d.val * xn m c x d.val
    ∧ (st m c (t.val + 1)).2.2.2 (ix2 o d) = ∑ x ∈ Finset.range (512 * ((t.val + 1) / 23)), mlpGrad m c x d.val * xn m c x d.val := fun n => by
  induction n with
  | zero =>
    intro t ht
    have h1 : start (grid0.coords t) := (start_iff t).mpr ht
    have h2 : ¬ last (grid0.coords t) := fun hs => by have := (last_iff t).mp hs; omega
    rw [st_succ m c t, show 512 * ((t.val + 1) / 23) = 0 by omega, Finset.range_zero, Finset.sum_empty, Finset.sum_empty]
    constructor
    · show attnNext _ _ _ _ _ _ _ _ _ = _
      unfold attnNext
      rw [dif_neg h2, if_pos h1, zero3]
    · show mlpNext _ _ _ _ _ _ _ _ _ = _
      unfold mlpNext
      rw [dif_neg h2, if_pos h1, zero4]
  | succ n ih =>
    intro t ht
    have h1 : ¬ start (grid0.coords t) := fun hs => by have := (start_iff t).mp hs; omega
    obtain ⟨iha, ihm⟩ := ih ⟨n, by have := t.isLt; omega⟩ rfl
    change (st m c (n + 1)).2.2.1 _ = _ at iha
    change (st m c (n + 1)).2.2.2 _ = _ at ihm
    rw [show (st m c (n + 1)) = st m c t.val by rw [ht]] at iha ihm
    rw [st_succ m c t]
    by_cases hk : t.val % 23 = 22
    · have h2 : last (grid0.coords t) := (last_iff t).mpr hk
      have e : 512 * ((t.val + 1) / 23) = 512 * ((n + 1) / 23) + 512 := by omega
      have hb : (n + 1) / 23 = t.val / 23 := by omega
      rw [e, ← sum_split, ← sum_split]
      constructor
      · show attnNext _ _ _ _ _ _ _ _ _ = _
        unfold attnNext
        rw [dif_pos h2, trips_eq]
        refine (attnUpTo_eq _ h2 _ _ _ _ o d 8 (le_refl _)).trans (congrArg₂ (· + ·) iha ?_)
        rw [Finset.sum_range, hb]
        exact Finset.sum_congr rfl fun r _ => congrArg₂ (· * ·) (attn_done m c t hk r.val r.isLt d) (xn_at m c t r.val r.isLt d)
      · show mlpNext _ _ _ _ _ _ _ _ _ = _
        unfold mlpNext
        rw [dif_pos h2, trips_eq]
        refine (mlpUpTo_eq _ h2 _ _ _ _ o d 8 (le_refl _)).trans (congrArg₂ (· + ·) ihm ?_)
        rw [Finset.sum_range, hb]
        exact Finset.sum_congr rfl fun r _ => congrArg₂ (· * ·) (mlp_done m c t hk r.val r.isLt d) (xn_at m c t r.val r.isLt d)
    · have h2 : ¬ last (grid0.coords t) := fun hs => hk ((last_iff t).mp hs)
      rw [show (t.val + 1) / 23 = (n + 1) / 23 by omega]
      constructor
      · show attnNext _ _ _ _ _ _ _ _ _ = _
        unfold attnNext
        rw [dif_neg h2, if_neg h1]
        exact iha
      · show mlpNext _ _ _ _ _ _ _ _ _ = _
        unfold mlpNext
        rw [dif_neg h2, if_neg h1]
        exact ihm

/-- The rows of dx that the last step of a row block stores. -/
theorem dx_at (c : Dev nD) (t : Fin cfg0.N) (ht : t.val % 23 = 22) (r : Fin 512) (d : Fin 4096) : dxAt m c t (ix2 r d)
    = rowGrad (fun e => attnGrad m c (512 * (t.val / 23) + r.val) e.val) (fun e => mlpGrad m c (512 * (t.val / 23) + r.val) e.val)
        (fun e => xn m c (512 * (t.val / 23) + r.val) e.val) (fun e => arrGattn m c (ix2 0 e)) (fun e => arrGmlp m c (ix2 0 e))
        (at2 (arrTok m c) (512 * (t.val / 23) + r.val) 4) (at2 (arrTok m c) (512 * (t.val / 23) + r.val) 0)
        (fun e => at2 (arrDy m c) (512 * (t.val / 23) + r.val) e.val) d := by
  have h2 : last (grid0.coords t) := (last_iff t).mpr ht
  unfold dxAt dxNext
  rw [dif_pos h2]
  refine (dxRows_eq _ h2 _ _ _ _ _ _ _ r d).trans ?_
  have e1 : (fun e : Fin 4096 => at2 (accANext (grid0.coords t) (iblk m c 3 t) (iblk m c 4 t) (iblk m c 5 t) (st m c t.val).2.1) r.val e.val * at2 (iblk m c 8 t) r.val 3)
      = fun e => attnGrad m c (512 * (t.val / 23) + r.val) e.val := funext fun e => attn_done m c t ht r.val r.isLt e
  have e2 : (fun e : Fin 4096 => at2 (accMNext (grid0.coords t) (blk m c 0 t) (blk m c 1 t) (blk m c 2 t) (st m c t.val).1) r.val e.val * at2 (iblk m c 8 t) r.val 5)
      = fun e => mlpGrad m c (512 * (t.val / 23) + r.val) e.val := funext fun e => mlp_done m c t ht r.val r.isLt e
  have e3 : (fun e : Fin 4096 => at2 (iblk m c 7 t) r.val e.val * at2 (iblk m c 8 t) r.val 2)
      = fun e => xn m c (512 * (t.val / 23) + r.val) e.val := funext fun e => xn_at m c t r.val r.isLt e
  have e4 : (fun e : Fin 4096 => iblk m c 9 t (ix2 0 e)) = fun e => arrGattn m c (ix2 0 e) := funext fun e => block9 m c t e
  have e5 : (fun e : Fin 4096 => iblk m c 10 t (ix2 0 e)) = fun e => arrGmlp m c (ix2 0 e) := funext fun e => block10 m c t e
  have e6 : at2 (iblk m c 8 t) r.val 4 = at2 (arrTok m c) (512 * (t.val / 23) + r.val) 4 := (at2_eq _ r 4).trans (block8 m c t r 4)
  have e7 : at2 (iblk m c 8 t) r.val 0 = at2 (arrTok m c) (512 * (t.val / 23) + r.val) 0 := (at2_eq _ r 0).trans (block8 m c t r 0)
  have e8 : (fun e : Fin 4096 => at2 (iblk m c 6 t) r.val e.val) = fun e => at2 (arrDy m c) (512 * (t.val / 23) + r.val) e.val :=
    funext fun e => (at2_eq _ r e).trans (block6 m c t r e)
  exact congr (congr (congr (congr (congr (congr (congr (congr (congrArg rowGrad e1) e2) e3) e4) e5) e6) e7) e8) rfl

/-! ## The result arrays -/

/-- What dx and the two gains' gradients are. -/
def dxResult (c : Dev nD) : S3072x4096.Idx → EReal := fun j =>
  rowGrad (fun e => attnGrad m c (j 0).val e.val) (fun e => mlpGrad m c (j 0).val e.val) (fun e => xn m c (j 0).val e.val)
    (fun e => arrGattn m c (ix2 0 e)) (fun e => arrGmlp m c (ix2 0 e)) (at2 (arrTok m c) (j 0).val 4) (at2 (arrTok m c) (j 0).val 0)
    (fun e => at2 (arrDy m c) (j 0).val e.val) (j 1)

def attnResult (c : Dev nD) : S1x4096.Idx → EReal := fun j => ∑ x ∈ Finset.range 3072, attnGrad m c x (j 1).val * xn m c x (j 1).val
def mlpResult (c : Dev nD) : S1x4096.Idx → EReal := fun j => ∑ x ∈ Finset.range 3072, mlpGrad m c x (j 1).val * xn m c x (j 1).val

/-- The block of dx rows at a step of row block t / 23. -/
theorem rows_emb (t : Fin cfg0.N) (r : Fin 512) (d : Fin 4096) :
    ((View.whole main_v17_0).slice (win0_11.rect t)).emb (ix2 r d) = ix2 ⟨512 * (t.val / 23) + r.val, by have := t.isLt; have h : cfg0.N = 138 := rfl; omega⟩ d := by
  funext a
  match a with
  | ⟨0, _⟩ =>
    refine Fin.ext ?_
    change (((View.whole main_v17_0).slice (win0_11.rect t)).emb (ix2 r d) 0).val = 512 * (t.val / 23) + r.val
    have h : (((View.whole main_v17_0).slice (win0_11.rect t)).emb (ix2 r d) 0).val = win0_11.index t 0 * 512 + 1 * r.val := rfl
    rw [h, idx11 t]
    show t.val / 23 * 512 + 1 * r.val = _
    omega
  | ⟨1, _⟩ =>
    refine Fin.ext ?_
    change (((View.whole main_v17_0).slice (win0_11.rect t)).emb (ix2 r d) 1).val = d.val
    refine Eq.symm ?_
    blk_point [idx11 t]

theorem final_dx (c : Dev nD) : (dats m 0 c).arrAt 11 cfg0.N = dxResult m c := by
  refine (dats m 0 c).arrAt_eq_of_covers 11 _ (by decide +kernel) fun t hf y => ?_
  have ht : t.val % 23 = 22 := of_decide_eq_true ((noflush11 t).symm.trans hf)
  blk_simp
  rw [after11]
  obtain ⟨r, d, rfl⟩ : ∃ (r : Fin 512) (d : Fin 4096), y = ix2 r d := ⟨_, _, eq_ix2 y⟩
  refine (dx_at m c t ht r d).trans ?_
  exact (congrArg (dxResult m c) (rows_emb t r d)).symm

theorem final_attn (c : Dev nD) : (dats m 0 c).arrAt 12 cfg0.N = attnResult m c := by
  refine (dats m 0 c).arrAt_eq_of_covers 12 _ (by decide +kernel) fun t hf y => ?_
  have ht : t.val = 137 := of_decide_eq_true ((noflush12 t).symm.trans hf)
  blk_simp
  rw [after12]
  obtain ⟨o, d, rfl⟩ : ∃ (o : Fin 1) (d : Fin 4096), y = ix2 o d := ⟨_, _, eq_ix2 y⟩
  refine (gains_at m c o d 137 t ht).1.trans ?_
  rw [ht]
  refine (congrArg (attnResult m c) (?_ : _ = ix2 0 d)).symm
  funext a
  match a with
  | ⟨0, _⟩ =>
    refine Fin.ext ?_
    change (((View.whole main_v17_1).slice (win0_12.rect t)).emb (ix2 o d) 0).val = 0
    refine Eq.symm ?_
    blk_point [idx12 t]
  | ⟨1, _⟩ =>
    refine Fin.ext ?_
    change (((View.whole main_v17_1).slice (win0_12.rect t)).emb (ix2 o d) 1).val = d.val
    refine Eq.symm ?_
    blk_point [idx12 t]

theorem final_mlp (c : Dev nD) : (dats m 0 c).arrAt 13 cfg0.N = mlpResult m c := by
  refine (dats m 0 c).arrAt_eq_of_covers 13 _ (by decide +kernel) fun t hf y => ?_
  have ht : t.val = 137 := of_decide_eq_true ((noflush13 t).symm.trans hf)
  blk_simp
  rw [after13]
  obtain ⟨o, d, rfl⟩ : ∃ (o : Fin 1) (d : Fin 4096), y = ix2 o d := ⟨_, _, eq_ix2 y⟩
  refine (gains_at m c o d 137 t ht).2.trans ?_
  rw [ht]
  refine (congrArg (mlpResult m c) (?_ : _ = ix2 0 d)).symm
  funext a
  match a with
  | ⟨0, _⟩ =>
    refine Fin.ext ?_
    change (((View.whole main_v17_2).slice (win0_13.rect t)).emb (ix2 o d) 0).val = 0
    refine Eq.symm ?_
    blk_point [idx13 t]
  | ⟨1, _⟩ =>
    refine Fin.ext ?_
    change (((View.whole main_v17_2).slice (win0_13.rect t)).emb (ix2 o d) 1).val = d.val
    refine Eq.symm ?_
    blk_point [idx13 t]

end Cert.DxKernelIdeal.DxValue

end
-- ==== Proof.DxReference.lean ====
/-
  dx: what the reference computes, entry by entry, in the terms of its arguments.
-/
module

public import proofs.«01_k».proof.Proof.Gen.DxReferenceIdeal.Frame
public import proofs.«01_k».proof.Proof.DxMath

@[expose] public section

set_option maxRecDepth 16384

noncomputable section

open Idealize.ShloMosaic Idealize.ShloMosaic.TcCoe Idealize.SL.Sem

namespace Cert.DxReferenceIdeal.DxValue

open Cert.DxReferenceIdeal Cert.DxReferenceIdeal.Gen

variable (m : (ℓ : Loc nD τ sig) → Buf (Elt Ideal) ℓ) (ρ : Dev nD → PrngReg)

/-- The gradient of the MLP's input, the codes of da against the dequantized rows of w_in, at token (b, s) and feature d. -/
def dhMlp (wIn : S4096x11008.Idx → EReal) (sIn : S11008.Idx → EReal) (da : S6x512x11008.Idx → EReal) (daScale : S6x512.Idx → EReal)
    (b : Fin 6) (s : Fin 512) (d : Fin 4096) : EReal :=
  (∑ f : Fin 11008, da (ix3 b s f) * (wIn (ix2 d f) * sIn (ix1 f))) * daScale (ix2 b s)

/-- The gradient of the attention's input: dqkv against the dequantized w_qkv. -/
def dhAttn (dqkv : S6x512x3x32x128.Idx → EReal) (dqkvScale : S6x512.Idx → EReal) (wQkv : S4096x3x32x128.Idx → EReal) (sQkv : S3x32x128.Idx → EReal)
    (b : Fin 6) (s : Fin 512) (d : Fin 4096) : EReal :=
  (∑ j : Fin 3, ∑ n : Fin 32, ∑ k : Fin 128, dqkv (ix5 b s j n k) * (wQkv (ix4 d j n k) * sQkv (ix3 j n k))) * dqkvScale (ix2 b s)

/-- The dequantized normalized input. -/
def xh (xhat : S6x512x4096.Idx → EReal) (xhatScale : S6x512.Idx → EReal) (b : Fin 6) (s : Fin 512) (d : Fin 4096) : EReal :=
  xhat (ix3 b s d) * xhatScale (ix2 b s)

theorem pay7_eq (xhat : Vec Ideal S6x512x4096 .fp8e4m3) (xhatScale : Vec Ideal S6x512 .f32) (b : Fin 6) (s : Fin 512) (d : Fin 4096) :
    k0_pay7 xhat xhatScale (ix3 b s d) = xh xhat xhatScale b s d := by
  unfold k0_pay7 xh
  pointwise

theorem mlp_eq (wIn : Vec Ideal S4096x11008 .fp8e4m3) (sIn : Vec Ideal S11008 .f32) (da : Vec Ideal S6x512x11008 .fp8e5m2) (daScale : Vec Ideal S6x512 .f32)
    (b : Fin 6) (s : Fin 512) (d : Fin 4096) : k0_pay5 daScale (k0_pay4 wIn sIn da) (ix3 b s d) = dhMlp wIn sIn da daScale b s d := by
  unfold k0_pay5 k0_pay4 dhMlp
  pointwise

/-- The contraction over (projection, head, position in the head): its indices are the triples of coordinates, in the order
projection, position, head. -/
abbrev dims := dot_S6x512x3x32x128_S4096x3x32x128_S6x512x4096_243_132_01_0_n_n

def contrEquiv : (⟨3, ![3, 128, 32]⟩ : Shape).Idx ≃ dims.contr.Idx where
  toFun i := fun p => match p with | ⟨0, _⟩ => i 0 | ⟨1, _⟩ => i 1 | ⟨2, _⟩ => i 2
  invFun k := fun p => match p with | ⟨0, _⟩ => k ⟨0, by decide⟩ | ⟨1, _⟩ => k ⟨1, by decide⟩ | ⟨2, _⟩ => k ⟨2, by decide⟩
  left_inv _ := by funext p; match p with | ⟨0, _⟩ => rfl | ⟨1, _⟩ => rfl | ⟨2, _⟩ => rfl
  right_inv _ := by funext p; match p with | ⟨0, _⟩ => rfl | ⟨1, _⟩ => rfl | ⟨2, _⟩ => rfl

theorem lhs_idx (b : Fin 6) (s : Fin 512) (d : Fin 4096) (j : Fin 3) (k : Fin 128) (n : Fin 32) :
    dims.lhsIdx (ix3 b s d) (contrEquiv (ix3 j k n)) = ix5 b s j n k := by
  funext p; match p with | ⟨0, _⟩ => rfl | ⟨1, _⟩ => rfl | ⟨2, _⟩ => rfl | ⟨3, _⟩ => rfl | ⟨4, _⟩ => rfl

theorem rhs_idx (b : Fin 6) (s : Fin 512) (d : Fin 4096) (j : Fin 3) (k : Fin 128) (n : Fin 32) :
    dims.rhsIdx (ix3 b s d) (contrEquiv (ix3 j k n)) = ix4 d j n k := by
  funext p; match p with | ⟨0, _⟩ => rfl | ⟨1, _⟩ => rfl | ⟨2, _⟩ => rfl | ⟨3, _⟩ => rfl

/-- The contraction, entry by entry. -/
theorem contract_eq (l : S6x512x3x32x128.Idx → EReal) (r : S4096x3x32x128.Idx → EReal) (a : S6x512x4096.Idx → EReal)
    (b : Fin 6) (s : Fin 512) (d : Fin 4096) : Ideal.matmul dims l r a (ix3 b s d)
      = a (ix3 b s d) + ∑ j : Fin 3, ∑ n : Fin 32, ∑ k : Fin 128, l (ix5 b s j n k) * r (ix4 d j n k) := by
  unfold Ideal.matmul
  rw [← Equiv.sum_comp contrEquiv, sum_idx3]
  refine congrArg (a (ix3 b s d) + ·) (Finset.sum_congr rfl fun j _ => Finset.sum_comm.trans ?_)
  refine Finset.sum_congr rfl fun n _ => Finset.sum_congr rfl fun k _ => ?_
  rw [lhs_idx, rhs_idx]

theorem attn_eq (dqkv : Vec Ideal S6x512x3x32x128 .fp8e5m2) (dqkvScale : Vec Ideal S6x512 .f32) (wQkv : Vec Ideal S4096x3x32x128 .fp8e4m3) (sQkv : Vec Ideal S3x32x128 .f32)
    (b : Fin 6) (s : Fin 512) (d : Fin 4096) : k0_pay6 dqkvScale wQkv sQkv (k0_pay3 dqkv) (ix3 b s d) = dhAttn dqkv dqkvScale wQkv sQkv b s d := by
  unfold k0_pay6 k0_pay3 dhAttn
  pointwise
  rw [contract_eq]
  pointwise

/-- A gain's gradient at a feature: the layer's product times the normalized input, summed over batch and position. -/
def gainEntry (h x : Fin 6 → Fin 512 → Fin 4096 → EReal) : S1x4096.Idx → EReal := fun j => ∑ b : Fin 6, ∑ s : Fin 512, h b s (j 1) * x b s (j 1)

/-- A sum over batch and position, entry by entry. -/
theorem reduce_eq (x : S6x512x4096.Idx → EReal) (d : Fin 4096) :
    Ideal.reduceAdd reduces_S6x512x4096_S4096 x (ix1 d) = ∑ b : Fin 6, ∑ s : Fin 512, x (ix3 b s d) := by
  have e (b : Fin 6) (s : Fin 512) (f : Fin 4096) : reduces_S6x512x4096_S4096.drop (ix3 b s f) = ix1 f := by
    funext p; match p with | ⟨0, _⟩ => rfl
  unfold Ideal.reduceAdd
  rw [Finset.sum_filter, sum_idx3]
  refine Finset.sum_congr rfl fun b _ => Finset.sum_congr rfl fun s _ => ?_
  rw [Finset.sum_congr rfl fun f _ => by rw [e b s f], Finset.sum_eq_single d (fun f _ hf => if_neg fun h => hf (congrFun h 0)) (fun h => absurd (Finset.mem_univ d) h), if_pos rfl]

theorem gain_attn_eq (dqkv : Vec Ideal S6x512x3x32x128 .fp8e5m2) (dqkvScale : Vec Ideal S6x512 .f32) (wQkv : Vec Ideal S4096x3x32x128 .fp8e4m3) (sQkv : Vec Ideal S3x32x128 .f32)
    (xhat : Vec Ideal S6x512x4096 .fp8e4m3) (xhatScale : Vec Ideal S6x512 .f32) (j : S1x4096.Idx) :
    k0_pay1 (k0_pay8 dqkvScale xhat xhatScale wQkv sQkv (k0_pay3 dqkv)) j = gainEntry (dhAttn dqkv dqkvScale wQkv sQkv) (xh xhat xhatScale) j := by
  obtain ⟨o, d, rfl⟩ : ∃ (o : Fin 1) (d : Fin 4096), j = ix2 o d := ⟨_, _, eq_ix2 j⟩
  unfold k0_pay1 k0_pay8 gainEntry
  pointwise
  rw [reduce_eq]
  pointwise
  simp only [attn_eq, pay7_eq]

theorem gain_mlp_eq (wIn : Vec Ideal S4096x11008 .fp8e4m3) (sIn : Vec Ideal S11008 .f32) (da : Vec Ideal S6x512x11008 .fp8e5m2) (daScale : Vec Ideal S6x512 .f32)
    (xhat : Vec Ideal S6x512x4096 .fp8e4m3) (xhatScale : Vec Ideal S6x512 .f32) (j : S1x4096.Idx) :
    k0_pay2 (k0_pay9 xhat xhatScale daScale (k0_pay4 wIn sIn da)) j = gainEntry (dhMlp wIn sIn da daScale) (xh xhat xhatScale) j := by
  obtain ⟨o, d, rfl⟩ : ∃ (o : Fin 1) (d : Fin 4096), j = ix2 o d := ⟨_, _, eq_ix2 j⟩
  unfold k0_pay2 k0_pay9 gainEntry
  pointwise
  rw [reduce_eq]
  pointwise
  simp only [mlp_eq, pay7_eq]

/-- The gradient of the block's input at (token, feature), the token being the flat number of (batch, position). -/
def dxEntry (a h x : Fin 6 → Fin 512 → Fin 4096 → EReal) (dy : S6x512x4096.Idx → EReal) (dyScale rstd : S6x512.Idx → EReal)
    (gammaAttn gammaMlp : S4096.Idx → EReal) : S3072x4096.Idx → EReal := fun j =>
  let b : Fin 6 := ⟨(j 0).val / 512, by have := (j 0).isLt; change _ < 3072 at this; omega⟩
  let s : Fin 512 := ⟨(j 0).val % 512, by omega⟩
  DxMath.rowGrad (a b s) (h b s) (x b s) (fun e => gammaAttn (ix1 e)) (fun e => gammaMlp (ix1 e)) (rstd (ix2 b s)) (dyScale (ix2 b s))
    (fun e => dy (ix3 b s e)) (j 1)

theorem dx_eq (dy : Vec Ideal S6x512x4096 .fp8e5m2) (dyScale rstd : Vec Ideal S6x512 .f32) (gammaAttn gammaMlp : Vec Ideal S4096 .f32)
    (dqkv : Vec Ideal S6x512x3x32x128 .fp8e5m2) (dqkvScale : Vec Ideal S6x512 .f32) (wQkv : Vec Ideal S4096x3x32x128 .fp8e4m3) (sQkv : Vec Ideal S3x32x128 .f32)
    (wIn : Vec Ideal S4096x11008 .fp8e4m3) (sIn : Vec Ideal S11008 .f32) (da : Vec Ideal S6x512x11008 .fp8e5m2) (daScale : Vec Ideal S6x512 .f32)
    (xhat : Vec Ideal S6x512x4096 .fp8e4m3) (xhatScale : Vec Ideal S6x512 .f32) (j : S3072x4096.Idx) :
    k0_pay10 dy dyScale dqkvScale xhat xhatScale rstd gammaAttn gammaMlp wQkv sQkv daScale (k0_pay3 dqkv) (k0_pay4 wIn sIn da) j
      = dxEntry (dhAttn dqkv dqkvScale wQkv sQkv) (dhMlp wIn sIn da daScale) (xh xhat xhatScale) dy dyScale rstd gammaAttn gammaMlp j := by
  obtain ⟨x, d, rfl⟩ : ∃ (x : Fin 3072) (d : Fin 4096), j = ix2 x d := ⟨_, _, eq_ix2 j⟩
  unfold k0_pay10 dxEntry DxMath.rowGrad
  pointwise
  simp only [attn_eq, mlp_eq, pay7_eq, DxMath.div_4096]

/-- The three gradients as functions of the reference's arguments. -/
abbrev hAttn (c : Dev nD) : Fin 6 → Fin 512 → Fin 4096 → EReal :=
  dhAttn (m ((c : Thread nD τ).loc main_arg2)) (m ((c : Thread nD τ).loc main_arg3)) (m ((c : Thread nD τ).loc main_arg12)) (m ((c : Thread nD τ).loc main_arg13))

abbrev hMlp (c : Dev nD) : Fin 6 → Fin 512 → Fin 4096 → EReal :=
  dhMlp (m ((c : Thread nD τ).loc main_arg10)) (m ((c : Thread nD τ).loc main_arg11)) (m ((c : Thread nD τ).loc main_arg14)) (m ((c : Thread nD τ).loc main_arg15))

abbrev xN (c : Dev nD) : Fin 6 → Fin 512 → Fin 4096 → EReal :=
  xh (m ((c : Thread nD τ).loc main_arg4)) (m ((c : Thread nD τ).loc main_arg5))

abbrev dxResult (c : Dev nD) : S3072x4096.Idx → EReal :=
  dxEntry (hAttn m c) (hMlp m c) (xN m c) (m ((c : Thread nD τ).loc main_arg0)) (m ((c : Thread nD τ).loc main_arg1)) (m ((c : Thread nD τ).loc main_arg6))
    (m ((c : Thread nD τ).loc main_arg7)) (m ((c : Thread nD τ).loc main_arg8))

abbrev attnResult (c : Dev nD) : S1x4096.Idx → EReal := gainEntry (hAttn m c) (xN m c)

abbrev mlpResult (c : Dev nD) : S1x4096.Idx → EReal := gainEntry (hMlp m c) (xN m c)

/-- Every window is its whole array. -/
theorem idx0 : ∀ t, win0_0.index t = ![0, 0, 0] := by decide +kernel
theorem idx1 : ∀ t, win0_1.index t = ![0, 0] := by decide +kernel
theorem idx2 : ∀ t, win0_2.index t = ![0, 0, 0, 0, 0] := by decide +kernel
theorem idx3 : ∀ t, win0_3.index t = ![0, 0] := by decide +kernel
theorem idx4 : ∀ t, win0_4.index t = ![0, 0, 0] := by decide +kernel
theorem idx5 : ∀ t, win0_5.index t = ![0, 0] := by decide +kernel
theorem idx6 : ∀ t, win0_6.index t = ![0, 0] := by decide +kernel
theorem idx7 : ∀ t, win0_7.index t = ![0] := by decide +kernel
theorem idx8 : ∀ t, win0_8.index t = ![0] := by decide +kernel
theorem idx9 : ∀ t, win0_9.index t = ![0, 0] := by decide +kernel
theorem idx10 : ∀ t, win0_10.index t = ![0] := by decide +kernel
theorem idx11 : ∀ t, win0_11.index t = ![0, 0, 0, 0] := by decide +kernel
theorem idx12 : ∀ t, win0_12.index t = ![0, 0, 0] := by decide +kernel
theorem idx13 : ∀ t, win0_13.index t = ![0, 0, 0] := by decide +kernel
theorem idx14 : ∀ t, win0_14.index t = ![0, 0] := by decide +kernel
theorem idx15 : ∀ t, win0_15.index t = ![0, 0] := by decide +kernel
theorem idx16 : ∀ t, win0_16.index t = ![0, 0] := by decide +kernel
theorem idx17 : ∀ t, win0_17.index t = ![0, 0] := by decide +kernel

/-- So the block that the one step reads is that array. -/
theorem block0 (c : Dev nD) (t : Fin cfg0.N) : iblk m c 0 t = m ((c : Thread nD τ).loc main_arg0) := by
  funext y; blk_point [iblk, V, idx0 t]
theorem block1 (c : Dev nD) (t : Fin cfg0.N) : iblk m c 1 t = m ((c : Thread nD τ).loc main_arg1) := by
  funext y; blk_point [iblk, V, idx1 t]
theorem block2 (c : Dev nD) (t : Fin cfg0.N) : iblk m c 2 t = m ((c : Thread nD τ).loc main_arg2) := by
  funext y; blk_point [iblk, V, idx2 t]
theorem block3 (c : Dev nD) (t : Fin cfg0.N) : iblk m c 3 t = m ((c : Thread nD τ).loc main_arg3) := by
  funext y; blk_point [iblk, V, idx3 t]
theorem block4 (c : Dev nD) (t : Fin cfg0.N) : iblk m c 4 t = m ((c : Thread nD τ).loc main_arg4) := by
  funext y; blk_point [iblk, V, idx4 t]
theorem block5 (c : Dev nD) (t : Fin cfg0.N) : iblk m c 5 t = m ((c : Thread nD τ).loc main_arg5) := by
  funext y; blk_point [iblk, V, idx5 t]
theorem block6 (c : Dev nD) (t : Fin cfg0.N) : iblk m c 6 t = m ((c : Thread nD τ).loc main_arg6) := by
  funext y; blk_point [iblk, V, idx6 t]
theorem block7 (c : Dev nD) (t : Fin cfg0.N) : iblk m c 7 t = m ((c : Thread nD τ).loc main_arg7) := by
  funext y; blk_point [iblk, V, idx7 t]
theorem block8 (c : Dev nD) (t : Fin cfg0.N) : iblk m c 8 t = m ((c : Thread nD τ).loc main_arg8) := by
  funext y; blk_point [iblk, V, idx8 t]
theorem block9 (c : Dev nD) (t : Fin cfg0.N) : iblk m c 9 t = m ((c : Thread nD τ).loc main_arg10) := by
  funext y; blk_point [iblk, V, idx9 t]
theorem block10 (c : Dev nD) (t : Fin cfg0.N) : iblk m c 10 t = m ((c : Thread nD τ).loc main_arg11) := by
  funext y; blk_point [iblk, V, idx10 t]
theorem block11 (c : Dev nD) (t : Fin cfg0.N) : iblk m c 11 t = m ((c : Thread nD τ).loc main_arg12) := by
  funext y; blk_point [iblk, V, idx11 t]
theorem block12 (c : Dev nD) (t : Fin cfg0.N) : iblk m c 12 t = m ((c : Thread nD τ).loc main_arg13) := by
  funext y; blk_point [iblk, V, idx12 t]
theorem block13 (c : Dev nD) (t : Fin cfg0.N) : iblk m c 13 t = m ((c : Thread nD τ).loc main_arg14) := by
  funext y; blk_point [iblk, V, idx13 t]
theorem block14 (c : Dev nD) (t : Fin cfg0.N) : iblk m c 14 t = m ((c : Thread nD τ).loc main_arg15) := by
  funext y; blk_point [iblk, V, idx14 t]

/-- The reference's three result arrays after its run. -/
theorem final_dx (c : Dev nD) : (dats m 0 c).arrAt 15 cfg0.N = dxResult m c := by
  refine (dats m 0 c).arrAt_eq_of_covers 15 _ (by decide +kernel) fun t hf y => ?_
  blk_simp
  rw [after0_15]
  frame_out
  unfold k0_pay11 k0_pay12
  frame_out
  rw [dx_eq, block0, block1, block2, block3, block4, block5, block6, block7, block8, block9, block10, block11, block12, block13, block14]
  refine congrArg (dxResult m c) ?_
  funext a
  match a with
  | ⟨0, _⟩ =>
    refine Fin.ext ?_
    change (y 0).val = (((View.whole main_v0_0).slice (win0_15.rect t)).emb y 0).val
    blk_point [idx15 t]
  | ⟨1, _⟩ =>
    refine Fin.ext ?_
    change (y 1).val = (((View.whole main_v0_0).slice (win0_15.rect t)).emb y 1).val
    blk_point [idx15 t]

theorem final_attn (c : Dev nD) : (dats m 0 c).arrAt 16 cfg0.N = attnResult m c := by
  refine (dats m 0 c).arrAt_eq_of_covers 16 _ (by decide +kernel) fun t hf y => ?_
  blk_simp
  rw [after0_16]
  frame_out
  unfold k0_pay11
  frame_out
  rw [gain_attn_eq, block2, block3, block4, block5, block11, block12]
  refine congrArg (attnResult m c) ?_
  funext a
  match a with
  | ⟨0, _⟩ =>
    refine Fin.ext ?_
    change (y 0).val = (((View.whole main_v0_1).slice (win0_16.rect t)).emb y 0).val
    blk_point [idx16 t]
  | ⟨1, _⟩ =>
    refine Fin.ext ?_
    change (y 1).val = (((View.whole main_v0_1).slice (win0_16.rect t)).emb y 1).val
    blk_point [idx16 t]

theorem final_mlp (c : Dev nD) : (dats m 0 c).arrAt 17 cfg0.N = mlpResult m c := by
  refine (dats m 0 c).arrAt_eq_of_covers 17 _ (by decide +kernel) fun t hf y => ?_
  blk_simp
  rw [after0_17]
  frame_out
  unfold k0_pay12
  frame_out
  rw [gain_mlp_eq, block4, block5, block9, block10, block13, block14]
  refine congrArg (mlpResult m c) ?_
  funext a
  match a with
  | ⟨0, _⟩ =>
    refine Fin.ext ?_
    change (y 0).val = (((View.whole main_v0_2).slice (win0_17.rect t)).emb y 0).val
    blk_point [idx17 t]
  | ⟨1, _⟩ =>
    refine Fin.ext ?_
    change (y 1).val = (((View.whole main_v0_2).slice (win0_17.rect t)).emb y 1).val
    blk_point [idx17 t]

end Cert.DxReferenceIdeal.DxValue

end
-- ==== Proof.DxEquation.lean ====
/-
  dx: the kernel's three results are the reference's, entry by entry.
-/
module

public import proofs.«01_k».proof.Proof.DxValue
public import proofs.«01_k».proof.Proof.DxReference
public import Idealize.ShloMosaic.Lib.StableHlo.ReadAt
public import Idealize.ShloMosaic.Lib.Claim
public import proofs.«01_k».proof.Proof.Tokens
public import proofs.«01_k».proof.Defs

@[expose] public section

set_option maxRecDepth 16384

noncomputable section

open Idealize.ShloMosaic Idealize.ShloMosaic.TcCoe Idealize.SL.Sem

namespace Cert.DxKernelIdeal.DxValue

open Cert.DxKernelIdeal Cert.DxKernelIdeal.Gen Cert.DxKernelIdeal.DxRun Cert.DxMath

variable (m : (ℓ : Loc nD τ sig) → Buf (Elt Ideal) ℓ)

/-! ## The windows' arrays in the terms of the arguments: the reshapes only number tokens and columns differently -/

theorem da_at (c : Dev nD) (b : Fin 6) (s : Fin 512) (f : Fin 11008) : at2 (arrDa m c) (512 * b.val + s.val) f.val = m ((c : Thread nD τ).loc main_arg14) (ix3 b s f) := by
  refine (at2_eq (arrDa m c) ⟨512 * b.val + s.val, by omega⟩ f).trans ?_
  unfold arrDa V
  after_reads_at

theorem win_at (c : Dev nD) (d : Fin 4096) (f : Fin 11008) : at2 (arrWin m c) d.val f.val = m ((c : Thread nD τ).loc main_arg10) (ix2 d f) := by
  refine (at2_eq (arrWin m c) d f).trans ?_
  unfold arrWin V
  after_reads_at

theorem sin_at (c : Dev nD) (f : Fin 11008) : at2 (arrSin m c) 0 f.val = m ((c : Thread nD τ).loc main_arg11) (ix1 f) := by
  refine (at2_eq (arrSin m c) 0 f).trans ?_
  unfold arrSin V
  after_reads_at

theorem dqkv_at (c : Dev nD) (b : Fin 6) (s : Fin 512) (j : Fin 3) (n : Fin 32) (k : Fin 128) : at2 (arrDqkv m c) (512 * b.val + s.val) (4096 * j.val + 128 * n.val + k.val) = m ((c : Thread nD τ).loc main_arg2) (ix5 b s j n k) := by
  refine (at2_eq (arrDqkv m c) ⟨512 * b.val + s.val, by omega⟩ ⟨4096 * j.val + 128 * n.val + k.val, by omega⟩).trans ?_
  unfold arrDqkv V
  after_reads_at

theorem wqkv_at (c : Dev nD) (d : Fin 4096) (j : Fin 3) (n : Fin 32) (k : Fin 128) : at2 (arrWqkv m c) d.val (4096 * j.val + 128 * n.val + k.val) = m ((c : Thread nD τ).loc main_arg12) (ix4 d j n k) := by
  refine (at2_eq (arrWqkv m c) d ⟨4096 * j.val + 128 * n.val + k.val, by omega⟩).trans ?_
  unfold arrWqkv V
  after_reads_at

theorem sqkv_at (c : Dev nD) (j : Fin 3) (n : Fin 32) (k : Fin 128) : at2 (arrSqkv m c) 0 (4096 * j.val + 128 * n.val + k.val) = m ((c : Thread nD τ).loc main_arg13) (ix3 j n k) := by
  refine (at2_eq (arrSqkv m c) 0 ⟨4096 * j.val + 128 * n.val + k.val, by omega⟩).trans ?_
  unfold arrSqkv V
  after_reads_at

theorem dy_at (c : Dev nD) (b : Fin 6) (s : Fin 512) (d : Fin 4096) : at2 (arrDy m c) (512 * b.val + s.val) d.val = m ((c : Thread nD τ).loc main_arg0) (ix3 b s d) := by
  refine (at2_eq (arrDy m c) ⟨512 * b.val + s.val, by omega⟩ d).trans ?_
  unfold arrDy V
  after_reads_at

theorem xhat_at (c : Dev nD) (b : Fin 6) (s : Fin 512) (d : Fin 4096) : at2 (arrXhat m c) (512 * b.val + s.val) d.val = m ((c : Thread nD τ).loc main_arg4) (ix3 b s d) := by
  refine (at2_eq (arrXhat m c) ⟨512 * b.val + s.val, by omega⟩ d).trans ?_
  unfold arrXhat V
  after_reads_at

/-- The number of the token at batch b and position s, cut back into b and s. -/
theorem tok_idx (b : Fin 6) (s : Fin 512) :
    (ix2 (⟨(512 * b.val + s.val) / 512, by omega⟩ : Fin 6) (⟨(512 * b.val + s.val) % 512, by omega⟩ : Fin 512)) = ix2 b s := by
  refine congrArg₂ ix2 (Fin.ext ?_) (Fin.ext ?_)
  · show (512 * b.val + s.val) / 512 = b.val; omega
  · show (512 * b.val + s.val) % 512 = s.val; omega

theorem dyScale_at (c : Dev nD) (b : Fin 6) (s : Fin 512) : at2 (arrTok m c) (512 * b.val + s.val) 0 = m ((c : Thread nD τ).loc main_arg1) (ix2 b s) := by
  refine (at2_eq (arrTok m c) ⟨512 * b.val + s.val, by omega⟩ 0).trans ?_
  unfold arrTok V
  after_reads_at
  after_reads_at

theorem xhatScale_at (c : Dev nD) (b : Fin 6) (s : Fin 512) : at2 (arrTok m c) (512 * b.val + s.val) 2 = m ((c : Thread nD τ).loc main_arg5) (ix2 b s) := by
  refine (at2_eq (arrTok m c) ⟨512 * b.val + s.val, by omega⟩ 2).trans ?_
  unfold arrTok V
  after_reads_at
  after_reads_at

theorem dqkvScale_at (c : Dev nD) (b : Fin 6) (s : Fin 512) : at2 (arrTok m c) (512 * b.val + s.val) 3 = m ((c : Thread nD τ).loc main_arg3) (ix2 b s) := by
  refine (at2_eq (arrTok m c) ⟨512 * b.val + s.val, by omega⟩ 3).trans ?_
  unfold arrTok V
  after_reads_at
  after_reads_at

theorem rstd_at (c : Dev nD) (b : Fin 6) (s : Fin 512) : at2 (arrTok m c) (512 * b.val + s.val) 4 = m ((c : Thread nD τ).loc main_arg6) (ix2 b s) := by
  refine (at2_eq (arrTok m c) ⟨512 * b.val + s.val, by omega⟩ 4).trans ?_
  unfold arrTok V
  after_reads_at
  after_reads_at

theorem daScale_at (c : Dev nD) (b : Fin 6) (s : Fin 512) : at2 (arrTok m c) (512 * b.val + s.val) 5 = m ((c : Thread nD τ).loc main_arg15) (ix2 b s) := by
  refine (at2_eq (arrTok m c) ⟨512 * b.val + s.val, by omega⟩ 5).trans ?_
  unfold arrTok V
  after_reads_at
  exact congrArg (m ((c : Thread nD τ).loc main_arg15)) (tok_idx b s)

theorem gattn_at (c : Dev nD) (e : Fin 4096) : arrGattn m c (ix2 0 e) = m ((c : Thread nD τ).loc main_arg7) (ix1 e) := by
  unfold arrGattn V
  after_reads_at

theorem gmlp_at (c : Dev nD) (e : Fin 4096) : arrGmlp m c (ix2 0 e) = m ((c : Thread nD τ).loc main_arg8) (ix1 e) := by
  unfold arrGmlp V
  after_reads_at

/-! ## The two input gradients and the normalized input at a token -/

/-- A sum over the 12288 columns of w_qkv in their flat numbering, by projection, head and position in the head. -/
theorem sum_cols (f : ℕ → EReal) :
    ∑ x ∈ Finset.range 12288, f x = ∑ j : Fin 3, ∑ n : Fin 32, ∑ k : Fin 128, f (4096 * j.val + 128 * n.val + k.val) := by
  rw [Finset.sum_range, ← Equiv.sum_comp (finProdFinEquiv (m := 3) (n := 4096)) (fun x => f x.val), Fintype.sum_prod_type]
  refine Finset.sum_congr rfl fun j _ => ?_
  rw [← Equiv.sum_comp (finProdFinEquiv (m := 32) (n := 128)), Fintype.sum_prod_type]
  refine Finset.sum_congr rfl fun n _ => Finset.sum_congr rfl fun k _ => congrArg f ?_
  show k.val + 128 * n.val + 4096 * j.val = _
  omega

theorem mlpGrad_eq (c : Dev nD) (b : Fin 6) (s : Fin 512) (d : Fin 4096) : mlpGrad m c (512 * b.val + s.val) d.val
    = Cert.DxReferenceIdeal.DxValue.dhMlp (m ((c : Thread nD τ).loc main_arg10)) (m ((c : Thread nD τ).loc main_arg11)) (m ((c : Thread nD τ).loc main_arg14)) (m ((c : Thread nD τ).loc main_arg15)) b s d := by
  unfold mlpGrad Cert.DxReferenceIdeal.DxValue.dhMlp
  rw [daScale_at, Finset.sum_range]
  refine congrArg (· * _) (Finset.sum_congr rfl fun f _ => ?_)
  unfold mlpTerm
  rw [da_at, sin_at, win_at, mul_assoc]
  exact congrArg₂ (fun a b : EReal => a * b) rfl (mul_comm (G := EReal) _ _)

theorem attnGrad_eq (c : Dev nD) (b : Fin 6) (s : Fin 512) (d : Fin 4096) : attnGrad m c (512 * b.val + s.val) d.val
    = Cert.DxReferenceIdeal.DxValue.dhAttn (m ((c : Thread nD τ).loc main_arg2)) (m ((c : Thread nD τ).loc main_arg3)) (m ((c : Thread nD τ).loc main_arg12)) (m ((c : Thread nD τ).loc main_arg13)) b s d := by
  unfold attnGrad Cert.DxReferenceIdeal.DxValue.dhAttn
  rw [dqkvScale_at, sum_cols]
  refine congrArg (· * _) (Finset.sum_congr rfl fun j _ => Finset.sum_congr rfl fun n _ => Finset.sum_congr rfl fun k _ => ?_)
  unfold attnTerm
  rw [dqkv_at, sqkv_at, wqkv_at, mul_assoc]
  exact congrArg₂ (fun a b : EReal => a * b) rfl (mul_comm (G := EReal) _ _)

theorem xn_eq (c : Dev nD) (b : Fin 6) (s : Fin 512) (d : Fin 4096) : xn m c (512 * b.val + s.val) d.val
    = Cert.DxReferenceIdeal.DxValue.xh (m ((c : Thread nD τ).loc main_arg4)) (m ((c : Thread nD τ).loc main_arg5)) b s d := by
  unfold xn Cert.DxReferenceIdeal.DxValue.xh
  rw [xhat_at, xhatScale_at]

/-! ## The three results -/

theorem dx_eq (c : Dev nD) (j : S3072x4096.Idx) : dxResult m c j = Cert.DxReferenceIdeal.DxValue.dxEntry
    (Cert.DxReferenceIdeal.DxValue.dhAttn (m ((c : Thread nD τ).loc main_arg2)) (m ((c : Thread nD τ).loc main_arg3)) (m ((c : Thread nD τ).loc main_arg12)) (m ((c : Thread nD τ).loc main_arg13))) (Cert.DxReferenceIdeal.DxValue.dhMlp (m ((c : Thread nD τ).loc main_arg10)) (m ((c : Thread nD τ).loc main_arg11)) (m ((c : Thread nD τ).loc main_arg14)) (m ((c : Thread nD τ).loc main_arg15)))
    (Cert.DxReferenceIdeal.DxValue.xh (m ((c : Thread nD τ).loc main_arg4)) (m ((c : Thread nD τ).loc main_arg5))) (m ((c : Thread nD τ).loc main_arg0)) (m ((c : Thread nD τ).loc main_arg1)) (m ((c : Thread nD τ).loc main_arg6)) (m ((c : Thread nD τ).loc main_arg7)) (m ((c : Thread nD τ).loc main_arg8)) j := by
  obtain ⟨x, d, rfl⟩ : ∃ (x : Fin 3072) (d : Fin 4096), j = ix2 x d := ⟨_, _, eq_ix2 j⟩
  obtain ⟨b, s, rfl⟩ : ∃ (b : Fin 6) (s : Fin 512), x = ⟨512 * b.val + s.val, by omega⟩ :=
    ⟨⟨x.val / 512, by omega⟩, ⟨x.val % 512, by omega⟩, Fin.ext (by show x.val = 512 * (x.val / 512) + x.val % 512; omega)⟩
  have eb : (⟨(512 * b.val + s.val) / 512, by omega⟩ : Fin 6) = b := Fin.ext (by show (512 * b.val + s.val) / 512 = b.val; omega)
  have es : (⟨(512 * b.val + s.val) % 512, by omega⟩ : Fin 512) = s := Fin.ext (by show (512 * b.val + s.val) % 512 = s.val; omega)
  show rowGrad (fun e => attnGrad m c (512 * b.val + s.val) e.val) (fun e => mlpGrad m c (512 * b.val + s.val) e.val) (fun e => xn m c (512 * b.val + s.val) e.val)
    (fun e => arrGattn m c (ix2 0 e)) (fun e => arrGmlp m c (ix2 0 e)) (at2 (arrTok m c) (512 * b.val + s.val) 4) (at2 (arrTok m c) (512 * b.val + s.val) 0)
    (fun e => at2 (arrDy m c) (512 * b.val + s.val) e.val) d = _
  have e1 : (fun e : Fin 4096 => arrGattn m c (ix2 0 e)) = fun e => m ((c : Thread nD τ).loc main_arg7) (ix1 e) := funext fun e => gattn_at m c e
  have e2 : (fun e : Fin 4096 => arrGmlp m c (ix2 0 e)) = fun e => m ((c : Thread nD τ).loc main_arg8) (ix1 e) := funext fun e => gmlp_at m c e
  have e3 : (fun e : Fin 4096 => at2 (arrDy m c) (512 * b.val + s.val) e.val) = fun e => m ((c : Thread nD τ).loc main_arg0) (ix3 b s e) := funext fun e => dy_at m c b s e
  rw [e1, e2, e3, rstd_at, dyScale_at]
  simp only [attnGrad_eq, mlpGrad_eq, xn_eq]
  unfold Cert.DxReferenceIdeal.DxValue.dxEntry
  dsimp only [ix2]
  simp only [eb, es]

theorem attn_eq (c : Dev nD) (j : S1x4096.Idx) : attnResult m c j = Cert.DxReferenceIdeal.DxValue.gainEntry
    (Cert.DxReferenceIdeal.DxValue.dhAttn (m ((c : Thread nD τ).loc main_arg2)) (m ((c : Thread nD τ).loc main_arg3)) (m ((c : Thread nD τ).loc main_arg12)) (m ((c : Thread nD τ).loc main_arg13))) (Cert.DxReferenceIdeal.DxValue.xh (m ((c : Thread nD τ).loc main_arg4)) (m ((c : Thread nD τ).loc main_arg5))) j := by
  obtain ⟨o, d, rfl⟩ : ∃ (o : Fin 1) (d : Fin 4096), j = ix2 o d := ⟨_, _, eq_ix2 j⟩
  show ∑ x ∈ Finset.range 3072, attnGrad m c x d.val * xn m c x d.val = _
  rw [Finset.sum_range, Tokens.sum_tokens]
  exact Finset.sum_congr rfl fun b _ => Finset.sum_congr rfl fun s _ => congrArg₂ (· * ·) (attnGrad_eq m c b s d) (xn_eq m c b s d)

theorem mlp_eq (c : Dev nD) (j : S1x4096.Idx) : mlpResult m c j = Cert.DxReferenceIdeal.DxValue.gainEntry
    (Cert.DxReferenceIdeal.DxValue.dhMlp (m ((c : Thread nD τ).loc main_arg10)) (m ((c : Thread nD τ).loc main_arg11)) (m ((c : Thread nD τ).loc main_arg14)) (m ((c : Thread nD τ).loc main_arg15))) (Cert.DxReferenceIdeal.DxValue.xh (m ((c : Thread nD τ).loc main_arg4)) (m ((c : Thread nD τ).loc main_arg5))) j := by
  obtain ⟨o, d, rfl⟩ : ∃ (o : Fin 1) (d : Fin 4096), j = ix2 o d := ⟨_, _, eq_ix2 j⟩
  show ∑ x ∈ Finset.range 3072, mlpGrad m c x d.val * xn m c x d.val = _
  rw [Finset.sum_range, Tokens.sum_tokens]
  exact Finset.sum_congr rfl fun b _ => Finset.sum_congr rfl fun s _ => congrArg₂ (· * ·) (mlpGrad_eq m c b s d) (xn_eq m c b s d)

set_option maxHeartbeats 2000000 in
/-- The reference's run ends at the values the kernel's run ends at, and both leave their arguments as they were. -/
theorem algebraic : Cert.algebraic_DxKernelIdeal_DxReferenceIdeal := by
  intro m ρ m' ρ' _ hagree
  refine ⟨fun c => dxResult m c, fun c => attnResult m c, fun c => mlpResult m c, ?_, ?_⟩
  · refine (θ_run _ _ _).mono (fun _ h c => ⟨((h.1 c).1 11).trans (final_dx m c), ((h.1 c).1 12).trans (final_attn m c), ((h.1 c).1 13).trans (final_mlp m c),
      ?_, ?_, ?_, ?_, ?_, ?_, ?_, ?_, ?_, ?_, ?_, ?_, ?_, ?_, ?_, ?_⟩) (run m ρ)
    · exact ((h.1 c).2 main_arg0 (Pipeline.mem_restRefs_of main_arg0 (by decide) (by decide))).trans (V_main_arg0 m c)
    · exact ((h.1 c).2 main_arg1 (Pipeline.mem_restRefs_of main_arg1 (by decide) (by decide))).trans (V_main_arg1 m c)
    · exact ((h.1 c).2 main_arg2 (Pipeline.mem_restRefs_of main_arg2 (by decide) (by decide))).trans (V_main_arg2 m c)
    · exact ((h.1 c).2 main_arg3 (Pipeline.mem_restRefs_of main_arg3 (by decide) (by decide))).trans (V_main_arg3 m c)
    · exact ((h.1 c).2 main_arg4 (Pipeline.mem_restRefs_of main_arg4 (by decide) (by decide))).trans (V_main_arg4 m c)
    · exact ((h.1 c).2 main_arg5 (Pipeline.mem_restRefs_of main_arg5 (by decide) (by decide))).trans (V_main_arg5 m c)
    · exact ((h.1 c).2 main_arg6 (Pipeline.mem_restRefs_of main_arg6 (by decide) (by decide))).trans (V_main_arg6 m c)
    · exact ((h.1 c).2 main_arg7 (Pipeline.mem_restRefs_of main_arg7 (by decide) (by decide))).trans (V_main_arg7 m c)
    · exact ((h.1 c).2 main_arg8 (Pipeline.mem_restRefs_of main_arg8 (by decide) (by decide))).trans (V_main_arg8 m c)
    · exact ((h.1 c).2 main_arg9 (Pipeline.mem_restRefs_of main_arg9 (by decide) (by decide))).trans (V_main_arg9 m c)
    · exact ((h.1 c).1 1).trans (((dats m 0 c).arrAt_in 1 rfl _).trans ((A_eq m c 1).trans (V_main_arg10 m c)))
    · exact ((h.1 c).2 main_arg11 (Pipeline.mem_restRefs_of main_arg11 (by decide) (by decide))).trans (V_main_arg11 m c)
    · exact ((h.1 c).2 main_arg12 (Pipeline.mem_restRefs_of main_arg12 (by decide) (by decide))).trans (V_main_arg12 m c)
    · exact ((h.1 c).2 main_arg13 (Pipeline.mem_restRefs_of main_arg13 (by decide) (by decide))).trans (V_main_arg13 m c)
    · exact ((h.1 c).2 main_arg14 (Pipeline.mem_restRefs_of main_arg14 (by decide) (by decide))).trans (V_main_arg14 m c)
    · exact ((h.1 c).2 main_arg15 (Pipeline.mem_restRefs_of main_arg15 (by decide) (by decide))).trans (V_main_arg15 m c)
  · have e (c : Dev nD) : Cert.DxReferenceIdeal.DxValue.dxResult m' c = dxResult m c
        ∧ Cert.DxReferenceIdeal.DxValue.attnResult m' c = attnResult m c ∧ Cert.DxReferenceIdeal.DxValue.mlpResult m' c = mlpResult m c := by
      obtain ⟨h0, h1, h2, h3, h4, h5, h6, h7, h8, h9, h10, h11, h12, h13, h14, h15⟩ := hagree c
      refine ⟨funext fun j => (?_ : _ = _).trans (dx_eq m c j).symm, funext fun j => (?_ : _ = _).trans (attn_eq m c j).symm,
        funext fun j => (?_ : _ = _).trans (mlp_eq m c j).symm⟩
      · unfold Cert.DxReferenceIdeal.DxValue.dxResult Cert.DxReferenceIdeal.DxValue.hAttn Cert.DxReferenceIdeal.DxValue.hMlp Cert.DxReferenceIdeal.DxValue.xN
        rw [h0, h1, h2, h3, h4, h5, h6, h7, h8, h10, h11, h12, h13, h14, h15]
      · unfold Cert.DxReferenceIdeal.DxValue.attnResult Cert.DxReferenceIdeal.DxValue.hAttn Cert.DxReferenceIdeal.DxValue.xN
        rw [h2, h3, h4, h5, h12, h13]
      · unfold Cert.DxReferenceIdeal.DxValue.mlpResult Cert.DxReferenceIdeal.DxValue.hMlp Cert.DxReferenceIdeal.DxValue.xN
        rw [h4, h5, h10, h11, h14, h15]
    open Cert.DxReferenceIdeal.Gen in
    refine (θ_run _ _ _).mono (fun _ h c => ⟨((h c).1 15).trans ((Cert.DxReferenceIdeal.DxValue.final_dx m' c).trans (e c).1),
      ((h c).1 16).trans ((Cert.DxReferenceIdeal.DxValue.final_attn m' c).trans (e c).2.1),
      ((h c).1 17).trans ((Cert.DxReferenceIdeal.DxValue.final_mlp m' c).trans (e c).2.2),
      ?_, ?_, ?_, ?_, ?_, ?_, ?_, ?_, ?_, ?_, ?_, ?_, ?_, ?_, ?_, ?_⟩) (Cert.DxReferenceIdeal.Gen.run_main m' ρ')
    · exact ((h c).1 0).trans ((Cert.DxReferenceIdeal.Gen.dats m' 0 c).arrAt_in 0 rfl _)
    · exact ((h c).1 1).trans ((Cert.DxReferenceIdeal.Gen.dats m' 0 c).arrAt_in 1 rfl _)
    · exact ((h c).1 2).trans ((Cert.DxReferenceIdeal.Gen.dats m' 0 c).arrAt_in 2 rfl _)
    · exact ((h c).1 3).trans ((Cert.DxReferenceIdeal.Gen.dats m' 0 c).arrAt_in 3 rfl _)
    · exact ((h c).1 4).trans ((Cert.DxReferenceIdeal.Gen.dats m' 0 c).arrAt_in 4 rfl _)
    · exact ((h c).1 5).trans ((Cert.DxReferenceIdeal.Gen.dats m' 0 c).arrAt_in 5 rfl _)
    · exact ((h c).1 6).trans ((Cert.DxReferenceIdeal.Gen.dats m' 0 c).arrAt_in 6 rfl _)
    · exact ((h c).1 7).trans ((Cert.DxReferenceIdeal.Gen.dats m' 0 c).arrAt_in 7 rfl _)
    · exact ((h c).1 8).trans ((Cert.DxReferenceIdeal.Gen.dats m' 0 c).arrAt_in 8 rfl _)
    · exact ((h c).2 Cert.DxReferenceIdeal.main_arg9 (Pipeline.mem_restRefs_of Cert.DxReferenceIdeal.main_arg9 (by decide) (by decide))).trans (Cert.DxReferenceIdeal.Gen.V_main_arg9 m' c)
    · exact ((h c).1 9).trans ((Cert.DxReferenceIdeal.Gen.dats m' 0 c).arrAt_in 9 rfl _)
    · exact ((h c).1 10).trans ((Cert.DxReferenceIdeal.Gen.dats m' 0 c).arrAt_in 10 rfl _)
    · exact ((h c).1 11).trans ((Cert.DxReferenceIdeal.Gen.dats m' 0 c).arrAt_in 11 rfl _)
    · exact ((h c).1 12).trans ((Cert.DxReferenceIdeal.Gen.dats m' 0 c).arrAt_in 12 rfl _)
    · exact ((h c).1 13).trans ((Cert.DxReferenceIdeal.Gen.dats m' 0 c).arrAt_in 13 rfl _)
    · exact ((h c).1 14).trans ((Cert.DxReferenceIdeal.Gen.dats m' 0 c).arrAt_in 14 rfl _)

end Cert.DxKernelIdeal.DxValue

end
-- ==== Proof.DaBody.lean ====
/-
  da: what one grid step of the body does, at any float values. Step (t, f) computes block f of da of row block t and its running maximum, for t < 6, and
  quantises block f of da of row block t - 1, for t > 0.
-/
module

public import proofs.«01_k».proof.Proof.Gen.DaKernelIdeal.Frame
public import proofs.«01_k».proof.Proof.Gen.DaKernelIdeal.Points
public import proofs.«01_k».proof.Proof.Gen.DaKernelIdeal.Skeleton
public import Idealize.ShloMosaic.Lib.WritesUnit
public import Idealize.ShloMosaic.Lib.VecWindow
public import Idealize.ShloMosaic.Lib.Pointwise.Index
public import Idealize.ShloMosaic.Lib.Pipeline.ValueKit.Basic
public import Idealize.ShloMosaic.Lib.Tactic.Stretches

@[expose] public section

set_option maxRecDepth 16384

noncomputable section

namespace Cert.DaKernelIdeal.DaBody

open Cert.DaKernelIdeal Cert.DaKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A load of a whole rank-2 buffer reads its contents. -/
theorem ld_z {Val : EltTy → Type} {e : EltTy} {d : Fin 2 → ℕ} (X : (⟨2, d⟩ : Shape).Idx → Val e) (inb : ∀ a, (![0, 0] : Fin 2 → ℕ) a + d a ≤ d a) :
    View.ld X (Rect.unit (s := ⟨2, d⟩) ![0, 0] d inb) = X :=
  View.ld_unit_lit inb X (Fin.forall_fin_two.2 ⟨rfl, rfl⟩)

/-- A buffer whose last store is whole holds that store's value, and so does a load of it. -/
theorem rw_z {Val : EltTy → Type} {κ : Kind} {sp : Space} {e : EltTy} {d : Fin 2 → ℕ} (v : View sig κ sp ⟨2, d⟩ e) (f : v.ty.Contents Val)
    (inb : ∀ a, (![0, 0] : Fin 2 → ℕ) a + d a ≤ d a) (w : (⟨2, d⟩ : Shape).Idx → Val e) (L : List (View.Piece Val ⟨2, d⟩ e)) :
    v.read Val (v.writes Val f (⟨Rect.unit (s := ⟨2, d⟩) ![0, 0] d inb, w⟩ :: L)) = w :=
  View.read_writes_full v f inb w L
theorem cov_z {Val : EltTy → Type} [∀ e, Nonempty (Val e)] {κ : Kind} {sp : Space} {e : EltTy} {d : Fin 2 → ℕ} (v : View sig κ sp ⟨2, d⟩ e)
    (inb : ∀ a, (![0, 0] : Fin 2 → ℕ) a + d a ≤ d a) (w : (⟨2, d⟩ : Shape).Idx → Val e) (L : List (View.Piece Val ⟨2, d⟩ e)) :
    v.readCov (⟨Rect.unit (s := ⟨2, d⟩) ![0, 0] d inb, w⟩ :: L) (Rect.unit (s := ⟨2, d⟩) ![0, 0] d inb).toLoadRect = w :=
  View.readCov_full v inb inb w L

/-! ## The branch conditions -/

/-- The step takes up the maximum of the row block before. -/
abbrev turn (i : grid0.Coords) : Prop := k0_cond1 i = 1#1
/-- The step starts a row block. -/
abbrev opens (i : grid0.Coords) : Prop :=
  Scalar.cmpi .ne (Scalar.extui (Scalar.andi (Scalar.cmpi .eq (BitVec.ofNat 32 (i 1).val) 0#32) (Scalar.cmpi .slt (BitVec.ofNat 32 (i 0).val) 6#32))) 0#32 = 1#1
/-- The step computes a whole block, or the last shorter one, and quantises nothing. -/
abbrev onlyMul (i : grid0.Coords) : Prop := k0_cond3 i = 1#1
abbrev onlyMulTail (i : grid0.Coords) : Prop := k0_cond4 i = 1#1
/-- The step does both. -/
abbrev both (i : grid0.Coords) : Prop := k0_cond5 i = 1#1
abbrev bothTail (i : grid0.Coords) : Prop := k0_cond6 i = 1#1
/-- The step quantises a whole block, or the last shorter one, and computes nothing. -/
abbrev onlyQuant (i : grid0.Coords) : Prop := k0_cond7 i = 1#1
abbrev onlyQuantTail (i : grid0.Coords) : Prop := k0_cond8 i = 1#1

/-- The nine kinds of step. -/
def Kinds (i : grid0.Coords) : Prop :=
  (¬ turn i ∧ opens i ∧ onlyMul i ∧ ¬ onlyMulTail i ∧ ¬ both i ∧ ¬ bothTail i ∧ ¬ onlyQuant i ∧ ¬ onlyQuantTail i)
  ∨ (¬ turn i ∧ ¬ opens i ∧ onlyMul i ∧ ¬ onlyMulTail i ∧ ¬ both i ∧ ¬ bothTail i ∧ ¬ onlyQuant i ∧ ¬ onlyQuantTail i)
  ∨ (¬ turn i ∧ ¬ opens i ∧ ¬ onlyMul i ∧ onlyMulTail i ∧ ¬ both i ∧ ¬ bothTail i ∧ ¬ onlyQuant i ∧ ¬ onlyQuantTail i)
  ∨ (turn i ∧ opens i ∧ ¬ onlyMul i ∧ ¬ onlyMulTail i ∧ both i ∧ ¬ bothTail i ∧ ¬ onlyQuant i ∧ ¬ onlyQuantTail i)
  ∨ (¬ turn i ∧ ¬ opens i ∧ ¬ onlyMul i ∧ ¬ onlyMulTail i ∧ both i ∧ ¬ bothTail i ∧ ¬ onlyQuant i ∧ ¬ onlyQuantTail i)
  ∨ (¬ turn i ∧ ¬ opens i ∧ ¬ onlyMul i ∧ ¬ onlyMulTail i ∧ ¬ both i ∧ bothTail i ∧ ¬ onlyQuant i ∧ ¬ onlyQuantTail i)
  ∨ (turn i ∧ ¬ opens i ∧ ¬ onlyMul i ∧ ¬ onlyMulTail i ∧ ¬ both i ∧ ¬ bothTail i ∧ onlyQuant i ∧ ¬ onlyQuantTail i)
  ∨ (¬ turn i ∧ ¬ opens i ∧ ¬ onlyMul i ∧ ¬ onlyMulTail i ∧ ¬ both i ∧ ¬ bothTail i ∧ onlyQuant i ∧ ¬ onlyQuantTail i)
  ∨ (¬ turn i ∧ ¬ opens i ∧ ¬ onlyMul i ∧ ¬ onlyMulTail i ∧ ¬ both i ∧ ¬ bothTail i ∧ ¬ onlyQuant i ∧ onlyQuantTail i)

/-! ## What a step leaves -/

/-- The 256 columns of da of chunk j of a block. -/
def dchunk (L : Vec F S512x4096 .bf16) (x1 : Vec F S512x5 .f32) (w : Vec F S256x4096 .fp8e4m3) (a : Vec F S512x256 .fp8e4m3) : Vec F S512x256 .f32 :=
  k0_pay13 (k0_pay7 L w (View.ld x1 (Rect.unit (s := S512x5) ![0, 0] S512x1.size inb_S512x5_S512x1_0_0)))
    (k0_pay8 a (View.ld x1 (Rect.unit (s := S512x5) ![0, 1] S512x1.size inb_S512x5_S512x1_0_1)))
    (k0_pay10 a (View.ld x1 (Rect.unit (s := S512x5) ![0, 1] S512x1.size inb_S512x5_S512x1_0_1)))
    (k0_pay11 a (View.ld x1 (Rect.unit (s := S512x5) ![0, 1] S512x1.size inb_S512x5_S512x1_0_1)))
    (k0_pay12 a (View.ld x1 (Rect.unit (s := S512x5) ![0, 1] S512x1.size inb_S512x5_S512x1_0_1)))

theorem wrows_inb (j : Fin 4) : ∀ a, (![256 * j.val, 0] : Fin 2 → ℕ) a + S256x4096.size a ≤ S1024x4096.size a := by revert j; decide
theorem acols_inb (j : Fin 4) : ∀ a, (![0, 256 * j.val] : Fin 2 → ℕ) a + S512x256.size a ≤ S512x1024.size a := by revert j; decide

/-- Rows of the weight block, and columns of the activation block, of chunk j. -/
abbrev wrows (x4 : Vec F S1024x4096 .fp8e4m3) (j : Fin 4) : Vec F S256x4096 .fp8e4m3 := View.ld x4 (Rect.unit (s := S1024x4096) ![256 * j.val, 0] S256x4096.size (wrows_inb j))
abbrev acols (x3 : Vec F S512x1024 .fp8e4m3) (j : Fin 4) : Vec F S512x256 .fp8e4m3 := View.ld x3 (Rect.unit (s := S512x1024) ![0, 256 * j.val] S512x256.size (acols_inb j))

/-- Chunk j of da of the step. -/
def dpart (L : Vec F S512x4096 .bf16) (x1 : Vec F S512x5 .f32) (x3 : Vec F S512x1024 .fp8e4m3) (x4 : Vec F S1024x4096 .fp8e4m3) (j : Fin 4) : Vec F S512x256 .f32 :=
  dchunk L x1 (wrows x4 j) (acols x3 j)

/-- The same as it is stored. -/
def dsaved (L : Vec F S512x4096 .bf16) (x1 : Vec F S512x5 .f32) (x3 : Vec F S512x1024 .fp8e4m3) (x4 : Vec F S1024x4096 .fp8e4m3) (j : Fin 4) : Vec F S512x256 .f32 :=
  shapeCast S512x256 (dpart L x1 x3 x4 j) shapeCasts_S512x256_S512x256

/-- The running maximum after a chunk. -/
def dmax (d : Vec F S512x256 .f32) (A : Vec F S512x128 .f32) : Vec F S512x128 .f32 :=
  shapeCast S512x128 (maximumf A (maximumf (extractStridedSlice S512x128 ![0, 0] (absf d) slices_S512x256_o0_0_S512x128)
    (extractStridedSlice S512x128 ![0, 128] (absf d) slices_S512x256_o0_128_S512x128))) shapeCasts_S512x128_S512x128

/-- The running maximum after n chunks. -/
def dmaxes (d : Fin 4 → Vec F S512x256 .f32) (A : Vec F S512x128 .f32) : (n : ℕ) → n ≤ 4 → Vec F S512x128 .f32
  | 0, _ => A
  | n + 1, h => dmax (d ⟨n, h⟩) (dmaxes d A n (Nat.le_of_succ_le h))

theorem off_lt (i : grid0.Coords) (j : Fin 4) (x : Fin 256) : 1024 * (i 1).val + 256 * j.val + x.val < 11264 := by
  have h : (i 1).val < 11 := (i 1).isLt
  omega

/-- Columns of the buffer of da of chunk j of the step's block. -/
def dcols (i : grid0.Coords) (D : Vec F S512x11264 .f32) (j : Fin 4) : Vec F S512x256 .f32 := fun x =>
  D (ix2 (x 0) ⟨1024 * (i 1).val + 256 * j.val + (x 1).val, off_lt i j (x 1)⟩)

/-- The left factor after the step. -/
def LNext (i : grid0.Coords) (x0 : Vec F S512x4096 .fp8e5m2) (x2 : Vec F S1x4096 .f32) (L : Vec F S512x4096 .bf16) : Vec F S512x4096 .bf16 :=
  if opens i then k0_pay100 x0 x2 else L

/-- The buffer of da with n chunks of the step's block stored. -/
def dstore (i : grid0.Coords) (n : ℕ) (d : Fin 4 → Vec F S512x256 .f32) (D : Vec F S512x11264 .f32) (hn : n ≤ 4) : Vec F S512x11264 .f32 := fun y =>
  if h : 1024 * (i 1).val ≤ (y 1).val ∧ (y 1).val < 1024 * (i 1).val + 256 * n then
    d ⟨((y 1).val - 1024 * (i 1).val) / 256, by omega⟩ (ix2 (y 0) ⟨(y 1).val % 256, Nat.mod_lt _ (by omega)⟩)
  else D y

/-- The buffer of codes with n chunks stored. -/
def ostore (n : ℕ) (q : Fin 4 → Vec F S512x256 .fp8e5m2) (o : Vec F S512x1024 .fp8e5m2) (hn : n ≤ 4) : Vec F S512x1024 .fp8e5m2 := fun y =>
  if h : (y 1).val < 256 * n then
    q ⟨(y 1).val / 256, by omega⟩ (ix2 (y 0) ⟨(y 1).val % 256, Nat.mod_lt _ (by omega)⟩)
  else o y

def DNext (i : grid0.Coords) (d : Fin 4 → Vec F S512x256 .f32) (D : Vec F S512x11264 .f32) : Vec F S512x11264 .f32 :=
  if onlyMul i ∨ both i then dstore i 4 d D (by omega) else if onlyMulTail i ∨ bothTail i then dstore i 3 d D (by omega) else D

/-- The running maximum after the step. -/
def ANext (i : grid0.Coords) (d : Fin 4 → Vec F S512x256 .f32) (A : Vec F S512x128 .f32) : Vec F S512x128 .f32 :=
  if onlyMul i ∨ both i then dmaxes d (if opens i then k0_pay101 else A) 4 (by omega)
  else if onlyMulTail i ∨ bothTail i then dmaxes d A 3 (by omega) else A

/-- The inverse scale and the scale after the step. -/
def INext (i : grid0.Coords) (A I : Vec F S512x128 .f32) : Vec F S512x128 .f32 := if turn i then k0_pay99 (k0_pay6 A) else I
def ScNext (i : grid0.Coords) (A : Vec F S512x128 .f32) (s : Vec F S512x1 .f32) : Vec F S512x1 .f32 := if turn i then k0_pay5 A else s

/-- The codes after the step. -/
def ONext (i : grid0.Coords) (q : Fin 4 → Vec F S512x256 .fp8e5m2) (o : Vec F S512x1024 .fp8e5m2) : Vec F S512x1024 .fp8e5m2 :=
  if both i ∨ onlyQuant i then ostore 4 q o (by omega) else if bothTail i ∨ onlyQuantTail i then ostore 3 q o (by omega) else o

/-! ## Stores by chunks -/

/-- The offsets of the chunks. -/
theorem off1_eq (i : grid0.Coords) (j : Fin 4) : k0_off1 i (BitVec.ofNat 32 (256 * j.val)) = ![0, 1024 * (i 1).val + 256 * j.val] := by revert i j; decide +kernel
theorem off2_eq (i : grid0.Coords) (j : Fin 4) : k0_off2 i (BitVec.ofNat 32 (256 * j.val)) = ![0, 1024 * (i 1).val + 256 * j.val] := off1_eq i j
theorem off3_eq (i : grid0.Coords) (j : Fin 4) : k0_off3 i (BitVec.ofNat 32 (256 * j.val)) = ![0, 1024 * (i 1).val + 256 * j.val] := off1_eq i j
theorem off4_eq (i : grid0.Coords) (j : Fin 4) : k0_off4 i (BitVec.ofNat 32 (256 * j.val)) = ![0, 1024 * (i 1).val + 256 * j.val] := off1_eq i j
theorem off5_eq (i : grid0.Coords) (j : Fin 4) : k0_off5 i (BitVec.ofNat 32 (256 * j.val)) = ![0, 1024 * (i 1).val + 256 * j.val] := off1_eq i j
theorem off6_eq (i : grid0.Coords) (j : Fin 4) : k0_off6 i (BitVec.ofNat 32 (256 * j.val)) = ![0, 1024 * (i 1).val + 256 * j.val] := off1_eq i j

/-- Chunks stored one after another into the buffer of da. -/
theorem read_dstore (i : grid0.Coords) (v : View sig .tc .vmem S512x11264 .f32) (f : v.ty.Contents (Elt F)) {n : ℕ} (hn : n ≤ 4)
    (off : Fin n → Fin 2 → ℕ) (inb : ∀ j a, off j a + S512x256.size a ≤ S512x11264.size a) (ho : ∀ j, off j = ![0, 1024 * (i 1).val + 256 * j.val])
    (d : Fin 4 → Vec F S512x256 .f32) :
    v.read (Elt F) (v.writes (Elt F) f (View.tilePieces S512x256.size off inb (fun j => d ⟨j.val, j.isLt.trans_le hn⟩) n le_rfl)) = dstore i n d (v.read (Elt F) f) hn := by
  funext y
  unfold dstore
  split
  · rename_i h
    refine View.read_tilePieces v f S512x256.size off inb _ n le_rfl y ⟨((y 1).val - 1024 * (i 1).val) / 256, by omega⟩ (by show _ / _ < n; omega)
      (ix2 (y 0) ⟨(y 1).val % 256, Nat.mod_lt _ (by omega)⟩) (fun a => ?_) 1 (fun j hj => ?_)
    · rw [ho]; revert a
      refine Fin.forall_fin_two.2 ⟨(Nat.zero_add _).symm, ?_⟩
      show (y 1).val = (1024 * (i 1).val + 256 * (((y 1).val - 1024 * (i 1).val) / 256)) + (y 1).val % 256
      omega
    · rw [ho]
      have hj' : j.val ≠ ((y 1).val - 1024 * (i 1).val) / 256 := fun e => hj (Fin.ext e)
      show (y 1).val < 1024 * (i 1).val + 256 * j.val ∨ 1024 * (i 1).val + 256 * j.val + 256 ≤ (y 1).val
      omega
  · rename_i h
    refine View.read_tilePieces_miss v f S512x256.size off inb _ n le_rfl y 1 (fun j hj => ?_)
    rw [ho]
    show (y 1).val < 1024 * (i 1).val + 256 * j.val ∨ 1024 * (i 1).val + 256 * j.val + 256 ≤ (y 1).val
    omega

/-- Chunks stored one after another into the buffer of codes. -/
theorem read_ostore (v : View sig .tc .vmem S512x1024 .fp8e5m2) (f : v.ty.Contents (Elt F)) {n : ℕ} (hn : n ≤ 4)
    (inb : ∀ (j : Fin n) a, (![0, 256 * j.val] : Fin 2 → ℕ) a + S512x256.size a ≤ S512x1024.size a)
    (q : Fin 4 → Vec F S512x256 .fp8e5m2) (P : Fin n → Vec F S512x256 .fp8e5m2) (hP : ∀ j : Fin n, P j = q ⟨j.val, j.isLt.trans_le hn⟩) :
    v.read (Elt F) (v.writes (Elt F) f (View.tilePieces S512x256.size (fun j : Fin n => ![0, 256 * j.val]) inb P n le_rfl))
      = ostore n q (v.read (Elt F) f) hn := by
  obtain rfl : P = fun j => q ⟨j.val, j.isLt.trans_le hn⟩ := funext hP
  funext y
  unfold ostore
  split
  · rename_i h
    refine View.read_tilePieces v f S512x256.size _ inb _ n le_rfl y ⟨(y 1).val / 256, by omega⟩ (by show _ / _ < n; omega)
      (ix2 (y 0) ⟨(y 1).val % 256, Nat.mod_lt _ (by omega)⟩) (fun a => ?_) 1 (fun j hj => ?_)
    · revert a
      refine Fin.forall_fin_two.2 ⟨(Nat.zero_add _).symm, ?_⟩
      show (y 1).val = 256 * ((y 1).val / 256) + (y 1).val % 256
      omega
    · have hj' : j.val ≠ (y 1).val / 256 := fun e => hj (Fin.ext e)
      show (y 1).val < 256 * j.val ∨ 256 * j.val + 256 ≤ (y 1).val
      omega
  · rename_i h
    refine View.read_tilePieces_miss v f S512x256.size _ inb _ n le_rfl y 1 (fun j hj => ?_)
    show (y 1).val < 256 * j.val ∨ 256 * j.val + 256 ≤ (y 1).val
    omega

/-- A load of chunk j of the buffer of da. -/
theorem ld_dcols (i : grid0.Coords) (D : Vec F S512x11264 .f32) (j : Fin 4) {off : Fin 2 → ℕ} (inb : ∀ a, off a + S512x256.size a ≤ S512x11264.size a)
    (ho : off = ![0, 1024 * (i 1).val + 256 * j.val]) :
    View.ld D (Rect.unit (s := S512x11264) off S512x256.size inb) = dcols i D j := by
  subst ho
  funext x
  refine congrArg D (funext fun a => ?_)
  revert a
  refine Fin.forall_fin_two.2 ⟨Fin.ext ?_, Fin.ext ?_⟩
  · show 0 + 1 * (x 0).val = (x 0).val
    omega
  · show 1024 * (i 1).val + 256 * j.val + 1 * (x 1).val = 1024 * (i 1).val + 256 * j.val + (x 1).val
    omega

/-! ## The body -/

set_option maxHeartbeats 8000000 in
/-- One step of the body: every buffer it reads is left as it was, every buffer it stores into holds what the step leaves. -/
theorem body_triple (c : Dev nD) (i : grid0.Coords) (arg2 : Memref sig .tc .vmem S512x4096 .fp8e5m2) (harg2 : arg2.IsWhole) (arg3 : Memref sig .tc .vmem S512x5 .f32) (harg3 : arg3.IsWhole) (arg4 : Memref sig .tc .vmem S1x4096 .f32) (harg4 : arg4.IsWhole) (arg5 : Memref sig .tc .vmem S512x1024 .fp8e4m3) (harg5 : arg5.IsWhole) (arg6 : Memref sig .tc .vmem S1024x4096 .fp8e4m3) (harg6 : arg6.IsWhole) (arg7 : Memref sig .tc .vmem S512x1024 .fp8e5m2) (harg7 : arg7.IsWhole) (arg8 : Memref sig .tc .vmem S512x1 .f32) (harg8 : arg8.IsWhole) (arg9 : Memref sig .tc .vmem S512x4096 .bf16) (harg9 : arg9.IsWhole) (arg10 : Memref sig .tc .vmem S512x11264 .f32) (harg10 : arg10.IsWhole) (arg11 : Memref sig .tc .vmem S512x128 .f32) (harg11 : arg11.IsWhole) (arg12 : Memref sig .tc .vmem S512x128 .f32) (harg12 : arg12.IsWhole)
    (x0 : Vec F S512x4096 .fp8e5m2) (x1 : Vec F S512x5 .f32) (x2 : Vec F S1x4096 .f32) (x3 : Vec F S512x1024 .fp8e4m3) (x4 : Vec F S1024x4096 .fp8e4m3)
    (o5 : Vec F S512x1024 .fp8e5m2) (o6 : Vec F S512x1 .f32) (L : Vec F S512x4096 .bf16) (D : Vec F S512x11264 .f32) (A I : Vec F S512x128 .f32)
    (hi : Kinds i) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare o5 ∗ owns (c : Thread nD τ) arg8 fullShare o6 ∗ owns (c : Thread nD τ) arg9 fullShare L ∗ owns (c : Thread nD τ) arg10 fullShare D ∗ owns (c : Thread nD τ) arg11 fullShare A ∗ owns (c : Thread nD τ) arg12 fullShare I
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (ONext i (fun j => k0_pay47 (dcols i D j) (INext i A I)) o5) ∗ owns (c : Thread nD τ) arg8 fullShare (ScNext i A o6) ∗ owns (c : Thread nD τ) arg9 fullShare (LNext i x0 x2 L) ∗ owns (c : Thread nD τ) arg10 fullShare (DNext i (dsaved (LNext i x0 x2 L) x1 x3 x4) D) ∗ owns (c : Thread nD τ) arg11 fullShare (ANext i (dpart (LNext i x0 x2 L) x1 x3 x4) A) ∗ owns (c : Thread nD τ) arg12 fullShare (INext i A I)) -∗ K ⟨⟩))
      ⊢ wp frame (wpE (defs₀ (F := F)) Variants.none c none) Set.univ (cc0_da i arg2 harg2 arg3 harg3 arg4 harg4 arg5 harg5 arg6 harg6 arg7 harg7 arg8 harg8 arg9 harg9 arg10 harg10 arg11 harg11 arg12 harg12) K := by
  simp only [cc0_da_eq_skeleton]; unfold cc0_da_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  subst hf2 hf3 hf4 hf5 hf6 hf7 hf8 hf9 hf10 hf11 hf12
  rcases hi with hc | hc | hc | hc | hc | hc | hc | hc | hc <;> obtain ⟨hc1, hc2, hc3, hc4, hc5, hc6, hc7, hc8⟩ := hc
  all_goals
    sl_exec (disch := first | sl_exact hc1 | sl_exact hc2 | sl_exact hc3 | sl_exact hc4 | sl_exact hc5 | sl_exact hc6 | sl_exact hc7 | sl_exact hc8)
    sl_step
    iapply Hk
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists _; isplitr
      swap; · iexact H7
      ipureintro
      sl_open_run
      try simp only [INext, ScNext, LNext, DNext, ANext, ONext, turn, opens, onlyMul, onlyMulTail, both, bothTail, onlyQuant, onlyQuantTail, hc1, hc2, hc3, hc4, hc5, hc6, hc7, hc8,
        if_true, if_false, _root_.or_true, _root_.true_or, _root_.or_false, _root_.false_or, _root_.or_self, rw_z, cov_z, View.readAt_eq_ld, ld_z]
      first
      | done
      | refine Eq.trans ?_ (read_ostore _ _ (n := 4) (by omega) (fun j => acols_inb j) _ (fun j => k0_pay47 (View.ld (arg10.view.read (Elt F) f10) (Rect.unit (s := S512x11264) (k0_off3 i (BitVec.ofNat 32 (256 * j.val))) S512x256.size (k0_off3_inb i hc5 j))) _) (fun j => congrArg (fun z => k0_pay47 z _) (ld_dcols i _ j _ (off3_eq i j))))
      | refine Eq.trans ?_ (read_ostore _ _ (n := 3) (by omega) (fun j => acols_inb (j.castLE (by omega))) _ (fun j => k0_pay47 (View.ld (arg10.view.read (Elt F) f10) (Rect.unit (s := S512x11264) (k0_off4 i (BitVec.ofNat 32 (256 * j.val))) S512x256.size (k0_off4_inb i hc6 j))) _) (fun j => congrArg (fun z => k0_pay47 z _) (ld_dcols i _ (j.castLE (by omega)) _ (off4_eq i (j.castLE (by omega))))))
      | refine Eq.trans ?_ (read_ostore _ _ (n := 4) (by omega) (fun j => acols_inb j) _ (fun j => k0_pay47 (View.ld (arg10.view.read (Elt F) f10) (Rect.unit (s := S512x11264) (k0_off5 i (BitVec.ofNat 32 (256 * j.val))) S512x256.size (k0_off5_inb i hc7 j))) _) (fun j => congrArg (fun z => k0_pay47 z _) (ld_dcols i _ j _ (off5_eq i j))))
      | refine Eq.trans ?_ (read_ostore _ _ (n := 3) (by omega) (fun j => acols_inb (j.castLE (by omega))) _ (fun j => k0_pay47 (View.ld (arg10.view.read (Elt F) f10) (Rect.unit (s := S512x11264) (k0_off6 i (BitVec.ofNat 32 (256 * j.val))) S512x256.size (k0_off6_inb i hc8 j))) _) (fun j => congrArg (fun z => k0_pay47 z _) (ld_dcols i _ (j.castLE (by omega)) _ (off6_eq i (j.castLE (by omega))))))
      | skip
      all_goals
        simp only [View.tilePieces]
        sl_open_pay
        rfl
    isplitl [H8]
    · iexists _; isplitr
      swap; · iexact H8
      ipureintro
      sl_open_run
      try simp only [INext, ScNext, LNext, DNext, ANext, ONext, turn, opens, onlyMul, onlyMulTail, both, bothTail, onlyQuant, onlyQuantTail, hc1, hc2, hc3, hc4, hc5, hc6, hc7, hc8,
        if_true, if_false, _root_.or_true, _root_.true_or, _root_.or_false, _root_.false_or, _root_.or_self, rw_z, cov_z, View.readAt_eq_ld, ld_z]
      try done
    isplitl [H9]
    · iexists _; isplitr
      swap; · iexact H9
      ipureintro
      sl_open_run
      try simp only [INext, ScNext, LNext, DNext, ANext, ONext, turn, opens, onlyMul, onlyMulTail, both, bothTail, onlyQuant, onlyQuantTail, hc1, hc2, hc3, hc4, hc5, hc6, hc7, hc8,
        if_true, if_false, _root_.or_true, _root_.true_or, _root_.or_false, _root_.false_or, _root_.or_self, rw_z, cov_z, View.readAt_eq_ld, ld_z]
      try done
    isplitl [H10]
    · iexists _; isplitr
      swap; · iexact H10
      ipureintro
      sl_open_run
      try simp only [INext, ScNext, LNext, DNext, ANext, ONext, turn, opens, onlyMul, onlyMulTail, both, bothTail, onlyQuant, onlyQuantTail, hc1, hc2, hc3, hc4, hc5, hc6, hc7, hc8,
        if_true, if_false, _root_.or_true, _root_.true_or, _root_.or_false, _root_.false_or, _root_.or_self, rw_z, cov_z, View.readAt_eq_ld, ld_z]
      first
      | done
      | refine Eq.trans ?_ (read_dstore i _ _ (n := 4) (by omega) (fun j => k0_off1 i (BitVec.ofNat 32 (256 * j.val))) (fun j => k0_off1_inb i hc3 j) (off1_eq i) _)
      | refine Eq.trans ?_ (read_dstore i _ _ (n := 3) (by omega) (fun j => k0_off2 i (BitVec.ofNat 32 (256 * j.val))) (fun j => k0_off2_inb i hc4 j) (fun j => off2_eq i (j.castLE (by omega))) _)
      | refine Eq.trans ?_ (read_dstore i _ _ (n := 4) (by omega) (fun j => k0_off3 i (BitVec.ofNat 32 (256 * j.val))) (fun j => k0_off3_inb i hc5 j) (off3_eq i) _)
      | refine Eq.trans ?_ (read_dstore i _ _ (n := 3) (by omega) (fun j => k0_off4 i (BitVec.ofNat 32 (256 * j.val))) (fun j => k0_off4_inb i hc6 j) (fun j => off4_eq i (j.castLE (by omega))) _)
      | skip
      all_goals
        simp only [View.tilePieces, dsaved, dpart, dchunk]
        sl_open_pay
        rfl
    isplitl [H11]
    · iexists _; isplitr
      swap; · iexact H11
      ipureintro
      sl_open_run
      try simp only [INext, ScNext, LNext, DNext, ANext, ONext, turn, opens, onlyMul, onlyMulTail, both, bothTail, onlyQuant, onlyQuantTail, hc1, hc2, hc3, hc4, hc5, hc6, hc7, hc8,
        if_true, if_false, _root_.or_true, _root_.true_or, _root_.or_false, _root_.false_or, _root_.or_self, rw_z, cov_z, View.readAt_eq_ld, ld_z]
      all_goals
        simp only [dmaxes, dmax, dpart, dchunk]
        sl_open_pay
        rfl
    · iexists _; isplitr
      swap; · iexact H12
      ipureintro
      sl_open_run
      try simp only [INext, ScNext, LNext, DNext, ANext, ONext, turn, opens, onlyMul, onlyMulTail, both, bothTail, onlyQuant, onlyQuantTail, hc1, hc2, hc3, hc4, hc5, hc6, hc7, hc8,
        if_true, if_false, _root_.or_true, _root_.true_or, _root_.or_false, _root_.false_or, _root_.or_self, rw_z, cov_z, View.readAt_eq_ld, ld_z]
      try done

end Cert.DaKernelIdeal.DaBody

end
-- ==== Proof.DaRun.lean ====
/-
  da: one run of the kernel, at any float values: it ends, with its arguments as they were. What the buffers hold between steps is left open here; what one step
  leaves in them is DaBody's.
-/
module

public import proofs.«01_k».proof.Proof.DaBody
public import Idealize.ShloMosaic.Lib.Pipeline.DatRel
public import Idealize.ShloMosaic.Lib.Pipeline.ArrRel
public import Idealize.ShloMosaic.Lib.Claim

@[expose] public section

set_option maxRecDepth 16384

noncomputable section

namespace Cert.DaKernelIdeal.DaRun

open Cert.DaKernelIdeal Cert.DaKernelIdeal.Gen Cert.DaKernelIdeal.DaBody
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligationRel)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option synthInstance.maxSize 4096 in
set_option synthInstance.maxHeartbeats 400000 in
/-- Every grid step is one of the nine kinds. -/
theorem kinds : ∀ t : Fin cfg0.N, Kinds (grid0.coords t) := by unfold Kinds; decide +kernel

/-! ## The proof data -/

/-- Window w's staging buffer at point t: its block where the block lies in the array, d elsewhere. -/
abbrev filled (c : Dev nD) (w : Fin cfg0.W) (t : Fin cfg0.N) (d : (cfg0.win w).block.Idx → Elt F (cfg0.win w).elt) :
    (cfg0.win w).block.Idx → Elt F (cfg0.win w).elt :=
  (cfg0.win w).fill (cfg0.grid.coords t) d (iblk m c w t)

/-- The proof data: the arrays as the call finds them; the input buffers keep their blocks. -/
def dat (c : Dev nD) : Dat τ (Elt F) Unit ℕ (UR sig nD τ) ℕ cfg0 c where
  A w := V m c (Pipeline.arrRef spec0 w)
  after w t := filled m c w t fun _ => Classical.arbitrary _
  Φ _ := Pipeline.ΦA spec0 c
  q _ := fullShare
  owed _ := 0

theorem A_eq (c : Dev nD) (w : Fin cfg0.W) : (dat m c).A w = V m c (Pipeline.arrRef spec0 w) := by dsimp only [dat]

/-- The two results' windows are described by a relation. -/
def marked : Fin cfg0.W → Bool := fun | 5 => true | 6 => true | _ => false

/-- The relation: anything. -/
def left (w : Fin cfg0.W) (t : Fin cfg0.N) : ((cfg0.win w).block.Idx → Elt F (cfg0.win w).elt) → Prop := fun _ => True

/-- A cut of a block depends on the block's place only. -/
theorem clip_congr (w : Fin cfg0.W) (hw : (cfg0.win w).isOut = false) : ∀ t t' : Fin cfg0.N, (cfg0.win w).index t = (cfg0.win w).index t' →
    (cfg0.win w).clip (cfg0.grid.coords t) = (cfg0.win w).clip (cfg0.grid.coords t') := by
  revert w; decide +kernel

/-- An input's window is never idle. -/
theorem idle_in (w : Fin cfg0.W) (hw : (cfg0.win w).isOut = false) : ∀ i, cfg0.idle w i = false := by
  revert w; decide +kernel

/-- An input's buffer holds its block at every point, fetched there or not. -/
theorem before_eq (c : Dev nD) (w : Fin cfg0.W) (hw : (cfg0.win w).isOut = false) (t : Fin cfg0.N) (d) :
    (dat m c).before w t d = filled m c w t d := by
  rw [(dat m c).before_in_eq_fetched w hw (idle_in w hw) (clip_congr w hw)
    (fun t => (cfg0.win w).cut_fill _ _ _) t d]
  rfl

/-- Keeping its block, an input's buffer is again its block where that lies in the array. -/
theorem kept_eq (c : Dev nD) (w : Fin cfg0.W) (t : Fin cfg0.N) (d) :
    (cfg0.win w).fill (cfg0.grid.coords t) d ((cfg0.win w).cut (cfg0.grid.coords t) ((dat m c).after w t)) = filled m c w t d :=
  congrArg ((cfg0.win w).fill (cfg0.grid.coords t) d) ((cfg0.win w).cut_fill _ _ _)

/-- The left factor, da, the running maximum and the inverse scale, as the kernel's body is handed them. -/
abbrev scL0 : Memref sig .tc .vmem S512x4096 .bf16 := Memref.whole cc0_scratch0
abbrev scD0 : Memref sig .tc .vmem S512x11264 .f32 := Memref.whole cc0_scratch1
abbrev scA0 : Memref sig .tc .vmem S512x128 .f32 := Memref.whole cc0_scratch2
abbrev scI0 : Memref sig .tc .vmem S512x128 .f32 := Memref.whole cc0_scratch3

/-- What the pipeline keeps beside the windows: the four at anything, and the generator register. -/
theorem ΦA_eq (c : Dev nD) :
    (Pipeline.ΦA spec0 c : sProp 𝕄)
      = iprop(iprop((∃ d, owns (c : Thread nD τ) scL0 fullShare d) ∗ (∃ d, owns (c : Thread nD τ) scD0 fullShare d)
        ∗ (∃ d, owns (c : Thread nD τ) scA0 fullShare d) ∗ (∃ d, owns (c : Thread nD τ) scI0 fullShare d)) ∗ (∃ r, prngReg c r)) := by
  unfold Pipeline.ΦA; rw [scopedRest0_eq]; simp only [scL0, scD0, scA0, scI0, owns_whole]; try rfl

/-! ## The body's obligation -/

/-- The body as the pipeline calls it at point t. -/
theorem defs₀_row (t : Fin cfg0.N) : defs₀ (F := F) .tc cfg0.body (cfg0.bodyArgs t (cfg0.slots t)) = bodyAt0 t := by
  unfold defs₀; rw [Defs.onTc_tc]

/-- One step of the pipeline. -/
theorem obligation (c : Dev nD) : BodyObligationRel (dat (F := F) m c) (defs₀ (F := F)) Variants.none () Set.univ marked left := fun t => by
  rw [bigSep_W0, bigSep_W0, defs₀_row]
  simp only [marked, before_eq m c 0 rfl, before_eq m c 1 rfl, before_eq m c 2 rfl, before_eq m c 3 rfl, before_eq m c 4 rfl]
  rw [show (dat m c).Φ t.succ = Pipeline.ΦA spec0 c from rfl, show (dat m c).Φ t.castSucc = Pipeline.ΦA spec0 c from rfl,
    show (dat m c).owesAt () t.succ = (dat m c).owesAt () t.castSucc from rfl, ΦA_eq]
  have e3 : ∀ d, (win0 3).fill (grid0.coords t) d ((win0 3).cut (grid0.coords t) ((dat m c).after 3 t)) = filled m c 3 t d := kept_eq m c 3 t
  have e4 : ∀ d, (win0 4).fill (grid0.coords t) d ((win0 4).cut (grid0.coords t) ((dat m c).after 4 t)) = filled m c 4 t d := kept_eq m c 4 t
  simp only [e3, e4]
  unfold bodyAt0
  iintro ⟨⟨⟨⟨%L, HL⟩, ⟨%D, HD⟩, ⟨%A, HA⟩, ⟨%I, HI⟩⟩, Hg⟩, Ho, ⟨%d0, H0⟩, ⟨%d1, H1⟩, ⟨%d2, H2⟩, ⟨%d3, H3⟩, ⟨%d4, H4⟩, ⟨%o5, -, H5⟩, ⟨%o6, -, H6⟩⟩
  iapply (body_triple c (grid0.coords t) _ _ _ _ _ _ _ _ _ _ _ _ _ _ _ _ _ _ _ _ _ _ (filled m c 0 t d0) (filled m c 1 t d1) (filled m c 2 t d2)
    (filled m c 3 t d3) (filled m c 4 t d4) o5 o6 L D A I (kinds t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HL]; · iexact HL
  isplitl [HD]; · iexact HD
  isplitl [HA]; · iexact HA
  isplitl [HI]; · iexact HI
  iintro ⟨H0, H1, H2, H3, H4, H5, H6, HL, HD, HA, HI⟩
  isplitl [HL HD HA HI Hg]
  · isplitl [HL HD HA HI]
    · isplitl [HL]; · iexists _; iexact HL
      isplitl [HD]; · iexists _; iexact HD
      isplitl [HA]; · iexists _; iexact HA
      iexists _; iexact HI
    iexact Hg
  isplitl [Ho]; · iexact Ho
  isplitl [H0]; · iexact H0
  isplitl [H1]; · iexact H1
  isplitl [H2]; · iexact H2
  isplitl [H3]; · iexists d3; iexact H3
  isplitl [H4]; · iexists d4; iexact H4
  isplitl [H5]
  · iexists _; isplitr
    swap; · iexact H5
    ipureintro
    exact trivial
  iexists _; isplitr
  swap; · iexact H6
  ipureintro
  exact trivial

/-! ## The run -/

set_option backward.isDefEq.respectTransparency.types false in
set_option maxHeartbeats 800000 in
/-- Every run ends, with every counter at zero and with every array that no window stages as the call found it. -/
theorem run : θ_run defs (onTc (τ := τ) (main (F := F))) (s₀ m ρ)
    (fun r => RDat.FramePost cfg0 (fun c => (dat m c).toRRel marked left) (V m) r ∧ r.2.sem = fun _ => 0) :=
  Pipeline.RDat.θ_run_frame (Q' := _) cfgs (0 : Fin 1) launch0 defs₀ Variants.none (fun c => (dat m c).toRRel marked left) m ρ main
    (hbody := fun c => (obligation m c).toRRel) (hshare := fun c => (dat m c).share_full fun _ => rfl) (howed := fun _ _ => rfl)
    (V := V m) (hmain := hmain m Variants.none) (hA := A_eq m) (hΦ := fun _ _ => rfl)

/-- The frame: the arguments end as they were, and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
    ∧ r.2.sem = fun _ => 0) :=
  (θ_run defs _ _).mono (fun _ h => ⟨fun c => ⟨((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c),
    ((h.1 c).2 main_arg5 (Pipeline.mem_restRefs_of main_arg5 (by decide) (by decide))).trans (V_main_arg5 m c),
    ((h.1 c).2 main_arg6 (Pipeline.mem_restRefs_of main_arg6 (by decide) (by decide))).trans (V_main_arg6 m c),
    (cast (congrFun (RDat.ArrAt_in ((dat m c).toRRel marked left) 4 rfl cfg0.N) _) ((h.1 c).1 4)).trans (V_main_arg7 m c),
    ((h.1 c).2 main_arg8 (Pipeline.mem_restRefs_of main_arg8 (by decide) (by decide))).trans (V_main_arg8 m c)⟩, h.2⟩) (run m ρ)

end Cert.DaKernelIdeal.DaRun

end
-- ==== Proof.DaBits.lean ====
/-
  da: the kernel's run at the machine's floats. The program is the ideal one's, read at other float values.
-/
module

public import proofs.«01_k».proof.Defs
public import proofs.«01_k».proof.Proof.DaRun
public import proofs.«01_k».proof.Proof.Gen.DaKernel

@[expose] public section

set_option maxHeartbeats 4000000
set_option maxRecDepth 16384

noncomputable section

open Idealize.ShloMosaic Idealize.SL.Sem

namespace Cert.DaKernel.DaRun

/-- The two programs have one body. -/
theorem defs₀_eq : Cert.DaKernel.defs₀ (F := Bits) = Cert.DaKernelIdeal.defs₀ (F := Bits) := by
  unfold Cert.DaKernel.defs₀ Cert.DaKernelIdeal.defs₀
  refine congrArg Defs.onTc (funext fun l => funext fun a => ?_)
  match l, a with
  | 0, _ => rfl
  | ⟨n + 1, h⟩, _ => exact absurd h (Nat.not_lt.2 (Nat.le_add_left _ _))

/-- So they have one table of procedures. -/
theorem defs_eq : Cert.DaKernel.defs (F := Bits) = Cert.DaKernelIdeal.defs (F := Bits) :=
  congrArg (Pipeline.defs Cert.DaKernelIdeal.pcfgs) defs₀_eq

/-- The frame at the machine's floats: the arguments end as they were, and every counter ends at zero. -/
theorem frame : Cert.quiescent_DaKernel (hDaKernel := Cert.DaKernel.Gen.facts) := fun m ρ _ => by
  have h := Cert.DaKernelIdeal.DaRun.frame (F := Bits) m ρ
  rw [← defs_eq] at h
  exact h

end Cert.DaKernel.DaRun

end
-- ==== Proof.lean ====
/-
  The certificate: every program's run leaves its arguments and ends with every counter at zero, each ideal kernel is its
  kernel without the roundings, and the results of each ideal kernel but da's are its reference's.
-/
module

public import proofs.«01_k».proof.Defs
public import proofs.«01_k».proof.Proof.Gen.QkvKernel.Frame
public import proofs.«01_k».proof.Proof.QkvEquation
public import proofs.«01_k».proof.Proof.OutBits
public import proofs.«01_k».proof.Proof.OutEquation
public import proofs.«01_k».proof.Proof.InBits
public import proofs.«01_k».proof.Proof.InEquation
public import proofs.«01_k».proof.Proof.DxBits
public import proofs.«01_k».proof.Proof.DxEquation
public import proofs.«01_k».proof.Proof.DaBits

@[expose] public section

noncomputable section

namespace Cert.Proof

open Idealize.ShloMosaic Idealize.SL.Sem

/-- Every claim of the certificate. -/
theorem claim : Cert.Claim := ⟨Cert.QkvKernel.Gen.facts, Cert.QkvKernelIdeal.Gen.facts, Cert.QkvReferenceIdeal.Gen.facts,
  Cert.OutKernel.Gen.facts, Cert.OutKernelIdeal.Gen.facts, Cert.OutReferenceIdeal.Gen.facts,
  Cert.InKernel.Gen.facts, Cert.InKernelIdeal.Gen.facts, Cert.InReferenceIdeal.Gen.facts,
  Cert.DxKernel.Gen.facts, Cert.DxKernelIdeal.Gen.facts, Cert.DxReferenceIdeal.Gen.facts,
  Cert.DaKernel.Gen.facts, Cert.DaKernelIdeal.Gen.facts,
  fun m ρ _ => Cert.QkvKernel.Gen.frame m ρ,
  fun m ρ _ => Cert.QkvKernelIdeal.Gen.frame m ρ,
  fun m ρ _ => Cert.QkvReferenceIdeal.Gen.frame m ρ,
  Cert.OutKernel.DwRun.frame,
  fun m ρ _ => Cert.OutKernelIdeal.DwRun.frame m ρ,
  fun m ρ _ => Cert.OutReferenceIdeal.Gen.frame m ρ,
  Cert.InKernel.DwRun.frame,
  fun m ρ _ => Cert.InKernelIdeal.DwRun.frame m ρ,
  fun m ρ _ => Cert.InReferenceIdeal.Gen.frame m ρ,
  Cert.DxKernel.DxRun.frame,
  fun m ρ _ => Cert.DxKernelIdeal.DxRun.frame m ρ,
  fun m ρ _ => Cert.DxReferenceIdeal.Gen.frame m ρ,
  Cert.DaKernel.DaRun.frame,
  fun m ρ _ => Cert.DaKernelIdeal.DaRun.frame m ρ,
  trivial,
  Cert.QkvKernelIdeal.DwValue.algebraic,
  trivial,
  Cert.OutKernelIdeal.DwValue.algebraic,
  trivial,
  Cert.InKernelIdeal.DwValue.algebraic,
  trivial,
  Cert.DxKernelIdeal.DxValue.algebraic,
  trivial⟩

end Cert.Proof

end
